-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_inputs [hPre_finite_inputs : Cert.Pre_finite_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_inputs [hPre_finite_inputs : Cert.Pre_finite_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_inputs [hKernel4Ideal : Cert.Kernel4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_inputs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_inputs [hReference4Ideal : Cert.Reference4Ideal.Facts] [hPre_finite_inputs : Cert.Pre_finite_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)) (v6 : (c : Dev Cert.Kernel3Ideal.nD) → Buf (Elt Ideal) ((c.tc : Thread Cert.Kernel3Ideal.nD Cert.Kernel3Ideal.τ).loc Cert.Kernel3Ideal.main_v5_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_v5_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v37) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_inputs [hKernel4Ideal : Cert.Kernel4Ideal.Facts] [hReference4Ideal : Cert.Reference4Ideal.Facts] [hPre_finite_inputs : Cert.Pre_finite_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_inputs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v86) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_inputs : Cert.Pre_finite_inputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_inputs (hKernel4Ideal := hKernel4Ideal) (hPre_finite_inputs := hPre_finite_inputs)
    ∧ quiescent_Reference4Ideal (hReference4Ideal := hReference4Ideal)
    ∧ quiescent_Reference4Ideal_pre_finite_inputs (hReference4Ideal := hReference4Ideal) (hPre_finite_inputs := hPre_finite_inputs)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_inputs (hKernel4Ideal := hKernel4Ideal) (hReference4Ideal := hReference4Ideal) (hPre_finite_inputs := hPre_finite_inputs)
-- ==== Pre_finite.lean ====
abbrev S8x4096x512 : Shape := ⟨3, ![8, 4096, 512]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .bf16) (main_arg1 : FVec F S8x4096x512 .bf16) (main_arg2 : FVec F S8x4096x512 .bf16) : IVec S_ 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x4096x512 .f32 := (extf .f32 · bitsLt_bf16_f32) main_arg1
  let main_v6 : FVec F S8x4096x512 .f32 := Host.absf main_v5
  let main_cst_0 : FVec F S_ .f32 := constant S_ .f32 0x7F800000#32
  let main_v7 : FVec F S8x4096x512 .f32 := broadcastInDim S8x4096x512 ![] bcast_S_S8x4096x512 main_cst_0
  let main_v8 : IVec S8x4096x512 1 := cmpf .olt main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  main_v10
-- ==== Pre_finite_inputs.lean ====
abbrev S8x4096x512 : Shape := ⟨3, ![8, 4096, 512]⟩
abbrev S2x512 : Shape := ⟨2, ![2, 512]⟩
abbrev S1x512 : Shape := ⟨2, ![1, 512]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8x4096x512 .bf16) (main_arg1 : FVec F S8x4096x512 .f32) (main_arg2 : FVec F S8x4096x512 .bf16) (main_arg3 : FVec F S8x4096x512 .bf16) (main_arg4 : FVec F S2x512 .f32) (main_arg5 : FVec F S1x512 .f32) : IVec S_ 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x4096x512 .f32 := (extf .f32 · bitsLt_bf16_f32) main_arg2
  let main_v6 : FVec F S8x4096x512 .f32 := Host.absf main_v5
  let main_cst_0 : FVec F S_ .f32 := constant S_ .f32 0x7F800000#32
  let main_v7 : FVec F S8x4096x512 .f32 := broadcastInDim S8x4096x512 ![] bcast_S_S8x4096x512 main_cst_0
  let main_v8 : IVec S8x4096x512 1 := cmpf .olt main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  let main_v11 : FVec F S2x512 .f32 := Host.absf main_arg4
  let main_cst_2 : FVec F S_ .f32 := constant S_ .f32 0x7F800000#32
  let main_v12 : FVec F S2x512 .f32 := broadcastInDim S2x512 ![] bcast_S_S2x512 main_cst_2
  let main_v13 : IVec S2x512 1 := cmpf .olt main_v11 main_v12
  let main_c_3 : IVec S_ 1 := constantI S_ 1 1#1
  let main_v14 : IVec S_ 1 := (fun x v => Host.reduce IntOp.andi x v reducesTo_S2x512_S_d0_1 h_S_) main_v13 main_c_3
  let main_v15 : IVec S_ 1 := andi main_v10 main_v14
  main_v15
-- ==== Kernel.lean ====
abbrev S8x4096x512 : Shape := ⟨3, ![8, 4096, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S1x128x128 : Shape := ⟨3, ![1, 128, 128]⟩
abbrev S1x4096x128 : Shape := ⟨3, ![1, 4096, 128]⟩

abbrev nBuf : Space → Nat
  | .hbm => 15
  | .vmem => 9
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S128, .i32⟩
  | .hbm, ⟨4, _⟩ => ⟨S128x1, .i32⟩
  | .hbm, ⟨5, _⟩ => ⟨S128, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S_, .i1⟩
  | .hbm, ⟨11, _⟩ => ⟨S128x128, .i1⟩
  | .hbm, ⟨12, _⟩ => ⟨S128x256, .i1⟩
  | .hbm, ⟨13, _⟩ => ⟨S128x256, .bf16⟩
  | .hbm, ⟨14, _⟩ => ⟨S8x4096x512, .bf16⟩
  | .local _ .vmem, ⟨0, _⟩ => ⟨S1x128x128, .bf16⟩
  | .local _ .vmem, ⟨1, _⟩ => ⟨S1x128x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S128x256, .bf16⟩
  | .local _ .vmem, ⟨7, _⟩ => ⟨S1x128x128, .bf16⟩
  | .local _ .vmem, ⟨8, _⟩ => ⟨S1x128x128, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 32], ![false, false, false]⟩

def k0_mult1 (i : grid0.Coords) : BitVec 32 :=
  let arg2 : BitVec 32 := BitVec.ofNat 32 (i 2).val
  let c128_i32 : BitVec 32 := 128#32
  let v16 : BitVec 32 := Scalar.muli arg2 c128_i32
  v16
def k0_off1 (i : grid0.Coords) : Fin 3 → Nat :=
  let c0_5 : Index := 0#32
  let arg2 : BitVec 32 := BitVec.ofNat 32 (i 2).val
  let c128_i32 : BitVec 32 := 128#32
  let v16 : BitVec 32 := Scalar.muli arg2 c128_i32
  let v17 : BitVec 32 := v16
  let v18 : Index := Scalar.indexCast v17
  let c0_6 : Index := 0#32
  ![0, v18.toNat, 0]
@[reducible] def k0_t1_loop (i : grid0.Coords) : Scf.Loop 32 :=
  let c1_i32_16 : BitVec 32 := 1#32
  let arg2 : BitVec 32 := BitVec.ofNat 32 (i 2).val
  let c1_i32 : BitVec 32 := 1#32
  let v49 : BitVec 32 := Scalar.addi arg2 c1_i32
  let v50 : BitVec 32 := Scalar.subi v49 c1_i32_16
  let c1_i32_17 : BitVec 32 := 1#32
  let v52 : BitVec 32 := Scalar.divsi v50 c1_i32_17
  let v53 : BitVec 32 := Scalar.muli v52 c1_i32_17
  let v54 : BitVec 32 := Scalar.addi c1_i32_16 v53
  let c1_i32_18 : BitVec 32 := 1#32
  ⟨c1_i32_16, v54, c1_i32_18⟩
def k0_mult2 (i : grid0.Coords) (k0_t1 : Fin (k0_t1_loop i).trips) : BitVec 32 :=
  let arg2 : BitVec 32 := BitVec.ofNat 32 (i 2).val
  let c1_i32_16 : BitVec 32 := 1#32
  let c1_i32_18 : BitVec 32 := 1#32
  let arg8 : BitVec 32 := Scf.iv c1_i32_16 c1_i32_18 k0_t1
  let v111 : BitVec 32 := Scalar.subi arg2 arg8
  let c128_i32_44 : BitVec 32 := 128#32
  let v112 : BitVec 32 := Scalar.muli v111 c128_i32_44
  v112
def k0_off2 (i : grid0.Coords) (k0_t1 : Fin (k0_t1_loop i).trips) : Fin 3 → Nat :=
  let c0_45 : Index := 0#32
  let arg2 : BitVec 32 := BitVec.ofNat 32 (i 2).val
  let c1_i32_16 : BitVec 32 := 1#32
  let c1_i32_18 : BitVec 32 := 1#32
  let arg8 : BitVec 32 := Scf.iv c1_i32_16 c1_i32_18 k0_t1
  let v111 : BitVec 32 := Scalar.subi arg2 arg8
  let c128_i32_44 : BitVec 32 := 128#32
  let v112 : BitVec 32 := Scalar.muli v111 c128_i32_44
  let v113 : BitVec 32 := v112
  let v114 : Index := Scalar.indexCast v113
  let c0_46 : Index := 0#32
  ![0, v114.toNat, 0]
@[reducible] def k0_t2_loop (i : grid0.Coords) : Scf.Loop 32 :=
  let c1_i32_16 : BitVec 32 := 1#32
  let arg2 : BitVec 32 := BitVec.ofNat 32 (i 2).val
  let c1_i32 : BitVec 32 := 1#32
  let v49 : BitVec 32 := Scalar.addi arg2 c1_i32
  let v50 : BitVec 32 := Scalar.subi v49 c1_i32_16
  let c1_i32_17 : BitVec 32 := 1#32
  let v52 : BitVec 32 := Scalar.divsi v50 c1_i32_17
  let v53 : BitVec 32 := Scalar.muli v52 c1_i32_17
  let v54 : BitVec 32 := Scalar.addi c1_i32_16 v53
  let v51 : BitVec 32 := Scalar.addi c1_i32_16 v50
  let c1_i32_19 : BitVec 32 := 1#32
  ⟨v54, v51, c1_i32_19⟩
def k0_mult3 (i : grid0.Coords) (k0_t2 : Fin (k0_t2_loop i).trips) : BitVec 32 :=
  let arg2 : BitVec 32 := BitVec.ofNat 32 (i 2).val
  let c1_i32_16 : BitVec 32 := 1#32
  let c1_i32 : BitVec 32 := 1#32
  let v49 : BitVec 32 := Scalar.addi arg2 c1_i32
  let v50 : BitVec 32 := Scalar.subi v49 c1_i32_16
  let c1_i32_17 : BitVec 32 := 1#32
  let v52 : BitVec 32 := Scalar.divsi v50 c1_i32_17
  let v53 : BitVec 32 := Scalar.muli v52 c1_i32_17
  let v54 : BitVec 32 := Scalar.addi c1_i32_16 v53
  let c1_i32_19 : BitVec 32 := 1#32
  let arg8 : BitVec 32 := Scf.iv v54 c1_i32_19 k0_t2
  let v111 : BitVec 32 := Scalar.subi arg2 arg8
  let c128_i32_44 : BitVec 32 := 128#32
  let v112 : BitVec 32 := Scalar.muli v111 c128_i32_44
  v112
def k0_off3 (i : grid0.Coords) (k0_t2 : Fin (k0_t2_loop i).trips) : Fin 3 → Nat :=
  let c0_45 : Index := 0#32
  let arg2 : BitVec 32 := BitVec.ofNat 32 (i 2).val
  let c1_i32_16 : BitVec 32 := 1#32
  let c1_i32 : BitVec 32 := 1#32
  let v49 : BitVec 32 := Scalar.addi arg2 c1_i32
  let v50 : BitVec 32 := Scalar.subi v49 c1_i32_16
  let c1_i32_17 : BitVec 32 := 1#32
  let v52 : BitVec 32 := Scalar.divsi v50 c1_i32_17
  let v53 : BitVec 32 := Scalar.muli v52 c1_i32_17
  let v54 : BitVec 32 := Scalar.addi c1_i32_16 v53
  let c1_i32_19 : BitVec 32 := 1#32
  let arg8 : BitVec 32 := Scf.iv v54 c1_i32_19 k0_t2
  let v111 : BitVec 32 := Scalar.subi arg2 arg8
  let c128_i32_44 : BitVec 32 := 128#32
  let v112 : BitVec 32 := Scalar.muli v111 c128_i32_44
  let v113 : BitVec 32 := v112
  let v114 : Index := Scalar.indexCast v113
  let c0_46 : Index := 0#32
  ![0, v114.toNat, 0]
def k0_mult4 (i : grid0.Coords) : BitVec 32 :=
  let arg2 : BitVec 32 := BitVec.ofNat 32 (i 2).val
  let c128_i32_24 : BitVec 32 := 128#32
  let v65 : BitVec 32 := Scalar.muli arg2 c128_i32_24
  v65
@[reducible] def k0_t3_loop (i : grid0.Coords) : Scf.Loop 32 :=
  let c1_i32_37 : BitVec 32 := 1#32
  let arg2 : BitVec 32 := BitVec.ofNat 32 (i 2).val
  let c1_i32_36 : BitVec 32 := 1#32
  let v98 : BitVec 32 := Scalar.addi arg2 c1_i32_36
  let v99 : BitVec 32 := Scalar.subi v98 c1_i32_37
  let c1_i32_38 : BitVec 32 := 1#32
  let v101 : BitVec 32 := Scalar.divsi v99 c1_i32_38
  let v102 : BitVec 32 := Scalar.muli v101 c1_i32_38
  let v103 : BitVec 32 := Scalar.addi c1_i32_37 v102
  let c1_i32_39 : BitVec 32 := 1#32
  ⟨c1_i32_37, v103, c1_i32_39⟩
def k0_mult5 (i : grid0.Coords) (k0_t3 : Fin (k0_t3_loop i).trips) : BitVec 32 :=
  let arg2 : BitVec 32 := BitVec.ofNat 32 (i 2).val
  let c1_i32_37 : BitVec 32 := 1#32
  let c1_i32_39 : BitVec 32 := 1#32
  let arg8 : BitVec 32 := Scf.iv c1_i32_37 c1_i32_39 k0_t3
  let v111 : BitVec 32 := Scalar.subi arg2 arg8
  let c128_i32_44 : BitVec 32 := 128#32
  let v112 : BitVec 32 := Scalar.muli v111 c128_i32_44
  v112
def k0_off4 (i : grid0.Coords) (k0_t3 : Fin (k0_t3_loop i).trips) : Fin 3 → Nat :=
  let c0_45 : Index := 0#32
  let arg2 : BitVec 32 := BitVec.ofNat 32 (i 2).val
  let c1_i32_37 : BitVec 32 := 1#32
  let c1_i32_39 : BitVec 32 := 1#32
  let arg8 : BitVec 32 := Scf.iv c1_i32_37 c1_i32_39 k0_t3
  let v111 : BitVec 32 := Scalar.subi arg2 arg8
  let c128_i32_44 : BitVec 32 := 128#32
  let v112 : BitVec 32 := Scalar.muli v111 c128_i32_44
  let v113 : BitVec 32 := v112
  let v114 : Index := Scalar.indexCast v113
  let c0_46 : Index := 0#32
  ![0, v114.toNat, 0]
@[reducible] def k0_t4_loop (i : grid0.Coords) : Scf.Loop 32 :=
  let c1_i32_37 : BitVec 32 := 1#32
  let arg2 : BitVec 32 := BitVec.ofNat 32 (i 2).val
  let c1_i32_36 : BitVec 32 := 1#32
  let v98 : BitVec 32 := Scalar.addi arg2 c1_i32_36
  let v99 : BitVec 32 := Scalar.subi v98 c1_i32_37
  let c1_i32_38 : BitVec 32 := 1#32
  let v101 : BitVec 32 := Scalar.divsi v99 c1_i32_38
  let v102 : BitVec 32 := Scalar.muli v101 c1_i32_38
  let v103 : BitVec 32 := Scalar.addi c1_i32_37 v102
  let v100 : BitVec 32 := Scalar.addi c1_i32_37 v99
  let c1_i32_40 : BitVec 32 := 1#32
  ⟨v103, v100, c1_i32_40⟩
def k0_mult6 (i : grid0.Coords) (k0_t4 : Fin (k0_t4_loop i).trips) : BitVec 32 :=
  let arg2 : BitVec 32 := BitVec.ofNat 32 (i 2).val
  let c1_i32_37 : BitVec 32 := 1#32
  let c1_i32_36 : BitVec 32 := 1#32
  let v98 : BitVec 32 := Scalar.addi arg2 c1_i32_36
  let v99 : BitVec 32 := Scalar.subi v98 c1_i32_37
  let c1_i32_38 : BitVec 32 := 1#32
  let v101 : BitVec 32 := Scalar.divsi v99 c1_i32_38
  let v102 : BitVec 32 := Scalar.muli v101 c1_i32_38
  let v103 : BitVec 32 := Scalar.addi c1_i32_37 v102
  let c1_i32_40 : BitVec 32 := 1#32
  let arg8 : BitVec 32 := Scf.iv v103 c1_i32_40 k0_t4
  let v111 : BitVec 32 := Scalar.subi arg2 arg8
  let c128_i32_44 : BitVec 32 := 128#32
  let v112 : BitVec 32 := Scalar.muli v111 c128_i32_44
  v112
def k0_off5 (i : grid0.Coords) (k0_t4 : Fin (k0_t4_loop i).trips) : Fin 3 → Nat :=
  let c0_45 : Index := 0#32
  let arg2 : BitVec 32 := BitVec.ofNat 32 (i 2).val
  let c1_i32_37 : BitVec 32 := 1#32
  let c1_i32_36 : BitVec 32 := 1#32
  let v98 : BitVec 32 := Scalar.addi arg2 c1_i32_36
  let v99 : BitVec 32 := Scalar.subi v98 c1_i32_37
  let c1_i32_38 : BitVec 32 := 1#32
  let v101 : BitVec 32 := Scalar.divsi v99 c1_i32_38
  let v102 : BitVec 32 := Scalar.muli v101 c1_i32_38
  let v103 : BitVec 32 := Scalar.addi c1_i32_37 v102
  let c1_i32_40 : BitVec 32 := 1#32
  let arg8 : BitVec 32 := Scf.iv v103 c1_i32_40 k0_t4
  let v111 : BitVec 32 := Scalar.subi arg2 arg8
  let c128_i32_44 : BitVec 32 := 128#32
  let v112 : BitVec 32 := Scalar.muli v111 c128_i32_44
  let v113 : BitVec 32 := v112
  let v114 : Index := Scalar.indexCast v113
  let c0_46 : Index := 0#32
  ![0, v114.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4096x512 : Shape := ⟨3, ![8, 4096, 512]⟩
abbrev S8x4096x8x64 : Shape := ⟨4, ![8, 4096, 8, 64]⟩
abbrev S8x8x4096x4096 : Shape := ⟨4, ![8, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x8x64x4096 : Shape := ⟨4, ![8, 8, 64, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .f32⟩
  | .hbm, ⟨4, _⟩ => ⟨S8x4096x8x64, .f32⟩
  | .hbm, ⟨5, _⟩ => ⟨S8x4096x512, .f32⟩
  | .hbm, ⟨6, _⟩ => ⟨S8x4096x8x64, .f32⟩
  | .hbm, ⟨7, _⟩ => ⟨S8x4096x512, .f32⟩
  | .hbm, ⟨8, _⟩ => ⟨S8x4096x8x64, .f32⟩
  | .hbm, ⟨9, _⟩ => ⟨S8x8x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S8x8x4096x4096, .f32⟩
  | .hbm, ⟨19, _⟩ => ⟨S8x8x4096x4096, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .i1⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S_, .f32⟩
  | .hbm, ⟨33, _⟩ => ⟨S_, .f32⟩
  | .hbm, ⟨34, _⟩ => ⟨S8x8x4096x4096, .i1⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .f32⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .i1⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S_, .f32⟩
  | .hbm, ⟨60, _⟩ => ⟨S_, .f32⟩
  | .hbm, ⟨61, _⟩ => ⟨S8x8x4096x4096, .i1⟩
  | .hbm, ⟨62, _⟩ => ⟨S8x8x4096x4096, .f32⟩
  | .hbm, ⟨63, _⟩ => ⟨S8x8x4096x4096, .f32⟩
  | .hbm, ⟨64, _⟩ => ⟨S8x8x64x4096, .f32⟩
  | .hbm, ⟨65, _⟩ => ⟨S8x4096x8x64, .f32⟩
  | .hbm, ⟨66, _⟩ => ⟨S8x4096x512, .f32⟩
  | .hbm, ⟨67, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_call2_cst : Ref sig .tc := ⟨.hbm, 37, rfl⟩
abbrev main_call2_v0 : Ref sig .tc := ⟨.hbm, 38, rfl⟩
abbrev main_v17 : Ref sig .tc := ⟨.hbm, 39, rfl⟩
abbrev main_v18 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_0 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S1x8x4096x256 : Shape := ⟨4, ![1, 8, 4096, 256]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S32768x1024 : Shape := ⟨2, ![32768, 1024]⟩
abbrev S1024x5632 : Shape := ⟨2, ![1024, 5632]⟩
abbrev S32768x512 : Shape := ⟨2, ![32768, 512]⟩
abbrev S8x4096x256 : Shape := ⟨3, ![8, 4096, 256]⟩
abbrev S32768x256 : Shape := ⟨2, ![32768, 256]⟩
abbrev S512 : Shape := ⟨1, ![512]⟩
abbrev S1024 : Shape := ⟨1, ![1024]⟩
abbrev S1024x1024 : Shape := ⟨2, ![1024, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S2816x1024 : Shape := ⟨2, ![2816, 1024]⟩
abbrev S11x256x1024 : Shape := ⟨3, ![11, 256, 1024]⟩
abbrev S256x1024 : Shape := ⟨2, ![256, 1024]⟩
abbrev S512x1024 : Shape := ⟨2, ![512, 1024]⟩
abbrev S512x512 : Shape := ⟨2, ![512, 512]⟩
abbrev S512x256 : Shape := ⟨2, ![512, 256]⟩
abbrev S11x512x256 : Shape := ⟨3, ![11, 512, 256]⟩
abbrev S512x1 : Shape := ⟨2, ![512, 1]⟩
abbrev S1x1024x256 : Shape := ⟨3, ![1, 1024, 256]⟩
abbrev S1024x256 : Shape := ⟨2, ![1024, 256]⟩
abbrev S1x512x256 : Shape := ⟨3, ![1, 512, 256]⟩

abbrev nBuf : Space → Nat
  | .hbm => 44
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x8x4096x256, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x1024, .f32⟩
  | .hbm, ⟨11, _⟩ => ⟨S1x256x1024, .f32⟩
  | .hbm, ⟨12, _⟩ => ⟨S1x1024x1024, .f32⟩
  | .hbm, ⟨13, _⟩ => ⟨S32768x1024, .f32⟩
  | .hbm, ⟨14, _⟩ => ⟨S1024x5632, .f32⟩
  | .hbm, ⟨15, _⟩ => ⟨S1024x5632, .bf16⟩
  | .hbm, ⟨16, _⟩ => ⟨S32768x512, .bf16⟩
  | .hbm, ⟨17, _⟩ => ⟨S32768x512, .bf16⟩
  | .hbm, ⟨18, _⟩ => ⟨S8x4096x256, .f32⟩
  | .hbm, ⟨19, _⟩ => ⟨S32768x256, .f32⟩
  | .hbm, ⟨20, _⟩ => ⟨S512, .f32⟩
  | .hbm, ⟨21, _⟩ => ⟨S1x512, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S1024x2816, .bf16⟩
  | .hbm, ⟨31, _⟩ => ⟨S1024x11x256, .bf16⟩
  | .hbm, ⟨32, _⟩ => ⟨S11x1024x256, .bf16⟩
  | .hbm, ⟨33, _⟩ => ⟨S1024x2816, .bf16⟩
  | .hbm, ⟨34, _⟩ => ⟨S1024x11x256, .bf16⟩
  | .hbm, ⟨35, _⟩ => ⟨S11x1024x256, .bf16⟩
  | .hbm, ⟨36, _⟩ => ⟨S2816x1024, .f32⟩
  | .hbm, ⟨37, _⟩ => ⟨S2816x1024, .bf16⟩
  | .hbm, ⟨38, _⟩ => ⟨S11x256x1024, .bf16⟩
  | .hbm, ⟨39, _⟩ => ⟨S256x1024, .f32⟩
  | .hbm, ⟨40, _⟩ => ⟨S256x1024, .bf16⟩
  | .hbm, ⟨41, _⟩ => ⟨S1024x1024, .f32⟩
  | .hbm, ⟨42, _⟩ => ⟨S1024x1024, .bf16⟩
  | .hbm, ⟨43, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S11x1024x256, .bf16⟩
  | .local _ .vmem, ⟨14, _⟩ => ⟨S11x1024x256, .bf16⟩
  | .local _ .vmem, ⟨15, _⟩ => ⟨S11x256x1024, .bf16⟩
  | .local _ .vmem, ⟨16, _⟩ => ⟨S256x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S11x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v59 : BitVec 32 := Scalar.addi c0_i32 c11_i32
  let c1_i32 : BitVec 32 := 1#32
  ⟨c0_i32, v59, c1_i32⟩
def k0_off1 (k0_t1 : Fin k0_t1_loop.trips) : Fin 3 → Nat :=
  let c0_i32 : BitVec 32 := 0#32
  let c1_i32 : BitVec 32 := 1#32
  let arg18 : BitVec 32 := Scf.iv c0_i32 c1_i32 k0_t1
  let v93 : Index := Scalar.indexCast arg18
  let c0_47 : Index := 0#32
  let c0_48 : Index := 0#32
  ![v93.toNat, 0, 0]
def k0_off2 (k0_t1 : Fin k0_t1_loop.trips) : Fin 3 → Nat :=
  let c0_i32 : BitVec 32 := 0#32
  let c1_i32 : BitVec 32 := 1#32
  let arg18 : BitVec 32 := Scf.iv c0_i32 c1_i32 k0_t1
  let v105 : Index := Scalar.indexCast arg18
  let c0_53 : Index := 0#32
  let c0_54 : Index := 0#32
  ![v105.toNat, 0, 0]
@[reducible] def k0_t2_loop : Scf.Loop 32 :=
  let c0_i32_26 : BitVec 32 := 0#32
  let c11_i32_27 : BitVec 32 := 11#32
  let v61 : BitVec 32 := Scalar.addi c0_i32_26 c11_i32_27
  let c1_i32_28 : BitVec 32 := 1#32
  ⟨c0_i32_26, v61, c1_i32_28⟩
def k0_off3 (k0_t2 : Fin k0_t2_loop.trips) : Fin 3 → Nat :=
  let c0_i32_26 : BitVec 32 := 0#32
  let c1_i32_28 : BitVec 32 := 1#32
  let arg18 : BitVec 32 := Scf.iv c0_i32_26 c1_i32_28 k0_t2
  let v92 : Index := Scalar.indexCast arg18
  let c0_45 : Index := 0#32
  let c0_46 : Index := 0#32
  ![v92.toNat, 0, 0]
def k0_off4 (k0_t2 : Fin k0_t2_loop.trips) : Fin 3 → Nat :=
  let c0_i32_26 : BitVec 32 := 0#32
  let c1_i32_28 : BitVec 32 := 1#32
  let arg18 : BitVec 32 := Scf.iv c0_i32_26 c1_i32_28 k0_t2
  let v95 : Index := Scalar.indexCast arg18
  let c0_47 : Index := 0#32
  let c0_48 : Index := 0#32
  ![v95.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x4096x1024 : Shape := ⟨3, ![8, 4096, 1024]⟩
abbrev S8x4096x512 : Shape := ⟨3, ![8, 4096, 512]⟩
abbrev S1x8x4096x256 : Shape := ⟨4, ![1, 8, 4096, 256]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S2816x1024 : Shape := ⟨2, ![2816, 1024]⟩
abbrev S8x4096x256 : Shape := ⟨3, ![8, 4096, 256]⟩
abbrev S256x1024 : Shape := ⟨2, ![256, 1024]⟩
abbrev S32768x1024 : Shape := ⟨2, ![32768, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x8x4096x256, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x1024, .f32⟩
  | .hbm, ⟨11, _⟩ => ⟨S1x256x1024, .f32⟩
  | .hbm, ⟨12, _⟩ => ⟨S1x1024x1024, .f32⟩
  | .hbm, ⟨13, _⟩ => ⟨S8x4096x512, .f32⟩
  | .hbm, ⟨14, _⟩ => ⟨S8x4096x512, .f32⟩
  | .hbm, ⟨15, _⟩ => ⟨S512, .f32⟩
  | .hbm, ⟨16, _⟩ => ⟨S8x4096x512, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x512, .f32⟩
  | .hbm, ⟨28, _⟩ => ⟨S8x4096x512, .f32⟩
  | .hbm, ⟨29, _⟩ => ⟨S1x1x512, .f32⟩
  | .hbm, ⟨30, _⟩ => ⟨S8x4096x512, .f32⟩
  | .hbm, ⟨31, _⟩ => ⟨S8x4096x512, .f32⟩
  | .hbm, ⟨32, _⟩ => ⟨S8x4096x1024, .f32⟩
  | .hbm, ⟨33, _⟩ => ⟨S1024x1024, .f32⟩
  | .hbm, ⟨34, _⟩ => ⟨S8x4096x1024, .f32⟩
  | .hbm, ⟨35, _⟩ => ⟨S1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S1024x5632, .f32⟩
  | .hbm, ⟨71, _⟩ => ⟨S8x4096x5632, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S2816x1024, .f32⟩
  | .hbm, ⟨85, _⟩ => ⟨S8x4096x1024, .f32⟩
  | .hbm, ⟨86, _⟩ => ⟨S1024, .f32⟩
  | .hbm, ⟨87, _⟩ => ⟨S8x4096x1024, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S8x4096x1, .f32⟩
  | .hbm, ⟨98, _⟩ => ⟨S8x4096x1024, .f32⟩
  | .hbm, ⟨99, _⟩ => ⟨S8x4096x1024, .f32⟩
  | .hbm, ⟨100, _⟩ => ⟨S1x1x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x256, .f32⟩
  | .hbm, ⟨105, _⟩ => ⟨S256x1024, .f32⟩
  | .hbm, ⟨106, _⟩ => ⟨S8x4096x1024, .f32⟩
  | .hbm, ⟨107, _⟩ => ⟨S1024x1024, .f32⟩
  | .hbm, ⟨108, _⟩ => ⟨S8x4096x1024, .f32⟩
  | .hbm, ⟨109, _⟩ => ⟨S8x4096x1024, .f32⟩
  | .hbm, ⟨110, _⟩ => ⟨S8x4096x1024, .f32⟩
  | .hbm, ⟨111, _⟩ => ⟨S_, .f32⟩
  | .hbm, ⟨112, _⟩ => ⟨S8x4096x1024, .f32⟩
  | .hbm, ⟨113, _⟩ => ⟨S8x4096x1024, .f32⟩
  | .hbm, ⟨114, _⟩ => ⟨S_, .f32⟩
  | .hbm, ⟨115, _⟩ => ⟨S8x4096x1024, .f32⟩
  | .hbm, ⟨116, _⟩ => ⟨S8x4096x1024, .f32⟩
  | .hbm, ⟨117, _⟩ => ⟨S8x4096x1024, .f32⟩
  | .hbm, ⟨118, _⟩ => ⟨S8x4096x1024, .f32⟩
  | .hbm, ⟨119, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_11 : Ref sig .tc := ⟨.hbm, 111, rfl⟩
abbrev main_v78 : Ref sig .tc := ⟨.hbm, 112, rfl⟩
abbrev main_v79 : Ref sig .tc := ⟨.hbm, 113, rfl⟩
abbrev main_cst_12 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x3584 : Shape := ⟨3, ![1, 1024, 3584]⟩
abbrev S32768x1024 : Shape := ⟨2, ![32768, 1024]⟩
abbrev S1024 : Shape := ⟨1, ![1024]⟩
abbrev S1024x3584 : Shape := ⟨2, ![1024, 3584]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 15
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3584, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x3584, .f32⟩
  | .hbm, ⟨7, _⟩ => ⟨S1024x3584, .bf16⟩
  | .hbm, ⟨8, _⟩ => ⟨S32768x512, .bf16⟩
  | .hbm, ⟨9, _⟩ => ⟨S32768x512, .f32⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev main_v5_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x4096x1024 : Shape := ⟨3, ![8, 4096, 1024]⟩
abbrev S1x1024 : Shape := ⟨2, ![1, 1024]⟩
abbrev S1x1024x3584 : Shape := ⟨3, ![1, 1024, 3584]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3584 : Shape := ⟨2, ![1024, 3584]⟩
abbrev S8x4096x3584 : Shape := ⟨3, ![8, 4096, 3584]⟩
abbrev S8x4096x512 : Shape := ⟨3, ![8, 4096, 512]⟩
abbrev S32768x512 : Shape := ⟨2, ![32768, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3584, .f32⟩
  | .hbm, ⟨3, _⟩ => ⟨S1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x3584, .f32⟩
  | .hbm, ⟨21, _⟩ => ⟨S8x4096x3584, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S_, .f32⟩
  | .hbm, ⟨30, _⟩ => ⟨S8x4096x512, .f32⟩
  | .hbm, ⟨31, _⟩ => ⟨S8x4096x512, .f32⟩
  | .hbm, ⟨32, _⟩ => ⟨S32768x512, .f32⟩
  | .hbm, ⟨33, _⟩ => ⟨S32768x512, .bf16⟩
  | .hbm, ⟨34, _⟩ => ⟨S32768x512, .f32⟩
  | .hbm, ⟨35, _⟩ => ⟨S32768x512, .f32⟩
  | .hbm, ⟨36, _⟩ => ⟨S32768x512, .bf16⟩
  | .hbm, ⟨37, _⟩ => ⟨S32768x512, .f32⟩
  | .hbm, ⟨38, _⟩ => ⟨S32768x512, .bf16⟩
  | .hbm, ⟨39, _⟩ => ⟨S32768x512, .f32⟩
  | .hbm, ⟨40, _⟩ => ⟨S32768x512, .bf16⟩
  | .hbm, ⟨41, _⟩ => ⟨S32768x512, .f32⟩
  | .hbm, ⟨42, _⟩ => ⟨S32768x512, .bf16⟩
  | .hbm, ⟨43, _⟩ => ⟨S32768x512, .f32⟩
  | .hbm, ⟨44, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Kernel4.lean ====
abbrev S8x4096x512 : Shape := ⟨3, ![8, 4096, 512]⟩
abbrev S2x512 : Shape := ⟨2, ![2, 512]⟩
abbrev S1x512 : Shape := ⟨2, ![1, 512]⟩
abbrev S512 : Shape := ⟨1, ![512]⟩
abbrev S_ : Shape := ⟨0, ![]⟩
abbrev S128x128 : Shape := ⟨2, ![128, 128]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S1x128x512 : Shape := ⟨3, ![1, 128, 512]⟩
abbrev S4x128x128 : Shape := ⟨3, ![4, 128, 128]⟩
abbrev S128x2048 : Shape := ⟨2, ![128, 2048]⟩
abbrev S128x512 : Shape := ⟨2, ![128, 512]⟩
abbrev S16x128 : Shape := ⟨2, ![16, 128]⟩
abbrev S1x128x128 : Shape := ⟨3, ![1, 128, 128]⟩
abbrev S112x128 : Shape := ⟨2, ![112, 128]⟩
abbrev S32x128 : Shape := ⟨2, ![32, 128]⟩
abbrev S96x128 : Shape := ⟨2, ![96, 128]⟩
abbrev S48x128 : Shape := ⟨2, ![48, 128]⟩
abbrev S80x128 : Shape := ⟨2, ![80, 128]⟩
abbrev S64x128 : Shape := ⟨2, ![64, 128]⟩
abbrev S128x1 : Shape := ⟨2, ![128, 1]⟩

abbrev nBuf : Space → Nat
  | .hbm => 69
  | .vmem => 20
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .f32⟩
  | .hbm, ⟨2, _⟩ => ⟨S8x4096x512, .bf16⟩
  | .hbm, ⟨3, _⟩ => ⟨S8x4096x512, .bf16⟩
  | .hbm, ⟨4, _⟩ => ⟨S2x512, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S_, .f32⟩
  | .hbm, ⟨9, _⟩ => ⟨S128x128, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S2048, .i32⟩
  | .hbm, ⟨21, _⟩ => ⟨S2048x1, .i32⟩
  | .hbm, ⟨22, _⟩ => ⟨S_, .i32⟩
  | .hbm, ⟨23, _⟩ => ⟨S_, .i32⟩
  | .hbm, ⟨24, _⟩ => ⟨S2048x1, .i32⟩
  | .hbm, ⟨25, _⟩ => ⟨S2048x1, .i32⟩
  | .hbm, ⟨26, _⟩ => ⟨S2048x1, .i32⟩
  | .hbm, ⟨27, _⟩ => ⟨S_, .i32⟩
  | .hbm, ⟨28, _⟩ => ⟨S2048x1, .i32⟩
  | .hbm, ⟨29, _⟩ => ⟨S2048x1, .i1⟩
  | .hbm, ⟨30, _⟩ => ⟨S2048x1, .i32⟩
  | .hbm, ⟨31, _⟩ => ⟨S2048x1, .i32⟩
  | .hbm, ⟨32, _⟩ => ⟨S_, .i32⟩
  | .hbm, ⟨33, _⟩ => ⟨S2048x1, .i32⟩
  | .hbm, ⟨34, _⟩ => ⟨S2048x1, .i1⟩
  | .hbm, ⟨35, _⟩ => ⟨S2048x1, .i1⟩
  | .hbm, ⟨36, _⟩ => ⟨S_, .i32⟩
  | .hbm, ⟨37, _⟩ => ⟨S2048x1, .i32⟩
  | .hbm, ⟨38, _⟩ => ⟨S2048x1, .i32⟩
  | .hbm, ⟨39, _⟩ => ⟨S2048x1, .i32⟩
  | .hbm, ⟨40, _⟩ => ⟨S128, .i32⟩
  | .hbm, ⟨41, _⟩ => ⟨S1x128, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1x128, .i32⟩
  | .hbm, ⟨49, _⟩ => ⟨S1x128, .i32⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S_, .i32⟩
  | .hbm, ⟨54, _⟩ => ⟨S1x128, .i32⟩
  | .hbm, ⟨55, _⟩ => ⟨S1x128, .i1⟩
  | .hbm, ⟨56, _⟩ => ⟨S_, .i32⟩
  | .hbm, ⟨57, _⟩ => ⟨S_, .i1⟩
  | .hbm, ⟨58, _⟩ => ⟨S1x128, .i1⟩
  | .hbm, ⟨59, _⟩ => ⟨S1x128, .i1⟩
  | .hbm, ⟨60, _⟩ => ⟨S1x128, .i1⟩
  | .hbm, ⟨61, _⟩ => ⟨S1x128, .i32⟩
  | .hbm, ⟨62, _⟩ => ⟨S1x128, .i32⟩
  | .hbm, ⟨63, _⟩ => ⟨S1x128, .i32⟩
  | .hbm, ⟨64, _⟩ => ⟨S2048x128, .i32⟩
  | .hbm, ⟨65, _⟩ => ⟨S2048x128, .i32⟩
  | .hbm, ⟨66, _⟩ => ⟨S2048x128, .i1⟩
  | .hbm, ⟨67, _⟩ => ⟨S2048x128, .bf16⟩
  | .hbm, ⟨68, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .f32⟩
  | .local _ .vmem, ⟨3, _⟩ => ⟨S1x128x512, .f32⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S2x512, .f32⟩
  | .local _ .vmem, ⟨9, _⟩ => ⟨S1x512, .f32⟩
  | .local _ .vmem, ⟨10, _⟩ => ⟨S128x128, .bf16⟩
  | .local _ .vmem, ⟨11, _⟩ => ⟨S2048x128, .bf16⟩
  | .local _ .vmem, ⟨12, _⟩ => ⟨S1x128x512, .bf16⟩
  | .local _ .vmem, ⟨13, _⟩ => ⟨S1x128x512, .bf16⟩
  | .local _ .vmem, ⟨14, _⟩ => ⟨S4x128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x2048, .bf16⟩
  | .local _ .vmem, ⟨19, _⟩ => ⟨S128x512, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_c_0 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 32], ![false, false]⟩

@[reducible] def k0_t1_loop : Scf.Loop 32 :=
  let c0_i32_36 : BitVec 32 := 0#32
  let c8_i32 : BitVec 32 := 8#32
  let v93 : BitVec 32 := Scalar.addi c0_i32_36 c8_i32
  let c1_i32 : BitVec 32 := 1#32
  ⟨c0_i32_36, v93, c1_i32⟩
def k0_mult1 (k0_t1 : Fin k0_t1_loop.trips) : BitVec 32 :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  v1208
def k0_off1 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1210 : Index := Scalar.indexCast v1209
  let c0_325 : Index := 0#32
  ![v1210.toNat, 0]
def k0_off2 (k0_t1 : Fin k0_t1_loop.trips) (c0_i32_327 : BitVec 32) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1214 : BitVec 32 := Scalar.addi v1209 c0_i32_327
  let v1215 : Index := Scalar.indexCast v1214
  let c0_328 : Index := 0#32
  ![v1215.toNat, 0]
def k0_off3 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1229 : Index := Scalar.indexCast v1209
  let c0_332 : Index := 0#32
  ![v1229.toNat, 0]
def k0_off4 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1248 : Index := Scalar.indexCast v1209
  let c128_338 : Index := 128#32
  ![v1248.toNat, 128]
def k0_off5 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1267 : Index := Scalar.indexCast v1209
  let c256_343 : Index := 256#32
  ![v1267.toNat, 256]
def k0_off6 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1286 : Index := Scalar.indexCast v1209
  let c384_348 : Index := 384#32
  ![v1286.toNat, 384]
def k0_off7 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1305 : Index := Scalar.indexCast v1209
  let c512 : Index := 512#32
  ![v1305.toNat, 512]
def k0_off8 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1324 : Index := Scalar.indexCast v1209
  let c640 : Index := 640#32
  ![v1324.toNat, 640]
def k0_off9 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1343 : Index := Scalar.indexCast v1209
  let c768 : Index := 768#32
  ![v1343.toNat, 768]
def k0_off10 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1362 : Index := Scalar.indexCast v1209
  let c896 : Index := 896#32
  ![v1362.toNat, 896]
def k0_off11 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1381 : Index := Scalar.indexCast v1209
  let c1024 : Index := 1024#32
  ![v1381.toNat, 1024]
def k0_off12 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1400 : Index := Scalar.indexCast v1209
  let c1152 : Index := 1152#32
  ![v1400.toNat, 1152]
def k0_off13 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1419 : Index := Scalar.indexCast v1209
  let c1280 : Index := 1280#32
  ![v1419.toNat, 1280]
def k0_off14 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1438 : Index := Scalar.indexCast v1209
  let c1408 : Index := 1408#32
  ![v1438.toNat, 1408]
def k0_off15 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1457 : Index := Scalar.indexCast v1209
  let c1536 : Index := 1536#32
  ![v1457.toNat, 1536]
def k0_off16 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1476 : Index := Scalar.indexCast v1209
  let c1664 : Index := 1664#32
  ![v1476.toNat, 1664]
def k0_off17 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1495 : Index := Scalar.indexCast v1209
  let c1792 : Index := 1792#32
  ![v1495.toNat, 1792]
def k0_off18 (k0_t1 : Fin k0_t1_loop.trips) : Fin 2 → Nat :=
  let c0_i32_36 : BitVec 32 := 0#32
  let c1_i32 : BitVec 32 := 1#32
  let arg17 : BitVec 32 := Scf.iv c0_i32_36 c1_i32 k0_t1
  let c16_i32_324 : BitVec 32 := 16#32
  let v1208 : BitVec 32 := Scalar.muli arg17 c16_i32_324
  let v1209 : BitVec 32 := v1208
  let v1514 : Index := Scalar.indexCast v1209
  let c1920 : Index := 1920#32
  ![v1514.toNat, 1920]
@[reducible] def k0_t2_loop : Scf.Loop 32 :=
  let c0_i32_105 : BitVec 32 := 0#32
  let c8_i32_106 : BitVec 32 := 8#32
  let v384 : BitVec 32 := Scalar.addi c0_i32_105 c8_i32_106
  let c1_i32_107 : BitVec 32 := 1#32
  ⟨c0_i32_105, v384, c1_i32_107⟩
def k0_mult2 (k0_t2 : Fin k0_t2_loop.trips) : BitVec 32 :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  v1208
def k0_off19 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1210 : Index := Scalar.indexCast v1209
  let c0_325 : Index := 0#32
  ![v1210.toNat, 0]
def k0_off20 (k0_t2 : Fin k0_t2_loop.trips) (c0_i32_327 : BitVec 32) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1214 : BitVec 32 := Scalar.addi v1209 c0_i32_327
  let v1215 : Index := Scalar.indexCast v1214
  let c0_328 : Index := 0#32
  ![v1215.toNat, 0]
def k0_off21 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1229 : Index := Scalar.indexCast v1209
  let c0_332 : Index := 0#32
  ![v1229.toNat, 0]
def k0_off22 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1248 : Index := Scalar.indexCast v1209
  let c128_338 : Index := 128#32
  ![v1248.toNat, 128]
def k0_off23 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1267 : Index := Scalar.indexCast v1209
  let c256_343 : Index := 256#32
  ![v1267.toNat, 256]
def k0_off24 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1286 : Index := Scalar.indexCast v1209
  let c384_348 : Index := 384#32
  ![v1286.toNat, 384]
def k0_off25 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1305 : Index := Scalar.indexCast v1209
  let c512 : Index := 512#32
  ![v1305.toNat, 512]
def k0_off26 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1324 : Index := Scalar.indexCast v1209
  let c640 : Index := 640#32
  ![v1324.toNat, 640]
def k0_off27 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1343 : Index := Scalar.indexCast v1209
  let c768 : Index := 768#32
  ![v1343.toNat, 768]
def k0_off28 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1362 : Index := Scalar.indexCast v1209
  let c896 : Index := 896#32
  ![v1362.toNat, 896]
def k0_off29 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1381 : Index := Scalar.indexCast v1209
  let c1024 : Index := 1024#32
  ![v1381.toNat, 1024]
def k0_off30 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1400 : Index := Scalar.indexCast v1209
  let c1152 : Index := 1152#32
  ![v1400.toNat, 1152]
def k0_off31 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1419 : Index := Scalar.indexCast v1209
  let c1280 : Index := 1280#32
  ![v1419.toNat, 1280]
def k0_off32 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1438 : Index := Scalar.indexCast v1209
  let c1408 : Index := 1408#32
  ![v1438.toNat, 1408]
def k0_off33 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1457 : Index := Scalar.indexCast v1209
  let c1536 : Index := 1536#32
  ![v1457.toNat, 1536]
def k0_off34 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1476 : Index := Scalar.indexCast v1209
  let c1664 : Index := 1664#32
  ![v1476.toNat, 1664]
def k0_off35 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1495 : Index := Scalar.indexCast v1209
  let c1792 : Index := 1792#32
  ![v1495.toNat, 1792]
def k0_off36 (k0_t2 : Fin k0_t2_loop.trips) : Fin 2 → Nat :=
  let c0_i32_105 : BitVec 32 := 0#32
  let c1_i32_107 : BitVec 32 := 1#32
  let arg17 : BitVec 32 := Scf.iv c0_i32_105 c1_i32_107 k0_t2
  let c16_i32_324 : BitVec 32 := 16#32
  let v1208 : BitVec 32 := Scalar.muli arg17 c16_i32_324
  let v1209 : BitVec 32 := v1208
  let v1514 : Index := Scalar.indexCast v1209
  let c1920 : Index := 1920#32
  ![v1514.toNat, 1920]
@[reducible] def k0_t3_loop : Scf.Loop 32 :=
  let c0_i32_183 : BitVec 32 := 0#32
  let c8_i32_184 : BitVec 32 := 8#32
  let v675 : BitVec 32 := Scalar.addi c0_i32_183 c8_i32_184
  let c1_i32_185 : BitVec 32 := 1#32
  ⟨c0_i32_183, v675, c1_i32_185⟩
def k0_mult3 (k0_t3 : Fin k0_t3_loop.trips) : BitVec 32 :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  v1208
def k0_off37 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1210 : Index := Scalar.indexCast v1209
  let c0_325 : Index := 0#32
  ![v1210.toNat, 0]
def k0_off38 (k0_t3 : Fin k0_t3_loop.trips) (c0_i32_327 : BitVec 32) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1214 : BitVec 32 := Scalar.addi v1209 c0_i32_327
  let v1215 : Index := Scalar.indexCast v1214
  let c0_328 : Index := 0#32
  ![v1215.toNat, 0]
def k0_off39 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1229 : Index := Scalar.indexCast v1209
  let c0_332 : Index := 0#32
  ![v1229.toNat, 0]
def k0_off40 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1248 : Index := Scalar.indexCast v1209
  let c128_338 : Index := 128#32
  ![v1248.toNat, 128]
def k0_off41 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1267 : Index := Scalar.indexCast v1209
  let c256_343 : Index := 256#32
  ![v1267.toNat, 256]
def k0_off42 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1286 : Index := Scalar.indexCast v1209
  let c384_348 : Index := 384#32
  ![v1286.toNat, 384]
def k0_off43 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1305 : Index := Scalar.indexCast v1209
  let c512 : Index := 512#32
  ![v1305.toNat, 512]
def k0_off44 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1324 : Index := Scalar.indexCast v1209
  let c640 : Index := 640#32
  ![v1324.toNat, 640]
def k0_off45 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1343 : Index := Scalar.indexCast v1209
  let c768 : Index := 768#32
  ![v1343.toNat, 768]
def k0_off46 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1362 : Index := Scalar.indexCast v1209
  let c896 : Index := 896#32
  ![v1362.toNat, 896]
def k0_off47 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1381 : Index := Scalar.indexCast v1209
  let c1024 : Index := 1024#32
  ![v1381.toNat, 1024]
def k0_off48 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1400 : Index := Scalar.indexCast v1209
  let c1152 : Index := 1152#32
  ![v1400.toNat, 1152]
def k0_off49 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1419 : Index := Scalar.indexCast v1209
  let c1280 : Index := 1280#32
  ![v1419.toNat, 1280]
def k0_off50 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1438 : Index := Scalar.indexCast v1209
  let c1408 : Index := 1408#32
  ![v1438.toNat, 1408]
def k0_off51 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1457 : Index := Scalar.indexCast v1209
  let c1536 : Index := 1536#32
  ![v1457.toNat, 1536]
def k0_off52 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1476 : Index := Scalar.indexCast v1209
  let c1664 : Index := 1664#32
  ![v1476.toNat, 1664]
def k0_off53 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1495 : Index := Scalar.indexCast v1209
  let c1792 : Index := 1792#32
  ![v1495.toNat, 1792]
def k0_off54 (k0_t3 : Fin k0_t3_loop.trips) : Fin 2 → Nat :=
  let c0_i32_183 : BitVec 32 := 0#32
  let c1_i32_185 : BitVec 32 := 1#32
  let arg17 : BitVec 32 := Scf.iv c0_i32_183 c1_i32_185 k0_t3
  let c16_i32_324 : BitVec 32 := 16#32
  let v1208 : BitVec 32 := Scalar.muli arg17 c16_i32_324
  let v1209 : BitVec 32 := v1208
  let v1514 : Index := Scalar.indexCast v1209
  let c1920 : Index := 1920#32
  ![v1514.toNat, 1920]
@[reducible] def k0_t4_loop : Scf.Loop 32 :=
  let c0_i32_261 : BitVec 32 := 0#32
  let c8_i32_262 : BitVec 32 := 8#32
  let v966 : BitVec 32 := Scalar.addi c0_i32_261 c8_i32_262
  let c1_i32_263 : BitVec 32 := 1#32
  ⟨c0_i32_261, v966, c1_i32_263⟩
def k0_mult4 (k0_t4 : Fin k0_t4_loop.trips) : BitVec 32 :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  v1208
def k0_off55 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1210 : Index := Scalar.indexCast v1209
  let c0_325 : Index := 0#32
  ![v1210.toNat, 0]
def k0_off56 (k0_t4 : Fin k0_t4_loop.trips) (c0_i32_327 : BitVec 32) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1214 : BitVec 32 := Scalar.addi v1209 c0_i32_327
  let v1215 : Index := Scalar.indexCast v1214
  let c0_328 : Index := 0#32
  ![v1215.toNat, 0]
def k0_off57 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1229 : Index := Scalar.indexCast v1209
  let c0_332 : Index := 0#32
  ![v1229.toNat, 0]
def k0_off58 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1248 : Index := Scalar.indexCast v1209
  let c128_338 : Index := 128#32
  ![v1248.toNat, 128]
def k0_off59 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1267 : Index := Scalar.indexCast v1209
  let c256_343 : Index := 256#32
  ![v1267.toNat, 256]
def k0_off60 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1286 : Index := Scalar.indexCast v1209
  let c384_348 : Index := 384#32
  ![v1286.toNat, 384]
def k0_off61 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1305 : Index := Scalar.indexCast v1209
  let c512 : Index := 512#32
  ![v1305.toNat, 512]
def k0_off62 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1324 : Index := Scalar.indexCast v1209
  let c640 : Index := 640#32
  ![v1324.toNat, 640]
def k0_off63 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1343 : Index := Scalar.indexCast v1209
  let c768 : Index := 768#32
  ![v1343.toNat, 768]
def k0_off64 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1362 : Index := Scalar.indexCast v1209
  let c896 : Index := 896#32
  ![v1362.toNat, 896]
def k0_off65 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1381 : Index := Scalar.indexCast v1209
  let c1024 : Index := 1024#32
  ![v1381.toNat, 1024]
def k0_off66 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1400 : Index := Scalar.indexCast v1209
  let c1152 : Index := 1152#32
  ![v1400.toNat, 1152]
def k0_off67 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1419 : Index := Scalar.indexCast v1209
  let c1280 : Index := 1280#32
  ![v1419.toNat, 1280]
def k0_off68 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1438 : Index := Scalar.indexCast v1209
  let c1408 : Index := 1408#32
  ![v1438.toNat, 1408]
def k0_off69 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1457 : Index := Scalar.indexCast v1209
  let c1536 : Index := 1536#32
  ![v1457.toNat, 1536]
def k0_off70 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1476 : Index := Scalar.indexCast v1209
  let c1664 : Index := 1664#32
  ![v1476.toNat, 1664]
def k0_off71 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1495 : Index := Scalar.indexCast v1209
  let c1792 : Index := 1792#32
  ![v1495.toNat, 1792]
def k0_off72 (k0_t4 : Fin k0_t4_loop.trips) : Fin 2 → Nat :=
  let c0_i32_261 : BitVec 32 := 0#32
  let c1_i32_263 : BitVec 32 := 1#32
  let arg17 : BitVec 32 := Scf.iv c0_i32_261 c1_i32_263 k0_t4
  let c16_i32_324 : BitVec 32 := 16#32
  let v1208 : BitVec 32 := Scalar.muli arg17 c16_i32_324
  let v1209 : BitVec 32 := v1208
  let v1514 : Index := Scalar.indexCast v1209
  let c1920 : Index := 1920#32
  ![v1514.toNat, 1920]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x4096x512 : Shape := ⟨3, ![8, 4096, 512]⟩
abbrev S2x512 : Shape := ⟨2, ![2, 512]⟩
abbrev S1x512 : Shape := ⟨2, ![1, 512]⟩
abbrev S_ : Shape := ⟨0, ![]⟩
abbrev S512 : Shape := ⟨1, ![512]⟩
abbrev S1x1x512 : Shape := ⟨3, ![1, 1, 512]⟩
abbrev S8x4096x4x128 : Shape := ⟨4, ![8, 4096, 4, 128]⟩
abbrev S8x4x4096x128 : Shape := ⟨4, ![8, 4, 4096, 128]⟩
abbrev S4096x4096 : Shape := ⟨2, ![4096, 4096]⟩
abbrev S8x4x4096x1x128 : Shape := ⟨5, ![8, 4, 4096, 1, 128]⟩
abbrev S8x4x1x4096x128 : Shape := ⟨5, ![8, 4, 1, 4096, 128]⟩
abbrev S8x4x4096x4096x128 : Shape := ⟨5, ![8, 4, 4096, 4096, 128]⟩
abbrev S4096x4096x1 : Shape := ⟨3, ![4096, 4096, 1]⟩
abbrev S8x4x4096x4096 : Shape := ⟨4, ![8, 4, 4096, 4096]⟩
abbrev S8x4096 : Shape := ⟨2, ![8, 4096]⟩
abbrev S8x4096x1 : Shape := ⟨3, ![8, 4096, 1]⟩

abbrev nBuf : Space → Nat
  | .hbm => 148
  | .vmem => 0
  | .smem => 0
  | _ => 0

abbrev hbmTy0_0 (i : Nat) : BufTy := match i % 128 with
  | 0 => ⟨S8x4096x512, .bf16⟩
  | 1 => ⟨S8x4096x512, .f32⟩
  | 2 => ⟨S8x4096x512, .bf16⟩
  | 3 => ⟨S8x4096x512, .bf16⟩
  | 4 => ⟨S2x512, .f32⟩
  | 5 => ⟨S1x512, .f32⟩
  | 6 => ⟨S_, .f32⟩
  | 7 => ⟨S512, .f32⟩
  | 8 => ⟨S_, .f32⟩
  | 9 => ⟨S512, .f32⟩
  | 10 => ⟨S512, .f32⟩
  | 11 => ⟨S1x512, .f32⟩
  | 12 => ⟨S2x512, .f32⟩
  | 13 => ⟨S2x512, .f32⟩
  | 14 => ⟨S2x512, .f32⟩
  | 15 => ⟨S_, .f32⟩
  | 16 => ⟨S512, .f32⟩
  | 17 => ⟨S1x512, .f32⟩
  | 18 => ⟨S2x512, .f32⟩
  | 19 => ⟨S2x512, .f32⟩
  | 20 => ⟨S_, .f32⟩
  | 21 => ⟨S_, .f32⟩
  | 22 => ⟨S2x512, .f32⟩
  | 23 => ⟨S1x512, .f32⟩
  | 24 => ⟨S512, .f32⟩
  | 25 => ⟨S8x4096x512, .f32⟩
  | 26 => ⟨S8x4096x512, .f32⟩
  | 27 => ⟨S8x4096x512, .f32⟩
  | 28 => ⟨S_, .f32⟩
  | 29 => ⟨S8x4096x512, .f32⟩
  | 30 => ⟨S8x4096x512, .f32⟩
  | 31 => ⟨S_, .f32⟩
  | 32 => ⟨S8x4096x512, .f32⟩
  | 33 => ⟨S8x4096x512, .f32⟩
  | 34 => ⟨S8x4096x512, .f32⟩
  | 35 => ⟨S512, .f32⟩
  | 36 => ⟨S512, .f32⟩
  | 37 => ⟨S512, .f32⟩
  | 38 => ⟨S8x4096x512, .f32⟩
  | 39 => ⟨S_, .f32⟩
  | 40 => ⟨S8x4096x512, .f32⟩
  | 41 => ⟨S8x4096x512, .f32⟩
  | 42 => ⟨S8x4096x512, .f32⟩
  | 43 => ⟨S8x4096x512, .f32⟩
  | 44 => ⟨S8x4096x512, .i1⟩
  | 45 => ⟨S8x4096x512, .f32⟩
  | 46 => ⟨S8x4096x512, .f32⟩
  | 47 => ⟨S8x4096x512, .f32⟩
  | 48 => ⟨S8x4096x512, .f32⟩
  | 49 => ⟨S8x4096x512, .f32⟩
  | 50 => ⟨S8x4096x512, .f32⟩
  | 51 => ⟨S8x4096x512, .f32⟩
  | 52 => ⟨S8x4096x512, .f32⟩
  | 53 => ⟨S8x4096x512, .f32⟩
  | 54 => ⟨S1x1x512, .f32⟩
  | 55 => ⟨S8x4096x512, .f32⟩
  | 56 => ⟨S8x4096x512, .f32⟩
  | 57 => ⟨S1x1x512, .f32⟩
  | 58 => ⟨S8x4096x512, .f32⟩
  | 59 => ⟨S8x4096x512, .f32⟩
  | 60 => ⟨S8x4096x512, .f32⟩
  | 61 => ⟨S8x4096x512, .f32⟩
  | 62 => ⟨S8x4096x512, .i1⟩
  | 63 => ⟨S8x4096x512, .f32⟩
  | 64 => ⟨S8x4096x512, .f32⟩
  | 65 => ⟨S8x4096x512, .f32⟩
  | 66 => ⟨S8x4096x512, .f32⟩
  | 67 => ⟨S8x4096x512, .f32⟩
  | 68 => ⟨S8x4096x512, .f32⟩
  | 69 => ⟨S8x4096x512, .f32⟩
  | 70 => ⟨S8x4096x512, .f32⟩
  | 71 => ⟨S8x4096x512, .f32⟩
  | 72 => ⟨S8x4096x512, .f32⟩
  | 73 => ⟨S8x4096x512, .f32⟩
  | 74 => ⟨S8x4096x4x128, .f32⟩
  | 75 => ⟨S8x4x4096x128, .f32⟩
  | 76 => ⟨S8x4096x4x128, .f32⟩
  | 77 => ⟨S8x4x4096x128, .f32⟩
  | 78 => ⟨S8x4096x4x128, .f32⟩
  | 79 => ⟨S8x4x4096x128, .f32⟩
  | 80 => ⟨S8x4096x4x128, .f32⟩
  | 81 => ⟨S8x4x4096x128, .f32⟩
  | 82 => ⟨S_, .f32⟩
  | 83 => ⟨S_, .f32⟩
  | 84 => ⟨S8x4x4096x128, .f32⟩
  | 85 => ⟨S_, .i1⟩
  | 86 => ⟨S4096x4096, .i1⟩
  | 87 => ⟨S4096x4096, .i32⟩
  | 88 => ⟨S_, .i32⟩
  | 89 => ⟨S4096x4096, .i32⟩
  | 90 => ⟨S4096x4096, .i32⟩
  | 91 => ⟨S4096x4096, .i32⟩
  | 92 => ⟨S4096x4096, .i1⟩
  | 93 => ⟨S_, .i1⟩
  | 94 => ⟨S4096x4096, .i1⟩
  | 95 => ⟨S4096x4096, .i1⟩
  | 96 => ⟨S8x4x4096x1x128, .f32⟩
  | 97 => ⟨S8x4x1x4096x128, .f32⟩
  | 98 => ⟨S8x4x4096x4096x128, .f32⟩
  | 99 => ⟨S8x4x4096x4096x128, .f32⟩
  | 100 => ⟨S8x4x4096x4096x128, .f32⟩
  | 101 => ⟨S4096x4096x1, .i1⟩
  | 102 => ⟨S_, .f32⟩
  | 103 => ⟨S8x4x4096x4096x128, .f32⟩
  | 104 => ⟨S8x4x4096x4096x128, .f32⟩
  | 105 => ⟨S8x4x4096x4096x128, .f32⟩
  | 106 => ⟨S_, .f32⟩
  | 107 => ⟨S_, .f32⟩
  | 108 => ⟨S8x4x4096x4096x128, .i1⟩
  | 109 => ⟨S8x4x4096x4096x128, .f32⟩
  | 110 => ⟨S8x4x4096x4096x128, .f32⟩
  | 111 => ⟨S8x4x4096x1x128, .f32⟩
  | 112 => ⟨S8x4x4096x4096x128, .f32⟩
  | 113 => ⟨S8x4x4096x4096x128, .f32⟩
  | 114 => ⟨S8x4x4096x4096, .f32⟩
  | 115 => ⟨S8x4x4096x4096, .f32⟩
  | 116 => ⟨S8x4x4096x128, .f32⟩
  | 117 => ⟨S8x4096x4x128, .f32⟩
  | 118 => ⟨S8x4096x512, .f32⟩
  | 119 => ⟨S512, .f32⟩
  | 120 => ⟨S8x4096x512, .f32⟩
  | 121 => ⟨S_, .f32⟩
  | 122 => ⟨S8x4096, .f32⟩
  | 123 => ⟨S8x4096x1, .f32⟩
  | 124 => ⟨S_, .f32⟩
  | 125 => ⟨S8x4096x1, .f32⟩
  | 126 => ⟨S8x4096x1, .f32⟩
  | 127 => ⟨S_, .f32⟩
  | _ => ⟨S8x4096x512, .bf16⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x512, .f32⟩
  | 4 => ⟨S8x4096x512, .f32⟩
  | 5 => ⟨S1x1x512, .f32⟩
  | 6 => ⟨S8x4096x512, .f32⟩
  | 7 => ⟨S8x4096x512, .f32⟩
  | 8 => ⟨S8x4096x512, .f32⟩
  | 9 => ⟨S8x4096x512, .f32⟩
  | 10 => ⟨S8x4096x512, .f32⟩
  | 11 => ⟨S_, .f32⟩
  | 12 => ⟨S8x4096x512, .f32⟩
  | 13 => ⟨S8x4096x512, .f32⟩
  | 14 => ⟨S_, .f32⟩
  | 15 => ⟨S8x4096x512, .f32⟩
  | 16 => ⟨S8x4096x512, .f32⟩
  | 17 => ⟨S8x4096x512, .f32⟩
  | 18 => ⟨S8x4096x512, .f32⟩
  | 19 => ⟨S8x4096x512, .bf16⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call2_v0 : Ref sig .tc := ⟨.hbm, 38, rfl⟩
abbrev main_call2_call0_cst : Ref sig .tc := ⟨.hbm, 39, rfl⟩
abbrev main_call2_call0_v0 : Ref sig .tc := ⟨.hbm, 40, rfl⟩
abbrev main_call2_call0_v1 : Ref sig .tc := ⟨.hbm, 41, rfl⟩
abbrev main_call2_call0_v2 : Ref sig .tc := ⟨.hbm, 42, rfl⟩
abbrev main_call2_call0_v3 : Ref sig .tc := ⟨.hbm, 43, rfl⟩
abbrev main_call2_call0_v4 : Ref sig .tc := ⟨.hbm, 44, rfl⟩
abbrev main_call2_call0_v5 : Ref sig .tc := ⟨.hbm, 45, rfl⟩
abbrev main_call2_call0_v6 : Ref sig .tc := ⟨.hbm, 46, rfl⟩
abbrev main_call2_call0_v7 : Ref sig .tc := ⟨.hbm, 47, rfl⟩
abbrev main_call2_call0_v8 : Ref sig .tc := ⟨.hbm, 48, rfl⟩
abbrev main_call2_call0_v9 : Ref sig .tc := ⟨.hbm, 49, rfl⟩
abbrev main_call2_call0_v10 : Ref sig .tc := ⟨.hbm, 50, rfl⟩
abbrev main_call2_call0_v11 : Ref sig .tc := ⟨.hbm, 51, rfl⟩
abbrev main_call2_v1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call3_call0_cst : Ref sig .tc := ⟨.hbm, 82, rfl⟩
abbrev main_call3_call0_v0 : Ref sig .tc := ⟨.hbm, 83, rfl⟩
abbrev main_v48 : Ref sig .tc := ⟨.hbm, 84, rfl⟩
abbrev main_c : Ref sig .tc := ⟨.hbm, 85, rfl⟩
abbrev main_v49 : Ref sig .tc := ⟨.hbm, 86, rfl⟩
abbrev main_call4_v0 : Ref sig .tc := ⟨.hbm, 87, rfl⟩
abbrev main_call4_c : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_c_0 : Ref sig .tc := ⟨.hbm, 93, rfl⟩
abbrev main_call4_v5 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_2 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_3 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_4 : Ref sig .tc := ⟨.hbm, 121, rfl⟩
abbrev main_v71 : Ref sig .tc := ⟨.hbm, 122, rfl⟩
abbrev main_v72 : Ref sig .tc := ⟨.hbm, 123, rfl⟩
abbrev main_cst_5 : Ref sig .tc := ⟨.hbm, 124, rfl⟩
abbrev main_v73 : Ref sig .tc := ⟨.hbm, 125, rfl⟩
abbrev main_v74 : Ref sig .tc := ⟨.hbm, 126, rfl⟩
abbrev main_cst_6 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_call6_v0 : Ref sig .tc := ⟨.hbm, 137, rfl⟩
abbrev main_call6_v1 : Ref sig .tc := ⟨.hbm, 138, rfl⟩
abbrev main_call6_cst : Ref sig .tc := ⟨.hbm, 139, rfl⟩
abbrev main_call6_v2 : Ref sig .tc := ⟨.hbm, 140, rfl⟩
abbrev main_call6_v3 : Ref sig .tc := ⟨.hbm, 141, rfl⟩
abbrev main_call6_cst_0 : Ref sig .tc := ⟨.hbm, 142, rfl⟩
abbrev main_call6_v4 : Ref sig .tc := ⟨.hbm, 143, rfl⟩
abbrev main_call6_v5 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩

abbrev nD : Nat := 1
abbrev τ : Topo := Topo.v7x

variable {F : FTy → Type} [FloatOps F]
-- ==== Proof.AttnMath.lean ====
/-
  The arithmetic of stick-breaking attention for one query row, away from any program: the real softplus, the weight of a
  key, the row's weighted sum, and how both the total of the softplus terms and the weighted sum grow by one block of keys.
-/
module

public import Idealize.ShloMosaic.Lib.Pointwise

@[expose] public section

noncomputable section

open Idealize.ShloMosaic

namespace Cert.AttnMath

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of finite values is finite: it is the real sum of the real products. -/
theorem sum_mul_real {ι : Type*} (s : Finset ι) (f g : ι → EReal) (hf : ∀ i, ∃ r : ℝ, f i = r) (hg : ∀ i, ∃ r : ℝ, g i = r) :
    ∃ r : ℝ, ∑ i ∈ s, f i * g i = (r : EReal) := by
  choose a ha using hf
  choose b hb using hg
  refine ⟨∑ i ∈ s, a i * b i, ?_⟩
  rw [coe_sum]
  refine Finset.sum_congr rfl fun i _ => ?_
  rw [ha, hb, EReal.coe_mul]

/-- The real softplus, in the form that does not overflow: `max z 0 + log (1 + exp (-|z|))`. -/
def spR (z : ℝ) : ℝ := max z 0 + Real.log (1 + Real.exp (-|z|))

/-- The same on the extended reals, as the programs compute it. -/
def spE (z : EReal) : EReal := max z 0 + Ideal.log1p (Ideal.exp (0 - max z (-z)))

theorem exp_coe (x : ℝ) : Ideal.exp (x : EReal) = (Real.exp x : EReal) := rfl

theorem max_coe (a b : ℝ) : max (a : EReal) (b : EReal) = ((max a b : ℝ) : EReal) :=
  (EReal.coe_strictMono.monotone.map_max (a := a) (b := b)).symm

theorem log1p_exp_coe (x : ℝ) : Ideal.log1p (Ideal.exp (x : EReal)) = ((Real.log (1 + Real.exp x) : ℝ) : EReal) := by
  have h : (1 : EReal) + Ideal.exp (x : EReal) = ((1 + Real.exp x : ℝ) : EReal) := by
    rw [exp_coe, EReal.coe_add, EReal.coe_one]
  unfold Ideal.log1p
  rw [h]
  show (if 1 + Real.exp x ≤ 0 then (⊥ : EReal) else ((Real.log (1 + Real.exp x) : ℝ) : EReal)) = _
  rw [if_neg (by have := Real.exp_pos x; linarith)]

/-- The extended softplus of a real is the real softplus. -/
theorem spE_coe (z : ℝ) : spE (z : EReal) = (spR z : EReal) := by
  unfold spE spR
  have h : 0 - (max (z : EReal) (-(z : EReal))) = ((-|z| : ℝ) : EReal) := by
    rw [zero_sub, ← EReal.coe_neg, max_coe, ← EReal.coe_neg]; rfl
  rw [h, log1p_exp_coe, ← EReal.coe_zero, max_coe, ← EReal.coe_add]

/-- `log σ(z) = z - softplus(z)`: the softplus of the negated argument. -/
theorem spR_neg (z : ℝ) : -spR (-z) = z - spR z := by
  unfold spR
  rw [abs_neg]
  rcases le_total 0 z with h | h
  · rw [max_eq_left h, max_eq_right (by linarith)]; ring
  · rw [max_eq_right h, max_eq_left (by linarith)]; ring

/-- The weight of key `s` for the query at position `t`: `exp (log σ(z_s) - Σ_{s<s'<t} softplus(z_{s'}))`. -/
def wt (Z : ℕ → ℝ) (t s : ℕ) : ℝ := Real.exp (Z s - spR (Z s) - ∑ s' ∈ Finset.Ico (s + 1) t, spR (Z s'))

/-- The total of the softplus terms of the keys from `lo` up to the query. -/
def tot (Z : ℕ → ℝ) (lo t : ℕ) : ℝ := ∑ s ∈ Finset.Ico lo t, spR (Z s)

/-- The weighted sum of the values of the keys from `lo` up to the query. -/
def acc (Z : ℕ → ℝ) (V : ℕ → EReal) (lo t : ℕ) : EReal := ∑ s ∈ Finset.Ico lo t, (wt Z t s : EReal) * V s

theorem sum_fin_Ico {M : Type*} [AddCommMonoid M] (f : ℕ → M) (lo n : ℕ) :
    ∑ k : Fin n, f (lo + k.val) = ∑ s ∈ Finset.Ico lo (lo + n), f s := by
  rw [Finset.sum_Ico_eq_sum_range, Nat.add_sub_cancel_left, Fin.sum_univ_eq_sum_range (fun k => f (lo + k))]

/-- A sum over one block's keys, those after `j` and before `m`. -/
theorem sum_later {M : Type*} [AddCommMonoid M] (f : ℕ → M) (lo n j m : ℕ) (hm : m ≤ n) :
    ∑ k : Fin n, (if j < k.val ∧ k.val < m then f (lo + k.val) else 0) = ∑ s ∈ Finset.Ico (lo + j + 1) (lo + m), f s := by
  have h := sum_fin_Ico (fun s => if j < s - lo ∧ s - lo < m then f s else 0) lo n
  simp only [Nat.add_sub_cancel_left] at h
  rw [h, ← Finset.sum_filter]
  refine Finset.sum_congr (Finset.ext fun s => ?_) fun _ _ => rfl
  simp only [Finset.mem_filter, Finset.mem_Ico]
  omega

/-- A sum over one block's first `m` keys. -/
theorem sum_first {M : Type*} [AddCommMonoid M] (f : ℕ → M) (lo n m : ℕ) (hm : m ≤ n) :
    ∑ k : Fin n, (if k.val < m then f (lo + k.val) else 0) = ∑ s ∈ Finset.Ico lo (lo + m), f s := by
  have h := sum_fin_Ico (fun s => if s - lo < m then f s else 0) lo n
  simp only [Nat.add_sub_cancel_left] at h
  rw [h, ← Finset.sum_filter]
  refine Finset.sum_congr (Finset.ext fun s => ?_) fun _ _ => rfl
  simp only [Finset.mem_filter, Finset.mem_Ico]
  omega

/-- The total grows by one block. -/
theorem tot_block (Z : ℕ → ℝ) (lo n t : ℕ) (h : lo + n ≤ t) :
    ((tot Z (lo + n) t : ℝ) : EReal) + ∑ k : Fin n, (spR (Z (lo + k.val)) : EReal) = ((tot Z lo t : ℝ) : EReal) := by
  rw [sum_fin_Ico (fun s => (spR (Z s) : EReal)) lo n, ← coe_sum, ← EReal.coe_add]
  unfold tot
  rw [add_comm, Finset.sum_Ico_consecutive _ (by omega) h]

/-- The weight of a key of a block whose later keys' total is split into the rest of the block and the blocks after it. -/
theorem wt_block (Z : ℕ → ℝ) (lo n t j : ℕ) (hj : j < n) (h : lo + n ≤ t) :
    Ideal.exp ((Z (lo + j) : EReal) - (spR (Z (lo + j)) : EReal)
        - (∑ k : Fin n, (if j < k.val then (spR (Z (lo + k.val)) : EReal) else 0)) - ((tot Z (lo + n) t : ℝ) : EReal))
      = ((wt Z t (lo + j) : ℝ) : EReal) := by
  have e : ∑ k : Fin n, (if j < k.val then (spR (Z (lo + k.val)) : EReal) else 0)
      = ((∑ s ∈ Finset.Ico (lo + j + 1) (lo + n), spR (Z s) : ℝ) : EReal) := by
    rw [coe_sum, ← sum_later (fun s => (spR (Z s) : EReal)) lo n j n le_rfl]
    refine Finset.sum_congr rfl fun k _ => ?_
    simp [k.isLt]
  rw [e, ← EReal.coe_sub, ← EReal.coe_sub, ← EReal.coe_sub, exp_coe]
  unfold wt tot
  congr 2
  rw [← Finset.sum_Ico_consecutive _ (show lo + j + 1 ≤ lo + n by omega) h]
  ring

/-- The weight of a key of the query's own block: the block's later keys are those before the query. -/
theorem wt_diag (Z : ℕ → ℝ) (lo n r j : ℕ) (hr : r ≤ n) :
    Ideal.exp ((Z (lo + j) : EReal) - (spR (Z (lo + j)) : EReal)
        - (∑ k : Fin n, (if j < k.val ∧ k.val < r then (spR (Z (lo + k.val)) : EReal) else 0)))
      = ((wt Z (lo + r) (lo + j) : ℝ) : EReal) := by
  rw [sum_later (fun s => (spR (Z s) : EReal)) lo n j r hr, ← coe_sum, ← EReal.coe_sub, ← EReal.coe_sub, exp_coe]
  rfl

/-- The weighted sum grows by one block. -/
theorem acc_block (Z : ℕ → ℝ) (V : ℕ → EReal) (lo n t : ℕ) (h : lo + n ≤ t) :
    acc Z V (lo + n) t + ∑ k : Fin n, (wt Z t (lo + k.val) : EReal) * V (lo + k.val) = acc Z V lo t := by
  rw [sum_fin_Ico (fun s => (wt Z t s : EReal) * V s) lo n]
  unfold acc
  rw [add_comm, Finset.sum_Ico_consecutive _ (by omega) h]

/-- The heads' lanes: a sum over 128 lanes of which only the first 64 count. -/
theorem sum_lo (f g : Fin 128 → EReal) :
    ∑ d : Fin 128, (if d.val < 64 then f d else 0) * g d = ∑ d : Fin 64, f ⟨d.val, by omega⟩ * g ⟨d.val, by omega⟩ := by
  rw [show (∑ d : Fin 128, (if d.val < 64 then f d else 0) * g d) = ∑ d : Fin (64 + 64), (if d.val < 64 then f d else 0) * g d from rfl,
    Fin.sum_univ_add]
  have h2 : ∑ i : Fin 64, (if (Fin.natAdd 64 i).val < 64 then f (Fin.natAdd 64 i) else 0) * g (Fin.natAdd 64 i) = 0 :=
    Finset.sum_eq_zero fun i _ => by
      rw [if_neg (by simp [Fin.natAdd]), zero_mul]
  rw [h2, add_zero]
  refine Finset.sum_congr rfl fun d _ => ?_
  rw [if_pos (by simp [Fin.castAdd])]
  rfl

/-- … and only the last 64 count. -/
theorem sum_hi (f g : Fin 128 → EReal) :
    ∑ d : Fin 128, (if d.val < 64 then 0 else f d) * g d = ∑ d : Fin 64, f ⟨64 + d.val, by omega⟩ * g ⟨64 + d.val, by omega⟩ := by
  rw [show (∑ d : Fin 128, (if d.val < 64 then 0 else f d) * g d) = ∑ d : Fin (64 + 64), (if d.val < 64 then 0 else f d) * g d from rfl,
    Fin.sum_univ_add]
  have h2 : ∑ i : Fin 64, (if (Fin.castAdd 64 i).val < 64 then 0 else f (Fin.castAdd 64 i)) * g (Fin.castAdd 64 i) = 0 :=
    Finset.sum_eq_zero fun i _ => by
      rw [if_pos (by simp [Fin.castAdd]), zero_mul]
  rw [h2, zero_add]
  refine Finset.sum_congr rfl fun d _ => ?_
  rw [if_neg (by simp [Fin.natAdd])]
  rfl

/-! ## The whole array -/

/-- The shape of queries, keys, values and the result: batch, position, head and lane. -/
abbrev SQ : Shape := ⟨3, ![8, 4096, 512]⟩

/-- The score of query position `t` against key `s` in the head whose first column is `64 * h`. -/
def score (q k : SQ.Idx → EReal) (b h : Fin 8) (t s : Fin 4096) : EReal :=
  ∑ d : Fin 64, q (ix3 b t (⟨64 * h.val + d.val, by omega⟩ : Fin 512)) * k (ix3 b s (⟨64 * h.val + d.val, by omega⟩ : Fin 512))

/-- The scores of a query, as reals, by key position (zero past the last key). -/
def scoreZ (q k : SQ.Idx → EReal) (b h : Fin 8) (t : Fin 4096) (s : ℕ) : ℝ :=
  if hs : s < 4096 then (score q k b h t ⟨s, hs⟩).toReal else 0

/-- The values in one column, by key position. -/
def colV (v : SQ.Idx → EReal) (b : Fin 8) (col : Fin 512) (s : ℕ) : EReal :=
  if hs : s < 4096 then v (ix3 b (⟨s, hs⟩ : Fin 4096) col) else 0

/-- Stick-breaking attention of the whole array at batch `b`, query position `t` and column `col`. -/
def attnAt (q k v : SQ.Idx → EReal) (b : Fin 8) (t : Fin 4096) (col : Fin 512) : EReal :=
  acc (scoreZ q k b ⟨col.val / 64, by omega⟩ t) (colV v b col) 0 t.val

/-- A float array every entry of which is a real. -/
def Finite (q : SQ.Idx → EReal) : Prop := ∀ i, ∃ r : ℝ, q i = r

/-- Scores of finite queries and keys are reals. -/
theorem score_real (q k : SQ.Idx → EReal) (hq : Finite q) (hk : Finite k) (b h : Fin 8) (t s : Fin 4096) :
    score q k b h t s = ((scoreZ q k b h t s.val : ℝ) : EReal) := by
  obtain ⟨r, hr⟩ := sum_mul_real Finset.univ (fun d : Fin 64 => q (ix3 b t (⟨64 * h.val + d.val, by omega⟩ : Fin 512)))
    (fun d : Fin 64 => k (ix3 b s (⟨64 * h.val + d.val, by omega⟩ : Fin 512))) (fun _ => hq _) (fun _ => hk _)
  have e : score q k b h t s = (r : EReal) := hr
  unfold scoreZ
  rw [dif_pos s.isLt, e]
  rfl

theorem colV_at (v : SQ.Idx → EReal) (b : Fin 8) (col : Fin 512) (s : Fin 4096) : v (ix3 b s col) = colV v b col s.val := by
  unfold colV
  rw [dif_pos s.isLt]

end Cert.AttnMath

end
-- ==== Proof.AttnStep.lean ====
/-
  One block of keys of the attention kernel, read at one query row: the block below the diagonal that a loop's trip takes
  and the query's own block. Each adds the block's softplus total and its weighted sum of values.
-/
module

public import proofs.«01_k».proof.Proof.AttnMath
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Attn

open Cert.KernelIdeal Cert.KernelIdeal.Gen Cert.AttnMath

/-- The constant matrix `[later | ones]`: its left half marks the keys after a key, its right half is all ones. -/
structure IsCat (M : FVec Ideal S128x256 .bf16) : Prop where
  later : ∀ (k j : Fin 128), M (ix2 k (⟨j.val, by omega⟩ : Fin 256)) = if j.val < k.val then (1 : EReal) else 0
  ones : ∀ (k j : Fin 128), M (ix2 k (⟨128 + j.val, by omega⟩ : Fin 256)) = (1 : EReal)

/-- The strictly lower triangular mask at an index. -/
theorem mask_at (r j : Fin 128) : k0_pay17 (ix2 r j) = if j.val < r.val then 1#1 else 0#1 := by
  have h : ∀ a b : Fin 128, IntOp.cmpi CmpIPredicate.slt (BitVec.ofNat 32 a.val) (BitVec.ofNat 32 b.val) = if a.val < b.val then 1#1 else 0#1 := by
    decide +kernel
  pointwise [k0_pay17]
  exact h j r

/-- Selecting by the strict mask. -/
theorem select_mask (r k : Fin 128) (a b : EReal) : Scalar.select (k0_pay17 (ix2 r k)) a b = if k.val < r.val then a else b := by
  rw [mask_at]
  by_cases hk : k.val < r.val
  · rw [if_pos hk, if_pos hk]; rfl
  · rw [if_neg hk, if_neg hk]; rfl

/-- The mask of the first head's lanes at an index. -/
theorem lane_at (r d : Fin 128) : k0_pay19 (ix2 r d) = if d.val < 64 then 1#1 else 0#1 := by
  pointwise [k0_pay19]
  revert d
  decide +kernel

theorem pay33_at (M : FVec Ideal S128x256 .bf16) (q : FVec Ideal S128x128 .bf16) (c : FVec Ideal S128x128 .f32)
    (kb : Vec Ideal S1x128x128 .bf16) (r j : Fin 128) :
    k0_pay33 M q c kb (ix2 r j)
      = c (ix2 r j) + ∑ k : Fin 128, spE (k0_pay29 q kb (ix2 r k)) * M (ix2 k (⟨128 + j.val, by omega⟩ : Fin 256)) := by
  pointwise [k0_pay33, k0_pay31, k0_pay30]
  rfl

theorem pay32_at (M : FVec Ideal S128x256 .bf16) (q : FVec Ideal S128x128 .bf16) (o c : FVec Ideal S128x128 .f32)
    (kb vb : Vec Ideal S1x128x128 .bf16) (r l : Fin 128) :
    k0_pay32 M q o c kb vb (ix2 r l)
      = o (ix2 r l) + ∑ j : Fin 128, Ideal.exp (k0_pay29 q kb (ix2 r j) - spE (k0_pay29 q kb (ix2 r j))
          - (∑ k : Fin 128, spE (k0_pay29 q kb (ix2 r k)) * M (ix2 k (⟨j.val, by omega⟩ : Fin 256))) - c (ix2 r j))
          * vb (ix3 0 j l) := by
  pointwise [k0_pay32, k0_pay31, k0_pay30]
  rfl

/-- A query row times a key row. -/
theorem pay29_at (q : FVec Ideal S128x128 .bf16) (kb : Vec Ideal S1x128x128 .bf16) (r j : Fin 128) :
    k0_pay29 q kb (ix2 r j) = ∑ d : Fin 128, q (ix2 r d) * kb (ix3 0 j d) := by
  pointwise [k0_pay29]

/-- The softplus of the scores of the query's own block, masked, times the constant matrix. -/
def firstRt (q : FVec Ideal S128x128 .bf16) (M : FVec Ideal S128x256 .bf16) (kb : Vec Ideal S1x128x128 .bf16) : FVec Ideal S128x256 .f32 :=
  k0_pay2 k0_pay17 M (maximumf (k0_pay29 q kb) (broadcast S128x128 (Scalar.ofBits .f32 0x00000000#32 : Ideal .f32)))
    (subf (broadcast S128x128 (Scalar.ofBits .f32 0x00000000#32 : Ideal .f32)) (absf (k0_pay29 q kb)))

/-- The log of the sigmoid of the scores of the query's own block. -/
def firstLs (q : FVec Ideal S128x128 .bf16) (kb : Vec Ideal S1x128x128 .bf16) : FVec Ideal S128x128 .f32 :=
  subf (k0_pay29 q kb) (k0_pay30 q kb)

theorem firstRt_at (q : FVec Ideal S128x128 .bf16) (M : FVec Ideal S128x256 .bf16) (kb : Vec Ideal S1x128x128 .bf16)
    (r : Fin 128) (n : Fin 256) :
    firstRt q M kb (ix2 r n)
      = ∑ k : Fin 128, (if k.val < r.val then spE (k0_pay29 q kb (ix2 r k)) else 0) * M (ix2 k n) := by
  unfold firstRt
  pointwise [k0_pay2, k0_pay1]
  refine Finset.sum_congr rfl fun k _ => ?_
  refine (select_mask r k _ _).trans ?_
  by_cases hk : k.val < r.val
  · rw [if_pos hk, if_pos hk]; rfl
  · rw [if_neg hk, if_neg hk, zero_mul]

theorem pay27_at (q : FVec Ideal S128x128 .bf16) (M : FVec Ideal S128x256 .bf16) (kb vb : Vec Ideal S1x128x128 .bf16) (r l : Fin 128) :
    k0_pay27 k0_pay17 k0_pay21 (k0_pay22 vb) (firstRt q M kb) (firstLs q kb) (ix2 r l)
      = ∑ j : Fin 128, (if j.val < r.val then Ideal.exp (k0_pay29 q kb (ix2 r j) - spE (k0_pay29 q kb (ix2 r j))
          - (∑ k : Fin 128, (if k.val < r.val then spE (k0_pay29 q kb (ix2 r k)) else 0) * M (ix2 k (⟨j.val, by omega⟩ : Fin 256)))) else 0)
          * vb (ix3 0 j l) := by
  unfold firstLs
  pointwise [k0_pay27, k0_pay21, k0_pay22, k0_pay30]
  refine Finset.sum_congr rfl fun k _ => ?_
  refine (select_mask r k _ _).trans ?_
  by_cases hk : k.val < r.val
  · rw [if_pos hk, if_pos hk, ← firstRt_at]; rfl
  · rw [if_neg hk, if_neg hk, zero_mul]

theorem pay28_at (q : FVec Ideal S128x128 .bf16) (M : FVec Ideal S128x256 .bf16) (kb : Vec Ideal S1x128x128 .bf16) (r j : Fin 128) :
    k0_pay28 k0_pay21 (firstRt q M kb) (ix2 r j)
      = ∑ k : Fin 128, (if k.val < r.val then spE (k0_pay29 q kb (ix2 r k)) else 0) * M (ix2 k (⟨128 + j.val, by omega⟩ : Fin 256)) := by
  rw [← firstRt_at]
  pointwise [k0_pay28, k0_pay21]

/-- The first head's opening payloads, said by the shared ones. -/
theorem pay25_eq (v0 : Vec Ideal S1x128x128 .bf16) (M : Vec Ideal S128x256 .bf16) (kb : Vec Ideal S1x128x128 .bf16) :
    k0_pay25 v0 M kb = firstRt (k0_pay20 v0) (k0_pay18 M) kb := rfl

theorem pay26_eq (v0 : Vec Ideal S1x128x128 .bf16) (kb : Vec Ideal S1x128x128 .bf16) :
    k0_pay26 v0 kb = firstLs (k0_pay20 v0) kb := rfl

/-- The second head's opening and looping payloads, said by the first's. -/
theorem pay3_eq (q v1 : FVec Ideal S128x128 .bf16) (v2 : IVec S128x128 32) (M : FVec Ideal S128x256 .bf16) (kb vb : Vec Ideal S1x128x128 .bf16) :
    k0_pay3 k0_pay17 M k0_pay21 (k0_pay22 vb) (k0_pay42 v1 v2 kb) (k0_pay43 v1 v2 kb) (k0_pay44 v1 v2 kb)
      = k0_pay27 k0_pay17 k0_pay21 (k0_pay22 vb) (firstRt (k0_pay39 v1 v2) M kb) (firstLs (k0_pay39 v1 v2) kb) := rfl

theorem pay4_eq (v1 : FVec Ideal S128x128 .bf16) (v2 : IVec S128x128 32) (M : FVec Ideal S128x256 .bf16) (kb : Vec Ideal S1x128x128 .bf16) :
    k0_pay4 k0_pay17 M k0_pay21 (k0_pay43 v1 v2 kb) (k0_pay44 v1 v2 kb) = k0_pay28 k0_pay21 (firstRt (k0_pay39 v1 v2) M kb) := rfl

theorem pay8_eq (M : FVec Ideal S128x256 .bf16) (q : FVec Ideal S128x128 .bf16) (o c : FVec Ideal S128x128 .f32)
    (kb vb : Vec Ideal S1x128x128 .bf16) : k0_pay8 M q o c kb vb = k0_pay32 M q o c kb vb := rfl

theorem pay9_eq (M : FVec Ideal S128x256 .bf16) (q : FVec Ideal S128x128 .bf16) (c : FVec Ideal S128x128 .f32)
    (kb : Vec Ideal S1x128x128 .bf16) : k0_pay9 M q c kb = k0_pay33 M q c kb := rfl

section Row

variable (M : FVec Ideal S128x256 .bf16) (hM : IsCat M) (q : FVec Ideal S128x128 .bf16) (o c : FVec Ideal S128x128 .f32)
  (kb vb : Vec Ideal S1x128x128 .bf16) (r : Fin 128) (Z : ℕ → ℝ) (V : ℕ → EReal) (lo t : ℕ)

/-- A trip adds its block's softplus total to the row's. -/
theorem trip_tot (hM : IsCat M) (ht : lo + 128 ≤ t) (hz : ∀ j : Fin 128, k0_pay29 q kb (ix2 r j) = (Z (lo + j.val) : EReal)) (j : Fin 128)
    (hc : c (ix2 r j) = ((tot Z (lo + 128) t : ℝ) : EReal)) :
    k0_pay33 M q c kb (ix2 r j) = ((tot Z lo t : ℝ) : EReal) := by
  rw [pay33_at, hc, ← tot_block Z lo 128 t ht]
  congr 1
  refine Finset.sum_congr rfl fun k _ => ?_
  rw [hz, spE_coe, hM.ones, mul_one]

/-- A trip adds its block's weighted sum of values to the row's. -/
theorem trip_acc (hM : IsCat M) (ht : lo + 128 ≤ t) (hz : ∀ j : Fin 128, k0_pay29 q kb (ix2 r j) = (Z (lo + j.val) : EReal)) (l : Fin 128)
    (hv : ∀ j : Fin 128, vb (ix3 0 j l) = V (lo + j.val))
    (hc : ∀ j : Fin 128, c (ix2 r j) = ((tot Z (lo + 128) t : ℝ) : EReal)) (ho : o (ix2 r l) = acc Z V (lo + 128) t) :
    k0_pay32 M q o c kb vb (ix2 r l) = acc Z V lo t := by
  rw [pay32_at, ho, ← acc_block Z V lo 128 t ht]
  congr 1
  refine Finset.sum_congr rfl fun j _ => ?_
  rw [hv, hc, hz, spE_coe, ← wt_block Z lo 128 t j.val j.isLt ht]
  congr 4
  refine Finset.sum_congr rfl fun k _ => ?_
  rw [hz, spE_coe, hM.later, mul_ite, mul_one, mul_zero]

/-- The query's own block: the softplus total of the keys before the query. -/
theorem first_tot (hM : IsCat M) (hz : ∀ j : Fin 128, k0_pay29 q kb (ix2 r j) = (Z (lo + j.val) : EReal)) (j : Fin 128) :
    k0_pay28 k0_pay21 (firstRt q M kb) (ix2 r j) = ((tot Z lo (lo + r.val) : ℝ) : EReal) := by
  rw [pay28_at]
  unfold tot
  rw [coe_sum, ← sum_first (fun s => (spR (Z s) : EReal)) lo 128 r.val r.isLt.le]
  refine Finset.sum_congr rfl fun k _ => ?_
  rw [hz, spE_coe, hM.ones, mul_one]

/-- The query's own block: the weighted sum of the values of the keys before the query. -/
theorem first_acc (hM : IsCat M) (hz : ∀ j : Fin 128, k0_pay29 q kb (ix2 r j) = (Z (lo + j.val) : EReal)) (l : Fin 128)
    (hv : ∀ j : Fin 128, vb (ix3 0 j l) = V (lo + j.val)) :
    k0_pay27 k0_pay17 k0_pay21 (k0_pay22 vb) (firstRt q M kb) (firstLs q kb) (ix2 r l) = acc Z V lo (lo + r.val) := by
  rw [pay27_at]
  unfold acc
  rw [← sum_first (fun s => (wt Z (lo + r.val) s : EReal) * V s) lo 128 r.val r.isLt.le]
  refine Finset.sum_congr rfl fun j _ => ?_
  rw [hv, hz, spE_coe, ← wt_diag Z lo 128 r.val j.val r.isLt.le]
  by_cases hj : j.val < r.val
  · rw [if_pos hj, if_pos hj]
    congr 3
    refine Finset.sum_congr rfl fun k _ => ?_
    rw [hz, spE_coe, hM.later]
    by_cases h1 : j.val < k.val <;> by_cases h2 : k.val < r.val <;> simp [h1, h2]
  · rw [if_neg hj, if_neg hj, zero_mul]

end Row

end Cert.KernelIdeal.Attn

end
-- ==== Proof.AttnBlock.lean ====
/-
  The attention kernel's block at one grid point: what its body stores, row by row and lane by lane, is the stick-breaking
  weighted sum of the values of the keys before the query.
-/
module

public import proofs.«01_k».proof.Proof.AttnStep
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnMath

theorem hz3 : (![0, 0, 0] : Fin 3 → Nat) = fun _ => 0 := funext fun a => by fin_cases a <;> rfl
theorem hz2 : (![0, 0] : Fin 2 → Nat) = fun _ => 0 := funext fun a => by fin_cases a <;> rfl

/-- The unrolled loop makes as many trips as there are key blocks before the query's. -/
theorem trips1 (i : grid0.Coords) : (k0_t1_loop i).trips = (i 2).val := by
  have h : ∀ a : Fin 32, (⟨1#32, Scalar.addi 1#32 (Scalar.muli (Scalar.divsi (Scalar.subi (Scalar.addi (BitVec.ofNat 32 a.val) 1#32) 1#32) 1#32) 1#32), 1#32⟩ : Scf.Loop 32).trips = a.val := by decide +kernel
  exact h (i 2)

/-- The loop over what unrolling leaves makes none. -/
theorem trips2 (i : grid0.Coords) : (k0_t2_loop i).trips = 0 := by
  have h : ∀ a : Fin 32, (⟨Scalar.addi 1#32 (Scalar.muli (Scalar.divsi (Scalar.subi (Scalar.addi (BitVec.ofNat 32 a.val) 1#32) 1#32) 1#32) 1#32), Scalar.addi 1#32 (Scalar.subi (Scalar.addi (BitVec.ofNat 32 a.val) 1#32) 1#32), 1#32⟩ : Scf.Loop 32).trips = 0 := by decide +kernel
  exact h (i 2)

theorem off_eq : ∀ a k : Fin 32, k.val < a.val →
    (Scalar.indexCast (Scalar.muli (Scalar.subi (BitVec.ofNat 32 a.val) (Scf.iv 1#32 1#32 k.val)) 128#32) : Index).toNat = 128 * (a.val - (k.val + 1)) := by
  decide +kernel

/-- Trip `k` loads the keys of the block `k + 1` before the query's. -/
theorem off2_eq (i : grid0.Coords) (k : Fin (k0_t1_loop i).trips) : k0_off2 i k = ![0, 128 * ((i 2).val - (k.val + 1)), 0] := by
  have hk : k.val < (i 2).val := (trips1 i) ▸ k.isLt
  have h2 : (i 2).val < 32 := (i 2).isLt
  have := off_eq (i 2) ⟨k.val, by omega⟩ hk
  unfold k0_off2
  rw [← this]

theorem off4_eq (i : grid0.Coords) (k : Fin (k0_t3_loop i).trips) : k0_off4 i k = ![0, 128 * ((i 2).val - (k.val + 1)), 0] :=
  off2_eq i k

/-- The query's own block. -/
theorem off1_eq (i : grid0.Coords) : k0_off1 i = ![0, 128 * (i 2).val, 0] := by
  have h : ∀ a : Fin 32, (Scalar.indexCast (Scalar.muli (BitVec.ofNat 32 a.val) 128#32) : Index).toNat = 128 * a.val := by decide +kernel
  have := h (i 2)
  unfold k0_off1
  rw [← this]

/-- A load of 128 keys at offset `lo`, at an index. -/
theorem ld_at (x : Vec Ideal S1x4096x128 .bf16) (lo : ℕ) (off : Fin 3 → Nat) (hoff : off = ![0, lo, 0])
    (inb : ∀ a, off a + S1x128x128.size a ≤ S1x4096x128.size a) (j d : Fin 128) (h : lo + j.val < 4096) :
    View.ld x (Rect.unit (s := S1x4096x128) off S1x128x128.size inb) (ix3 0 j d) = x (ix3 0 ⟨lo + j.val, h⟩ d) := by
  subst hoff
  show x _ = x _
  congr 1
  funext a
  apply Fin.ext
  match a with
  | ⟨0, _⟩ => rfl
  | ⟨1, _⟩ => show lo + 1 * j.val = lo + j.val; omega
  | ⟨2, _⟩ => show 0 + 1 * d.val = d.val; omega

section
variable (c : Dev nD) (i : grid0.Coords) (arg3 : Memref sig .tc .vmem S1x128x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S128x256 .bf16) (harg6 : arg6.IsWhole) (arg7 : Memref sig .tc .vmem S1x128x128 .bf16) (harg7 : arg7.IsWhole)
    (x0 : Vec Ideal S1x128x128 .bf16) (x1 : Vec Ideal S1x4096x128 .bf16) (x2 : Vec Ideal S1x4096x128 .bf16) (x3 : Vec Ideal S128x256 .bf16)

/-- A trip of the first head's loop, as payloads of the loaded blocks. -/
theorem trip1 (𝒱 : Variants) (bd : Option 𝒱.V) (arg2 : BitVec 32) (v1 : FVec Ideal S128x128 .bf16) (v2 : IVec S128x128 32) (v5 : IVec S128x128 1) (v7 : FVec Ideal S128x256 .bf16) (v14 : FVec Ideal S128x128 .bf16) (v15 : FVec Ideal S128x128 .f32) (v23 : FVec Ideal S128x128 .bf16) (v36 : FVec Ideal S128x256 .f32) (v37 : FVec Ideal S128x128 .f32)
    (k : Fin (k0_t1_loop i).trips) (acc : FVec Ideal S128x128 .f32 × FVec Ideal S128x128 .f32) :
    tripR_k0_t1 (F := Ideal) 𝒱 c bd i arg3 harg3 arg4 harg4 arg5 harg5 arg6 harg6 arg7 harg7 arg2 v1 v2 v5 v7 v14 v15 v23 v36 v37 (harg4.unread x1) (harg5.unread x2) k acc
      = (k0_pay32 v7 v14 acc.1 acc.2 (View.ld x1 (Rect.unit (s := S1x4096x128) (k0_off2 i k) S1x128x128.size (k0_off2_inb i k)))
          (View.ld x2 (Rect.unit (s := S1x4096x128) (k0_off2 i k) S1x128x128.size (k0_off2_inb i k))),
        k0_pay33 v7 v14 acc.2 (View.ld x1 (Rect.unit (s := S1x4096x128) (k0_off2 i k) S1x128x128.size (k0_off2_inb i k)))) := by
  unfold tripR_k0_t1 trip_k0_t1
  dsimp only
  simp only [View.readAt_eq_ld, harg4.read_unread, harg5.read_unread]

/-- A trip of the second head's loop, likewise. -/
theorem trip3 (𝒱 : Variants) (bd : Option 𝒱.V) (v7 : FVec Ideal S128x256 .bf16) (v63 : FVec Ideal S128x128 .bf16)
    (k : Fin (k0_t3_loop i).trips) (acc : FVec Ideal S128x128 .f32 × FVec Ideal S128x128 .f32) :
    tripR_k0_t3 (F := Ideal) 𝒱 c bd i arg3 harg3 arg4 harg4 arg5 harg5 arg6 harg6 arg7 harg7 v7 v63 (harg4.unread x1) (harg5.unread x2) k acc
      = (k0_pay32 v7 v63 acc.1 acc.2 (View.ld x1 (Rect.unit (s := S1x4096x128) (k0_off4 i k) S1x128x128.size (k0_off4_inb i k)))
          (View.ld x2 (Rect.unit (s := S1x4096x128) (k0_off4 i k) S1x128x128.size (k0_off4_inb i k))),
        k0_pay33 v7 v63 acc.2 (View.ld x1 (Rect.unit (s := S1x4096x128) (k0_off4 i k) S1x128x128.size (k0_off4_inb i k)))) := by
  unfold tripR_k0_t3 trip_k0_t3
  dsimp only
  simp only [View.readAt_eq_ld, harg4.read_unread, harg5.read_unread, pay8_eq, pay9_eq]

/-- The keys and values of the query's own block. -/
def own (x : Vec Ideal S1x4096x128 .bf16) : Vec Ideal S1x128x128 .bf16 :=
  View.ld x (Rect.unit (s := S1x4096x128) (k0_off1 i) S1x128x128.size (k0_off1_inb i))

/-- What the row `r` of a head's state is with the keys from `lo` on taken in: the softplus total in every lane of the
    second component, the weighted sum of the values in lane `l` of the first. -/
def Row (Z : ℕ → ℝ) (V : ℕ → EReal) (r l : Fin 128) (lo t : ℕ) (s : FVec Ideal S128x128 .f32 × FVec Ideal S128x128 .f32) : Prop :=
  (∀ j : Fin 128, s.2 (ix2 r j) = ((tot Z lo t : ℝ) : EReal)) ∧ s.1 (ix2 r l) = acc Z V lo t

variable {Z : ℕ → ℝ} {V : ℕ → EReal} {r l : Fin 128} {M : FVec Ideal S128x256 .bf16} {q : FVec Ideal S128x128 .bf16}

/-- A head's opening state. -/
def opening (M : FVec Ideal S128x256 .bf16) (q : FVec Ideal S128x128 .bf16) (kb vb : Vec Ideal S1x128x128 .bf16) :
    FVec Ideal S128x128 .f32 × FVec Ideal S128x128 .f32 :=
  (k0_pay27 k0_pay17 k0_pay21 (k0_pay22 vb) (firstRt q M kb) (firstLs q kb), k0_pay28 k0_pay21 (firstRt q M kb))

theorem row_opening (hM : IsCat M) (hz : ∀ s : Fin 4096, ∑ d : Fin 128, q (ix2 r d) * x1 (ix3 0 s d) = (Z s.val : EReal))
    (hv : ∀ s : Fin 4096, x2 (ix3 0 s l) = V s.val) :
    Row Z V r l (128 * (i 2).val) (128 * (i 2).val + r.val) (opening M q (own i x1) (own i x2)) := by
  have h2 : (i 2).val < 32 := (i 2).isLt
  have hz' : ∀ j : Fin 128, k0_pay29 q (own i x1) (ix2 r j) = (Z (128 * (i 2).val + j.val) : EReal) := fun j => by
    rw [pay29_at, ← hz ⟨128 * (i 2).val + j.val, by omega⟩]
    refine Finset.sum_congr rfl fun d _ => ?_
    rw [own, ld_at x1 _ _ (off1_eq i) _ j d (by omega)]
  refine ⟨fun j => first_tot M q _ r Z _ hM hz' j, first_acc M q _ _ r Z V _ hM hz' l fun j => ?_⟩
  rw [← hv ⟨128 * (i 2).val + j.val, by omega⟩, own, ld_at x2 _ _ (off1_eq i) _ j l (by omega)]

theorem row_trip (hM : IsCat M) (hz : ∀ s : Fin 4096, ∑ d : Fin 128, q (ix2 r d) * x1 (ix3 0 s d) = (Z s.val : EReal))
    (hv : ∀ s : Fin 4096, x2 (ix3 0 s l) = V s.val) (off : Fin 3 → Nat)
    (inb : ∀ a, off a + S1x128x128.size a ≤ S1x4096x128.size a) (n : ℕ) (hn : n + 1 ≤ (i 2).val)
    (hoff : off = ![0, 128 * ((i 2).val - (n + 1)), 0]) (s : FVec Ideal S128x128 .f32 × FVec Ideal S128x128 .f32)
    (hs : Row Z V r l (128 * ((i 2).val - n)) (128 * (i 2).val + r.val) s) :
    Row Z V r l (128 * ((i 2).val - (n + 1))) (128 * (i 2).val + r.val)
      (k0_pay32 M q s.1 s.2 (View.ld x1 (Rect.unit (s := S1x4096x128) off S1x128x128.size inb))
          (View.ld x2 (Rect.unit (s := S1x4096x128) off S1x128x128.size inb)),
        k0_pay33 M q s.2 (View.ld x1 (Rect.unit (s := S1x4096x128) off S1x128x128.size inb))) := by
  have h2 : (i 2).val < 32 := (i 2).isLt
  have e : 128 * ((i 2).val - n) = 128 * ((i 2).val - (n + 1)) + 128 := by omega
  have ht : 128 * ((i 2).val - (n + 1)) + 128 ≤ 128 * (i 2).val + r.val := by omega
  rw [e] at hs
  have hz' : ∀ j : Fin 128, k0_pay29 q (View.ld x1 (Rect.unit (s := S1x4096x128) off S1x128x128.size inb)) (ix2 r j)
      = (Z (128 * ((i 2).val - (n + 1)) + j.val) : EReal) := fun j => by
    rw [pay29_at, ← hz ⟨128 * ((i 2).val - (n + 1)) + j.val, by omega⟩]
    refine Finset.sum_congr rfl fun d _ => ?_
    rw [ld_at x1 _ _ hoff _ j d (by omega)]
  refine ⟨fun j => trip_tot M q s.2 _ r Z _ _ hM ht hz' j (hs.1 j), trip_acc M q s.1 s.2 _ _ r Z V _ _ hM ht hz' l (fun j => ?_) hs.1 hs.2⟩
  rw [← hv ⟨128 * ((i 2).val - (n + 1)) + j.val, by omega⟩, ld_at x2 _ _ hoff _ j l (by omega)]

/-- The first head's state before trip `n`. -/
theorem row_t1 (hM : IsCat M) (hz : ∀ s : Fin 4096, ∑ d : Fin 128, q (ix2 r d) * x1 (ix3 0 s d) = (Z s.val : EReal))
    (hv : ∀ s : Fin 4096, x2 (ix3 0 s l) = V s.val)
    (𝒱 : Variants) (bd : Option 𝒱.V) (arg2 : BitVec 32) (v1 : FVec Ideal S128x128 .bf16) (v2 : IVec S128x128 32) (v5 : IVec S128x128 1) (v15 : FVec Ideal S128x128 .f32) (v23 : FVec Ideal S128x128 .bf16) (v36 : FVec Ideal S128x256 .f32) (v37 : FVec Ideal S128x128 .f32)
    (n : ℕ) (hn : n ≤ (i 2).val) :
    Row Z V r l (128 * ((i 2).val - n)) (128 * (i 2).val + r.val)
      (st_k0_t1 (F := Ideal) 𝒱 c bd i arg3 harg3 arg4 harg4 arg5 harg5 arg6 harg6 arg7 harg7 arg2 v1 v2 v5 M q v15 v23 v36 v37 (harg4.unread x1) (harg5.unread x2)
        (opening M q (own i x1) (own i x2)) n) := by
  induction n with
  | zero => rw [st_k0_t1_zero]; exact row_opening i x1 x2 hM hz hv
  | succ n ih =>
    rw [st_k0_t1_succ (F := Ideal) 𝒱 c bd i arg3 harg3 arg4 harg4 arg5 harg5 arg6 harg6 arg7 harg7 arg2 v1 v2 v5 M q v15 v23 v36 v37 (harg4.unread x1) (harg5.unread x2) _ ⟨n, by rw [trips1]; omega⟩, trip1]
    exact row_trip i x1 x2 hM hz hv _ _ n hn (off2_eq i _) _ (ih (by omega))

/-- The second head's state before trip `n`. -/
theorem row_t3 (hM : IsCat M) (hz : ∀ s : Fin 4096, ∑ d : Fin 128, q (ix2 r d) * x1 (ix3 0 s d) = (Z s.val : EReal))
    (hv : ∀ s : Fin 4096, x2 (ix3 0 s l) = V s.val)
    (𝒱 : Variants) (bd : Option 𝒱.V) (n : ℕ) (hn : n ≤ (i 2).val) :
    Row Z V r l (128 * ((i 2).val - n)) (128 * (i 2).val + r.val)
      (st_k0_t3 (F := Ideal) 𝒱 c bd i arg3 harg3 arg4 harg4 arg5 harg5 arg6 harg6 arg7 harg7 M q (harg4.unread x1) (harg5.unread x2)
        (opening M q (own i x1) (own i x2)) n) := by
  induction n with
  | zero => rw [st_k0_t3_zero]; exact row_opening i x1 x2 hM hz hv
  | succ n ih =>
    rw [st_k0_t3_succ (F := Ideal) 𝒱 c bd i arg3 harg3 arg4 harg4 arg5 harg5 arg6 harg6 arg7 harg7 M q (harg4.unread x1) (harg5.unread x2) _ ⟨n, by show n < (k0_t1_loop i).trips; rw [trips1]; omega⟩, trip3]
    exact row_trip i x1 x2 hM hz hv _ _ n hn (off4_eq i _) _ (ih (by omega))

/-- What the body stores: the first head's result in the first 64 lanes, the second's in the others. -/
theorem outA : ∃ (arg2 : BitVec 32) (v1 : FVec Ideal S128x128 .bf16) (v2 : IVec S128x128 32) (v5 : IVec S128x128 1) (v15 : FVec Ideal S128x128 .f32) (v23 : FVec Ideal S128x128 .bf16) (v36 : FVec Ideal S128x256 .f32) (v37 : FVec Ideal S128x128 .f32),
    out0_A_4 c i arg3 harg3 arg4 harg4 arg5 harg5 arg6 harg6 arg7 harg7 x0 x1 x2 x3
      = k0_pay15 k0_pay19
          (st_k0_t1 (F := Ideal) Variants.none c none i arg3 harg3 arg4 harg4 arg5 harg5 arg6 harg6 arg7 harg7 arg2 v1 v2 v5 (k0_pay18 x3) (k0_pay20 x0) v15 v23 v36 v37 (harg4.unread x1) (harg5.unread x2)
            (opening (k0_pay18 x3) (k0_pay20 x0) (own i x1) (own i x2)) (i 2).val).1
          (st_k0_t3 (F := Ideal) Variants.none c none i arg3 harg3 arg4 harg4 arg5 harg5 arg6 harg6 arg7 harg7 (k0_pay18 x3) (k0_pay39 (k0_pay16 x0) (iota .tc S128x128 32 [1] iota_S128x128_d1_w32)) (harg4.unread x1) (harg5.unread x2)
            (opening (k0_pay18 x3) (k0_pay39 (k0_pay16 x0) (iota .tc S128x128 32 [1] iota_S128x128_d1_w32)) (own i x1) (own i x2)) (i 2).val).1 := by
  refine ⟨?_, ?_, ?_, ?_, ?_, ?_, ?_, ?_, ?_⟩
  rotate_left 8
  · unfold out0_A_4
    rw [View.read_writes_eq_canon _ _ _ (cover0_A_4 c i arg3 harg3 arg4 harg4 arg5 harg5 arg6 harg6 arg7 harg7 x0 x1 x2 x3)]
    unfold kernelRun0_A
    dsimp only
    rw [View.canon_unit_zero hz3]
    sl_unfold_run_names
    have e1 : Scf.trips (1#32) (Scalar.addi (1#32) (Scalar.muli (Scalar.divsi (Scalar.subi (Scalar.addi (BitVec.ofNat 32 (i 2).val) 1#32) 1#32) 1#32) 1#32)) 1#32 = (i 2).val := trips1 i
    have e2 : Scf.trips (Scalar.addi (1#32) (Scalar.muli (Scalar.divsi (Scalar.subi (Scalar.addi (BitVec.ofNat 32 (i 2).val) 1#32) 1#32) 1#32) 1#32)) (Scalar.addi (1#32) (Scalar.subi (Scalar.addi (BitVec.ofNat 32 (i 2).val) 1#32) 1#32)) 1#32 = 0 := trips2 i
    rw [e1, e2, st_k0_t2_zero, st_k0_t4_zero]
    dsimp only
    simp only [View.readAt_eq_ld, harg3.read_unread, harg4.read_unread, harg5.read_unread, harg6.read_unread,
      View.ld_unit_zero (S := S1x128x128) hz3, View.ld_unit_zero (S := S128x256) hz2]
    rfl

/-- The block at a row and a lane of the first head: the stick-breaking weighted sum. -/
theorem out_lo (hM : IsCat (k0_pay18 x3)) (hl : l.val < 64)
    (hz : ∀ s : Fin 4096, ∑ d : Fin 128, k0_pay20 x0 (ix2 r d) * x1 (ix3 0 s d) = (Z s.val : EReal))
    (hv : ∀ s : Fin 4096, x2 (ix3 0 s l) = V s.val) :
    out0_A_4 c i arg3 harg3 arg4 harg4 arg5 harg5 arg6 harg6 arg7 harg7 x0 x1 x2 x3 (ix3 0 r l)
      = acc Z V 0 (128 * (i 2).val + r.val) := by
  obtain ⟨arg2, v1, v2, v5, v15, v23, v36, v37, e⟩ := outA c i arg3 harg3 arg4 harg4 arg5 harg5 arg6 harg6 arg7 harg7 x0 x1 x2 x3
  have h := (row_t1 c i arg3 harg3 arg4 harg4 arg5 harg5 arg6 harg6 arg7 harg7 x1 x2 hM hz hv Variants.none none arg2 v1 v2 v5 v15 v23 v36 v37 (i 2).val le_rfl).2
  rw [Nat.sub_self, Nat.mul_zero] at h
  rw [e, ← h]
  pointwise [k0_pay15]
  rw [lane_at, if_pos hl]
  rfl

/-- The block at a row and a lane of the second head. -/
theorem out_hi (hM : IsCat (k0_pay18 x3)) (hl : ¬ l.val < 64)
    (hz : ∀ s : Fin 4096, ∑ d : Fin 128, k0_pay39 (k0_pay16 x0) (iota .tc S128x128 32 [1] iota_S128x128_d1_w32) (ix2 r d) * x1 (ix3 0 s d) = (Z s.val : EReal))
    (hv : ∀ s : Fin 4096, x2 (ix3 0 s l) = V s.val) :
    out0_A_4 c i arg3 harg3 arg4 harg4 arg5 harg5 arg6 harg6 arg7 harg7 x0 x1 x2 x3 (ix3 0 r l)
      = acc Z V 0 (128 * (i 2).val + r.val) := by
  obtain ⟨arg2, v1, v2, v5, v15, v23, v36, v37, e⟩ := outA c i arg3 harg3 arg4 harg4 arg5 harg5 arg6 harg6 arg7 harg7 x0 x1 x2 x3
  have h := (row_t3 c i arg3 harg3 arg4 harg4 arg5 harg5 arg6 harg6 arg7 harg7 x1 x2 hM hz hv Variants.none none (i 2).val le_rfl).2
  rw [Nat.sub_self, Nat.mul_zero] at h
  rw [e, ← h]
  pointwise [k0_pay15]
  rw [lane_at, if_neg hl]
  rfl

/-- The first head's query at an index: the first 64 lanes of the block's row. -/
theorem q_lo (r d : Fin 128) : k0_pay20 x0 (ix2 r d) = if d.val < 64 then x0 (ix3 0 r d) else 0 := by
  pointwise [k0_pay20, k0_pay16]
  rw [lane_at]
  by_cases h : d.val < 64
  · rw [if_pos h, if_pos h]; rfl
  · rw [if_neg h, if_neg h]; rfl

/-- The second head's query at an index: the last 64 lanes. -/
theorem q_hi (r d : Fin 128) : k0_pay39 (k0_pay16 x0) (iota .tc S128x128 32 [1] iota_S128x128_d1_w32) (ix2 r d)
    = if d.val < 64 then 0 else x0 (ix3 0 r d) := by
  have hb : ∀ d : Fin 128, IntOp.andi (IntOp.cmpi CmpIPredicate.sge (BitVec.ofNat 32 d.val) 64#32) (IntOp.cmpi CmpIPredicate.slt (BitVec.ofNat 32 d.val) 128#32)
      = if d.val < 64 then 0#1 else 1#1 := by decide +kernel
  pointwise [k0_pay39, k0_pay16]
  rw [hb]
  by_cases h : d.val < 64
  · rw [if_pos h, if_pos h]; rfl
  · rw [if_neg h, if_neg h]; rfl
end
end Cert.KernelIdeal.Attn

end
-- ==== Proof.AttnValue.lean ====
/-
  The attention kernel's result array: at every batch, position and column it is stick-breaking attention of the arguments.
-/
module

public import proofs.«01_k».proof.Proof.AttnBlock

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnMath

variable (m : (ℓ : Loc nD τ sig) → Buf (Elt Ideal) ℓ) (ρ : Dev nD → PrngReg)

/-- The three arguments. -/
abbrev aq (c : Dev nD) : SQ.Idx → EReal := m ((c : Thread nD τ).loc main_arg0)
abbrev ak (c : Dev nD) : SQ.Idx → EReal := m ((c : Thread nD τ).loc main_arg1)
abbrev av (c : Dev nD) : SQ.Idx → EReal := m ((c : Thread nD τ).loc main_arg2)

/-- What the result array is shown to hold. -/
def goal (c : Dev nD) : Buf (Elt Ideal) ((c : Thread nD τ).loc main_v10) :=
  fun i : SQ.Idx => attnAt (aq m c) (ak m c) (av m c) (i 0) (i 1) (i 2)

/-- The coordinates of grid point `t`: batch, pair of heads, query block. -/
theorem coords_at (t : Fin cfg0.N) : (grid0.coords t 0).val = t.val / 128 ∧ (grid0.coords t 1).val = t.val / 32 % 4 ∧ (grid0.coords t 2).val = t.val % 32 := by
  have h : ∀ t : Fin grid0.N, (grid0.coords t 0).val = t.val / 128 ∧ (grid0.coords t 1).val = t.val / 32 % 4 ∧ (grid0.coords t 2).val = t.val % 32 := by
    decide +kernel
  exact h t

/-- The constant matrix before the region, as the host computes it. -/
def cat : FVec Ideal S128x256 .bf16 :=
  uitofp .bf16 (concatenate S128x256 1 [⟨S128x128, cmpi .sgt (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))⟩, ⟨S128x128, broadcastInDim S128x128 ![] bcast_S_S128x128 (constantI S_ 1 1#1)⟩] concatenates_S128x128_S128x128_S128x256_d1)

theorem V_cat (c : Dev nD) : V m c main_v9 = cat := by
  unfold cat
  unfold_abbrev_sides
  after_results

theorem isCat : IsCat cat := by
  have hc : ∀ k j : Fin 128, IntOp.cmpi CmpIPredicate.sgt (BitVec.ofNat 32 k.val) (BitVec.ofNat 32 j.val) = if j.val < k.val then 1#1 else 0#1 := by
    decide +kernel
  have u1 : (FloatOps.uitofp FTy.bf16 1#1 : Ideal .bf16) = (1 : EReal) := by
    show (((1#1 : BitVec 1).toNat : ℝ) : EReal) = 1
    norm_num
  have u0 : (FloatOps.uitofp FTy.bf16 0#1 : Ideal .bf16) = (0 : EReal) := by
    show (((0#1 : BitVec 1).toNat : ℝ) : EReal) = 0
    norm_num
  refine ⟨fun k j => ?_, fun k j => ?_⟩
  · unfold cat
    pointwise
    rw [hc]
    by_cases h : j.val < k.val
    · rw [if_pos h, if_pos h]; exact u1
    · rw [if_neg h, if_neg h]; exact u0
  · unfold cat
    pointwise
    exact u1

/-- The block of window 3 is the whole constant matrix. -/
theorem blk3 (c : Dev nD) (t : Fin cfg0.N) : k0_pay18 (iblk m c 3 t) = cat := by
  have e : (iblk m c 3 t : Vec Ideal S128x256 .bf16) = cat := by
    unfold iblk
    funext j
    rw [View.read_apply]
    show V m c main_v9 _ = _
    rw [V_cat]
    congr 1
    funext a
    apply Fin.ext
    match a with
    | ⟨0, _⟩ => show 0 * 128 + 1 * (j 0).val = (j 0).val; omega
    | ⟨1, _⟩ => show 0 * 256 + 1 * (j 1).val = (j 1).val; omega
  unfold k0_pay18
  rw [e]
  exact shapeCast_self _ _

theorem toNat_fin {n : ℕ} (hn : n ≤ 4096) (a : Fin n) : (BitVec.ofNat 32 a.val).toNat = a.val := by
  rw [BitVec.toNat_ofNat]
  exact Nat.mod_eq_of_lt (by have := a.isLt; omega)

/-- The block of queries at a grid point, at an index. -/
theorem blk0 (c : Dev nD) (t : Fin cfg0.N) (r l : Fin 128) (b : Fin 8) (hb : b.val = (grid0.coords t 0).val)
    (p : Fin 4096) (hp : p.val = 128 * (grid0.coords t 2).val + r.val) (col : Fin 512) (hc : col.val = 128 * (grid0.coords t 1).val + l.val) :
    (iblk m c 0 t : Vec Ideal S1x128x128 .bf16) (ix3 0 r l) = aq m c (ix3 b p col) := by
  unfold iblk
  rw [View.read_apply]
  show V m c main_arg0 _ = _
  rw [V_main_arg0]
  show aq m c _ = aq m c _
  congr 1
  funext a
  apply Fin.ext
  match a with
  | ⟨0, _⟩ => show (BitVec.ofNat 32 (grid0.coords t 0).val).toNat * 1 + 1 * 0 = b.val; rw [toNat_fin (by decide)]; omega
  | ⟨1, _⟩ => show (BitVec.ofNat 32 (grid0.coords t 2).val).toNat * 128 + 1 * r.val = p.val; rw [toNat_fin (by decide)]; omega
  | ⟨2, _⟩ => show (BitVec.ofNat 32 (grid0.coords t 1).val).toNat * 128 + 1 * l.val = col.val; rw [toNat_fin (by decide)]; omega

/-- The block of keys, at an index. -/
theorem blk1 (c : Dev nD) (t : Fin cfg0.N) (s : Fin 4096) (l : Fin 128) (b : Fin 8) (hb : b.val = (grid0.coords t 0).val)
    (col : Fin 512) (hc : col.val = 128 * (grid0.coords t 1).val + l.val) :
    (iblk m c 1 t : Vec Ideal S1x4096x128 .bf16) (ix3 0 s l) = ak m c (ix3 b s col) := by
  unfold iblk
  rw [View.read_apply]
  show V m c main_arg1 _ = _
  rw [V_main_arg1]
  show ak m c _ = ak m c _
  congr 1
  funext a
  apply Fin.ext
  match a with
  | ⟨0, _⟩ => show (BitVec.ofNat 32 (grid0.coords t 0).val).toNat * 1 + 1 * 0 = b.val; rw [toNat_fin (by decide)]; omega
  | ⟨1, _⟩ => show 0 * 4096 + 1 * s.val = s.val; omega
  | ⟨2, _⟩ => show (BitVec.ofNat 32 (grid0.coords t 1).val).toNat * 128 + 1 * l.val = col.val; rw [toNat_fin (by decide)]; omega

/-- The block of values, at an index. -/
theorem blk2 (c : Dev nD) (t : Fin cfg0.N) (s : Fin 4096) (l : Fin 128) (b : Fin 8) (hb : b.val = (grid0.coords t 0).val)
    (col : Fin 512) (hc : col.val = 128 * (grid0.coords t 1).val + l.val) :
    (iblk m c 2 t : Vec Ideal S1x4096x128 .bf16) (ix3 0 s l) = av m c (ix3 b s col) := by
  unfold iblk
  rw [View.read_apply]
  show V m c main_arg2 _ = _
  rw [V_main_arg2]
  show av m c _ = av m c _
  congr 1
  funext a
  apply Fin.ext
  match a with
  | ⟨0, _⟩ => show (BitVec.ofNat 32 (grid0.coords t 0).val).toNat * 1 + 1 * 0 = b.val; rw [toNat_fin (by decide)]; omega
  | ⟨1, _⟩ => show 0 * 4096 + 1 * s.val = s.val; omega
  | ⟨2, _⟩ => show (BitVec.ofNat 32 (grid0.coords t 1).val).toNat * 128 + 1 * l.val = col.val; rw [toNat_fin (by decide)]; omega

/-- What a grid point computes, at an index of its block. -/
theorem out_at (c : Dev nD) (hq : Finite (aq m c)) (hk : Finite (ak m c)) (t : Fin cfg0.N) (r l : Fin 128) (b : Fin 8) (hb : b.val = (grid0.coords t 0).val)
    (p : Fin 4096) (hp : p.val = 128 * (grid0.coords t 2).val + r.val) (col : Fin 512) (hc : col.val = 128 * (grid0.coords t 1).val + l.val) :
    outsAt0 m c t (ix3 0 r l) = attnAt (aq m c) (ak m c) (av m c) b p col := by
  have h1 : (grid0.coords t 1).val < 4 := (grid0.coords t 1).isLt
  have hM : IsCat (k0_pay18 (iblk m c 3 t)) := by rw [blk3]; exact isCat
  unfold attnAt
  rw [hp]
  unfold outsAt0
  have hv : ∀ s : Fin 4096, (iblk m c 2 t : Vec Ideal S1x4096x128 .bf16) (ix3 0 s l) = colV (av m c) b col s.val := fun s => by
    rw [blk2 m c t s l b hb col hc]; exact colV_at _ _ _ _
  by_cases hl : l.val < 64
  · refine out_lo c _ _ _ _ _ _ _ _ _ _ _ _ _ _ _ hM hl (fun s => ?_) hv
    have e : (⟨col.val / 64, by omega⟩ : Fin 8) = ⟨2 * (grid0.coords t 1).val, by omega⟩ := Fin.ext (by show col.val / 64 = 2 * (grid0.coords t 1).val; omega)
    rw [e, ← score_real _ _ hq hk]
    simp only [q_lo]
    rw [sum_lo (fun d => (iblk m c 0 t : Vec Ideal S1x128x128 .bf16) (ix3 0 r d)) (fun d => (iblk m c 1 t : Vec Ideal S1x4096x128 .bf16) (ix3 0 s d))]
    unfold score
    refine Finset.sum_congr rfl fun d _ => ?_
    rw [blk0 m c t r _ b hb p hp ⟨64 * (2 * (grid0.coords t 1).val) + d.val, by omega⟩ (by show 64 * (2 * (grid0.coords t 1).val) + d.val = 128 * (grid0.coords t 1).val + d.val; omega),
      blk1 m c t s _ b hb ⟨64 * (2 * (grid0.coords t 1).val) + d.val, by omega⟩ (by show 64 * (2 * (grid0.coords t 1).val) + d.val = 128 * (grid0.coords t 1).val + d.val; omega)]
  · refine out_hi c _ _ _ _ _ _ _ _ _ _ _ _ _ _ _ hM hl (fun s => ?_) hv
    have e : (⟨col.val / 64, by omega⟩ : Fin 8) = ⟨2 * (grid0.coords t 1).val + 1, by omega⟩ := Fin.ext (by show col.val / 64 = 2 * (grid0.coords t 1).val + 1; omega)
    rw [e, ← score_real _ _ hq hk]
    refine (Finset.sum_congr rfl fun d _ => congrArg (· * _) (q_hi (iblk m c 0 t) r d)).trans ?_
    rw [sum_hi (fun d => (iblk m c 0 t : Vec Ideal S1x128x128 .bf16) (ix3 0 r d)) (fun d => (iblk m c 1 t : Vec Ideal S1x4096x128 .bf16) (ix3 0 s d))]
    unfold score
    refine Finset.sum_congr rfl fun d _ => ?_
    rw [blk0 m c t r _ b hb p hp ⟨64 * (2 * (grid0.coords t 1).val + 1) + d.val, by omega⟩ (by show 64 * (2 * (grid0.coords t 1).val + 1) + d.val = 128 * (grid0.coords t 1).val + (64 + d.val); omega),
      blk1 m c t s _ b hb ⟨64 * (2 * (grid0.coords t 1).val + 1) + d.val, by omega⟩ (by show 64 * (2 * (grid0.coords t 1).val + 1) + d.val = 128 * (grid0.coords t 1).val + (64 + d.val); omega)]

/-- What point `t` writes back is its block of the goal. -/
theorem flushed_eq (c : Dev nD) (hq : Finite (aq m c)) (hk : Finite (ak m c)) (t : Fin cfg0.N) :
    (dats m 0 c).flushed 4 t = (win0_4.blk t).view.read (Elt Ideal) (goal m c) := by
  have h0 : (grid0.coords t 0).val < 8 := (grid0.coords t 0).isLt
  have h1 : (grid0.coords t 1).val < 4 := (grid0.coords t 1).isLt
  have h2 : (grid0.coords t 2).val < 32 := (grid0.coords t 2).isLt
  rw [Value.flushed4]
  funext j
  rw [View.read_apply]
  show outsAt0 m c t _ = goal m c _
  have hj0 : (j 0).val < 1 := (j 0).isLt
  have hj1 : (j 1).val < 128 := (j 1).isLt
  have hj2 : (j 2).val < 128 := (j 2).isLt
  have e := out_at m c hq hk t ⟨(j 1).val, hj1⟩ ⟨(j 2).val, hj2⟩ ⟨(grid0.coords t 0).val, h0⟩ rfl ⟨128 * (grid0.coords t 2).val + (j 1).val, by omega⟩ rfl
    ⟨128 * (grid0.coords t 1).val + (j 2).val, by omega⟩ rfl
  refine Eq.trans ?_ (e.trans ?_)
  · congr 1
    funext a
    apply Fin.ext
    match a with
    | ⟨0, _⟩ => show (j 0).val = 0; omega
    | ⟨1, _⟩ => rfl
    | ⟨2, _⟩ => rfl
  · unfold goal
    congr 1 <;> apply Fin.ext
    · show (grid0.coords t 0).val = (BitVec.ofNat 32 (grid0.coords t 0).val).toNat * 1 + 1 * (j 0).val; rw [toNat_fin (by decide)]; omega
    · show 128 * (grid0.coords t 2).val + (j 1).val = (BitVec.ofNat 32 (grid0.coords t 2).val).toNat * 128 + 1 * (j 1).val; rw [toNat_fin (by decide)]; omega
    · show 128 * (grid0.coords t 1).val + (j 2).val = (BitVec.ofNat 32 (grid0.coords t 1).val).toNat * 128 + 1 * (j 2).val; rw [toNat_fin (by decide)]; omega

/-- Every index of the result is in some point's block. -/
theorem cover (i : S8x4096x512.Idx) : ∃ t : Fin cfg0.N, (cfg0.win 4).flush t = true ∧ i ∈ ((cfg0.win 4).blk t).view.set := by
  have i0 : (i 0).val < 8 := (i 0).isLt
  have i1 : (i 1).val < 4096 := (i 1).isLt
  have i2 : (i 2).val < 512 := (i 2).isLt
  have hN : cfg0.N = 1024 := N_0
  refine ⟨⟨(i 0).val * 128 + (i 2).val / 128 * 32 + (i 1).val / 128, by omega⟩, flush0_4 _, ?_⟩
  generalize ht : (⟨(i 0).val * 128 + (i 2).val / 128 * 32 + (i 1).val / 128, by omega⟩ : Fin cfg0.N) = t
  have hv : t.val = (i 0).val * 128 + (i 2).val / 128 * 32 + (i 1).val / 128 := by rw [← ht]
  obtain ⟨c0, c1, c2⟩ := coords_at t
  show i ∈ ((View.whole main_v10).slice (win0_4.rect t)).set
  rw [View.set_slice_whole, Rect.mem_set_unit]
  intro a
  match a with
  | ⟨0, _⟩ =>
    show (BitVec.ofNat 32 (grid0.coords t 0).val).toNat * 1 ≤ (i 0).val ∧ (i 0).val < (BitVec.ofNat 32 (grid0.coords t 0).val).toNat * 1 + 1
    rw [toNat_fin (by decide)]; omega
  | ⟨1, _⟩ =>
    show (BitVec.ofNat 32 (grid0.coords t 2).val).toNat * 128 ≤ (i 1).val ∧ (i 1).val < (BitVec.ofNat 32 (grid0.coords t 2).val).toNat * 128 + 128
    rw [toNat_fin (by decide)]; omega
  | ⟨2, _⟩ =>
    show (BitVec.ofNat 32 (grid0.coords t 1).val).toNat * 128 ≤ (i 2).val ∧ (i 2).val < (BitVec.ofNat 32 (grid0.coords t 1).val).toNat * 128 + 128
    rw [toNat_fin (by decide)]; omega

/-- The result array ends holding stick-breaking attention of the arguments. -/
theorem final_o (c : Dev nD) (hq : Finite (aq m c)) (hk : Finite (ak m c)) : (dats m 0 c).arrAt 4 cfg0.N = goal m c :=
  (dats m 0 c).arrAt_eq_of_cover 4 (goal m c) (fun t _ => flushed_eq m c hq hk t) cover

/-- The run, read: the result array at the goal, the arguments unchanged. -/
theorem run (hq : ∀ c, Finite (aq m c)) (hk : ∀ c, Finite (ak m c)) :
    θ_run defs (onTc (τ := τ) (main (F := Ideal))) ⟨m, fun _ => 0, ρ⟩ fun r => ∀ c : Dev nD,
      r.2.mem ((c : Thread nD τ).loc main_v10) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c (hq c) (hk c)), (h c).2⟩) (Value.run_blocks m ρ)

end Cert.KernelIdeal.Attn

end
-- ==== Proof.AttnRef.lean ====
/-
  The reference of the attention call: at every batch, position and column its result is stick-breaking attention of the arguments.
-/
module

public import proofs.«01_k».proof.Proof.AttnMath
public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.AttnMath
open Facts

/-! ## The window sum along the keys -/

/-- A left fold of additions from zero is the sum. -/
theorem foldl_add {n : ℕ} (g : Fin n → EReal) (init : EReal) :
    (List.finRange n).foldl (fun r k => r + g k) init = init + ∑ k : Fin n, g k := by
  rw [Fin.sum_univ_def]
  generalize List.finRange n = l
  induction l generalizing init with
  | nil => simp
  | cons a l ih => rw [List.foldl_cons, ih, List.map_cons, List.sum_cons, add_assoc]

/-- The window's shape: one batch, one head, one query, all keys. -/
abbrev W : Shape := ⟨4, ![1, 1, 1, 4096]⟩

/-- A sum over the window is a sum over the keys. -/
theorem sum_window (g : W.Idx → EReal) : ∑ k : Fin W.numel, g (W.rowMajor.symm k) = ∑ s : Fin 4096, g (ix4 (0 : Fin 1) (0 : Fin 1) (0 : Fin 1) s) := by
  rw [Equiv.sum_comp W.rowMajor.symm g]
  refine (Fintype.sum_equiv ⟨fun s : Fin 4096 => (ix4 (0 : Fin 1) (0 : Fin 1) (0 : Fin 1) s : W.Idx), fun i => (i 3 : Fin 4096), fun _ => rfl, fun i => ?_⟩ _ _ fun _ => rfl).symm
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- The window sum at key `s`: the sum of the entries from `s` on. -/
theorem window_at (x : S8x8x4096x4096.Idx → EReal) (b h : Fin 8) (t s : Fin 4096) (v : S_.Idx → EReal) (hv : ∀ i, v i = 0) :
    Host.reduceWindowAdd (F := Ideal) (φ := .f32) ![1, 1, 1, 4096] ![1, 1, 1, 1] ![0, 0, 0, 0] ![0, 0, 0, 4095] x v
        reduceWindows_S8x8x4096x4096_S8x8x4096x4096_w1s1p0_0_w1s1p0_0_w1s1p0_0_w4096s1p0_4095 h_S_ (ix4 b h t s)
      = ∑ k : Fin 4096, if hk : s.val + k.val < 4096 then x (ix4 b h t (⟨s.val + k.val, hk⟩ : Fin 4096)) else 0 := by
  unfold Host.reduceWindowAdd
  rw [Ideal.hostReduceWindowAdd_def]
  unfold Ideal.hostReduceWindowAdd Host.reduceWindow
  dsimp only
  refine (foldl_add _ _).trans ?_
  rw [hv, zero_add]
  refine Eq.trans (Finset.sum_congr rfl fun k _ => ?_)
    (sum_window (fun w => if hk : s.val + (w 3).val < 4096 then x (ix4 b h t (⟨s.val + (w 3).val, hk⟩ : Fin 4096)) else 0))
  have h0 : (W.rowMajor.symm k 0).val = 0 := Nat.lt_one_iff.mp (W.rowMajor.symm k 0).isLt
  have h1 : (W.rowMajor.symm k 1).val = 0 := Nat.lt_one_iff.mp (W.rowMajor.symm k 1).isLt
  have h2 : (W.rowMajor.symm k 2).val = 0 := Nat.lt_one_iff.mp (W.rowMajor.symm k 2).isLt
  have hb := b.isLt
  have hh := h.isLt
  have ht := t.isLt
  by_cases hk : s.val + (W.rowMajor.symm k 3).val < 4096
  · rw [dif_pos hk, dif_pos]
    · refine congrArg x (funext fun a => Fin.ext ?_)
      match a with
      | ⟨0, _⟩ => show b.val * 1 + (W.rowMajor.symm k 0).val - 0 = b.val; omega
      | ⟨1, _⟩ => show h.val * 1 + (W.rowMajor.symm k 1).val - 0 = h.val; omega
      | ⟨2, _⟩ => show t.val * 1 + (W.rowMajor.symm k 2).val - 0 = t.val; omega
      | ⟨3, _⟩ => show s.val * 1 + (W.rowMajor.symm k 3).val - 0 = s.val + (W.rowMajor.symm k 3).val; omega
    · intro a
      match a with
      | ⟨0, _⟩ => show 0 ≤ b.val * 1 + (W.rowMajor.symm k 0).val ∧ b.val * 1 + (W.rowMajor.symm k 0).val - 0 < 8; omega
      | ⟨1, _⟩ => show 0 ≤ h.val * 1 + (W.rowMajor.symm k 1).val ∧ h.val * 1 + (W.rowMajor.symm k 1).val - 0 < 8; omega
      | ⟨2, _⟩ => show 0 ≤ t.val * 1 + (W.rowMajor.symm k 2).val ∧ t.val * 1 + (W.rowMajor.symm k 2).val - 0 < 4096; omega
      | ⟨3, _⟩ => show 0 ≤ s.val * 1 + (W.rowMajor.symm k 3).val ∧ s.val * 1 + (W.rowMajor.symm k 3).val - 0 < 4096; omega
  · rw [dif_neg hk, dif_neg]
    intro hin
    have h3 : 0 ≤ s.val * 1 + (W.rowMajor.symm k 3).val ∧ s.val * 1 + (W.rowMajor.symm k 3).val - 0 < 4096 := hin 3
    omega

/-! ## The reference's pieces -/

/-- The shape of the scores: batch, head, query, key. -/
abbrev SZ : Shape := S8x8x4096x4096

/-- The scores of every head. -/
def z (q k : SQ.Idx → EReal) : FVec Ideal SZ .f32 :=
  Host.dotGeneral dot_S8x4096x8x64_S8x4096x8x64_S8x8x4096x4096_3_3_1_1_02_02 none (shapeCast _ (extf (F := Ideal) (φ := .bf16) .f32 q bitsLt_bf16_f32) shapeCasts_S8x4096x512_S8x4096x8x64) (shapeCast _ (extf (F := Ideal) (φ := .bf16) .f32 k bitsLt_bf16_f32) shapeCasts_S8x4096x512_S8x4096x8x64)

/-- The softplus of every entry. -/
def sp (x : FVec Ideal SZ .f32) : FVec Ideal SZ .f32 :=
  select (cmpf .une (subf x (broadcastInDim S8x8x4096x4096 ![] bcast_S_S8x8x4096x4096 (constant S_ .f32 0x00000000#32))) (subf x (broadcastInDim S8x8x4096x4096 ![] bcast_S_S8x8x4096x4096 (constant S_ .f32 0x00000000#32))))
    (addf x (broadcastInDim S8x8x4096x4096 ![] bcast_S_S8x8x4096x4096 (constant S_ .f32 0x00000000#32)))
    (addf (maximumf x (broadcastInDim S8x8x4096x4096 ![] bcast_S_S8x8x4096x4096 (constant S_ .f32 0x00000000#32)))
      (Host.log1p (Host.exp (Host.negf (Host.absf (subf x (broadcastInDim S8x8x4096x4096 ![] bcast_S_S8x8x4096x4096 (constant S_ .f32 0x00000000#32))))))))

/-- The mask: keys before the query. -/
def before : IVec SZ 1 :=
  broadcastInDim S8x8x4096x4096 ![2, 3] bcast_S4096x4096_S8x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- Zero everywhere. -/
def none0 : FVec Ideal SZ .f32 := broadcastInDim S8x8x4096x4096 ![] bcast_S_S8x8x4096x4096 (id (constant S_ .f32 0x00000000#32))

/-- The logarithms of one minus the sigmoids of the scores, zero at and after the query. -/
def lb (q k : SQ.Idx → EReal) : FVec Ideal SZ .f32 := select before (Host.negf (sp (z q k))) none0

/-- The running sums of those, from each key on. -/
def later (q k : SQ.Idx → EReal) : FVec Ideal SZ .f32 :=
  Host.reduceWindowAdd ![1, 1, 1, 4096] ![1, 1, 1, 1] ![0, 0, 0, 0] ![0, 0, 0, 4095] (lb q k) (broadcastInDim S_ ![] bcast_S_S_ (constant S_ .f32 0x00000000#32)) reduceWindows_S8x8x4096x4096_S8x8x4096x4096_w1s1p0_0_w1s1p0_0_w1s1p0_0_w4096s1p0_4095 h_S_

/-- The weights. -/
def wts (q k : SQ.Idx → EReal) : FVec Ideal SZ .f32 :=
  select before (Host.exp (addf (Host.negf (sp (Host.negf (z q k)))) (subf (later q k) (lb q k)))) none0

/-- The result, from the weights. -/
def res (q k v : SQ.Idx → EReal) : FVec Ideal S8x4096x512 .bf16 :=
  truncf .bf16 (shapeCast _ (transpose S8x4096x8x64 [0, 3, 1, 2] (Host.dotGeneral dot_S8x4096x8x64_S8x8x4096x4096_S8x8x64x4096_1_3_3_2_02_01 none (shapeCast _ (extf (F := Ideal) (φ := .bf16) .f32 v bitsLt_bf16_f32) shapeCasts_S8x4096x512_S8x4096x8x64) (wts q k)) transposes_S8x8x64x4096_S8x4096x8x64_0_3_1_2) shapeCasts_S8x4096x8x64_S8x4096x512) bitsLt_bf16_f32

/-- The reference's result is that of its arguments. -/
theorem res_eq (m : (ℓ : Loc nD τ sig) → Buf (Elt Ideal) ℓ) (c : Dev nD) :
    Value.res_main_v26 m c = res (m ((c.tc : Thread nD τ).loc main_arg0)) (m ((c.tc : Thread nD τ).loc main_arg1)) (m ((c.tc : Thread nD τ).loc main_arg2)) := rfl

theorem before_at (b h : Fin 8) (t s : Fin 4096) : before (ix4 b h t s) = if s.val < t.val then 1#1 else 0#1 := by
  unfold before
  pointwise
  rw [WordCmp.cmpi_slt_ofNat (by have := s.isLt; omega) (by have := t.isLt; omega)]
  by_cases h : s.val < t.val <;> simp [h]

theorem none0_at (i : SZ.Idx) : none0 i = 0 := by
  unfold none0
  pointwise
  simp only [id]
  pointwise

theorem sp_at (x : FVec Ideal SZ .f32) (i : SZ.Idx) : sp x i = spE (x i) := by
  unfold sp spE
  pointwise
  rw [if_neg (by simp), zero_sub]
  rfl

theorem z_at (q k : SQ.Idx → EReal) (b h : Fin 8) (t s : Fin 4096) : z q k (ix4 b h t s) = score q k b h t s := by
  unfold z
  pointwise
  unfold score
  refine Finset.sum_congr rfl fun d _ => ?_
  have e : h.val * 64 + d.val = 64 * h.val + d.val := by rw [Nat.mul_comm]
  simp only [e]

/-! ## The weights of one query -/

section
variable (q k : SQ.Idx → EReal) (hq : Finite q) (hk : Finite k) (b h : Fin 8) (t s : Fin 4096)
include hq hk

/-- A masked logarithm is minus the softplus of the score. -/
theorem lb_at : lb q k (ix4 b h t s) = if s.val < t.val then -((spR (scoreZ q k b h t s.val) : ℝ) : EReal) else 0 := by
  have e : lb q k (ix4 b h t s) = Scalar.select (before (ix4 b h t s)) (-(sp (z q k) (ix4 b h t s))) (none0 (ix4 b h t s)) := rfl
  rw [e, before_at, sp_at, z_at, score_real q k hq hk, spE_coe, none0_at]
  by_cases hs : s.val < t.val
  · rw [if_pos hs, if_pos hs]; rfl
  · rw [if_neg hs, if_neg hs]; rfl

/-- The running sum at a key before the query. -/
theorem later_at (hs : s.val < t.val) :
    later q k (ix4 b h t s) = ((-(∑ s' ∈ Finset.Ico s.val t.val, spR (scoreZ q k b h t s')) : ℝ) : EReal) := by
  unfold later
  have ht := t.isLt
  rw [window_at _ _ _ _ _ _ (fun i => by pointwise)]
  have e : ((-(∑ s' ∈ Finset.Ico s.val t.val, spR (scoreZ q k b h t s')) : ℝ) : EReal)
      = ∑ s' ∈ Finset.Ico s.val (s.val + (t.val - s.val)), ((-spR (scoreZ q k b h t s') : ℝ) : EReal) := by
    rw [← coe_sum, Finset.sum_neg_distrib, show s.val + (t.val - s.val) = t.val by omega]
  rw [e, ← sum_first (fun s' => ((-spR (scoreZ q k b h t s') : ℝ) : EReal)) s.val 4096 (t.val - s.val) (by omega)]
  refine Finset.sum_congr rfl fun n _ => ?_
  by_cases hn : s.val + n.val < 4096
  · rw [dif_pos hn, lb_at q k hq hk b h t ⟨s.val + n.val, hn⟩]
    by_cases hn' : n.val < t.val - s.val
    · rw [if_pos hn', if_pos (show s.val + n.val < t.val by omega), EReal.coe_neg]
    · rw [if_neg hn', if_neg (show ¬ s.val + n.val < t.val by omega)]
  · rw [dif_neg hn, if_neg (by omega)]

/-- The weights: those of stick-breaking for the keys before the query, zero for the others. -/
theorem wts_at : wts q k (ix4 b h t s) = if s.val < t.val then ((wt (scoreZ q k b h t) t.val s.val : ℝ) : EReal) else 0 := by
  have e : wts q k (ix4 b h t s) = Scalar.select (before (ix4 b h t s))
      (Ideal.exp (-(sp (Host.negf (z q k)) (ix4 b h t s)) + (later q k (ix4 b h t s) - lb q k (ix4 b h t s)))) (none0 (ix4 b h t s)) := rfl
  rw [e, before_at, none0_at]
  by_cases hs : s.val < t.val
  · rw [if_pos hs, if_pos hs]
    refine Eq.trans (show _ = Ideal.exp (-(sp (Host.negf (z q k)) (ix4 b h t s)) + (later q k (ix4 b h t s) - lb q k (ix4 b h t s))) from rfl) ?_
    rw [sp_at, show Host.negf (z q k) (ix4 b h t s) = -(z q k (ix4 b h t s)) from rfl, z_at, score_real q k hq hk, ← EReal.coe_neg,
      spE_coe, later_at q k hq hk b h t s hs, lb_at q k hq hk, if_pos hs, ← EReal.coe_neg, ← EReal.coe_neg, ← EReal.coe_sub, ← EReal.coe_add,
      exp_coe, spR_neg]
    unfold wt
    congr 2
    rw [Finset.sum_eq_sum_Ico_succ_bot hs]
    ring
  · rw [if_neg hs, if_neg hs]; rfl

end

/-- **The reference's result** at a batch, a position and a column. -/
theorem res_at (q k v : SQ.Idx → EReal) (hq : Finite q) (hk : Finite k) (b : Fin 8) (t : Fin 4096) (col : Fin 512) :
    res q k v (ix3 b t col) = attnAt q k v b t col := by
  unfold res
  pointwise
  unfold attnAt acc
  have ht := t.isLt
  have h := sum_first (fun s => ((wt (scoreZ q k b ⟨col.val / 64, by omega⟩ t) t.val s : ℝ) : EReal) * colV v b col s) 0 4096 t.val ht.le
  simp only [Nat.zero_add] at h
  rw [← h]
  refine Finset.sum_congr rfl fun s _ => ?_
  refine (congrArg₂ (· * ·) (colV_at v b col s) (wts_at q k hq hk b _ t s)).trans ?_
  by_cases hs : s.val < t.val
  · rw [if_pos hs, if_pos hs, mul_comm]
  · rw [if_neg hs, if_neg hs, mul_zero]

end Cert.ReferenceIdeal.Attn

end
-- ==== Proof.Attn.lean ====
/-
  The attention call's claims: the frames, and the equality of the kernel's and the reference's results.
-/
module

public import proofs.«01_k».proof.Defs
public import proofs.«01_k».proof.Proof.AttnValue
public import proofs.«01_k».proof.Proof.AttnRef
public import proofs.«01_k».proof.Proof.Gen.Kernel.Frame
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.Attn

open Cert.AttnMath

/-! ## The precondition -/

theorem andi_one : ∀ a b : BitVec 1, IntOp.andi a b = 1#1 → a = 1#1 ∧ b = 1#1 := by decide

/-- An extended real whose absolute value is below `⊤` is a real. -/
theorem real_of_lt (x : EReal) (h : max x (-x) < ⊤) : ∃ r : ℝ, x = r := by
  induction x with
  | bot => simp at h
  | top => simp at h
  | coe r => exact ⟨r, rfl⟩

/-- Comparing below positive infinity is comparing below `⊤`. -/
theorem below_top (x : EReal) : BitVec.ofBool (decide (max x (-x) < Ideal.ofBits FTy.f32 2139095040#32)) = 1#1 → max x (-x) < ⊤ := by
  have e : Ideal.ofBits FTy.f32 2139095040#32 = ⊤ := by
    unfold Ideal.ofBits
    simp [Ideal.ieee]
  rw [e]
  by_cases h : max x (-x) < ⊤
  · exact fun _ => h
  · simp [h]

instance : Subsingleton Cert.Pre_finite.S_.Idx := ⟨fun a b => funext fun x => x.elim0⟩

/-- The precondition says that every query and every key is finite. -/
theorem finite_of_pre (q k v : SQ.Idx → EReal) (h : Cert.Pre_finite.fn (F := Ideal) q k v = fun _ => 1#1) : Finite q ∧ Finite k := by
  have h0 := congrFun h ix0
  unfold Cert.Pre_finite.fn at h0
  dsimp only at h0
  obtain ⟨ha, hb⟩ := andi_one _ _ h0
  refine ⟨fun i => real_of_lt _ ?_, fun i => real_of_lt _ ?_⟩
  · have e := Host.reduce_andi_all _ _ _ _ _ ha i
    revert e
    pointwise
    exact below_top _
  · have e := Host.reduce_andi_all _ _ _ _ _ hb i
    revert e
    pointwise
    exact below_top _

/-! ## The claims -/

theorem kernel_frame : Cert.quiescent_Kernel := fun m ρ _ => Cert.Kernel.Gen.frame m ρ

theorem kernelIdeal_frame : Cert.quiescent_KernelIdeal := fun m ρ _ => Cert.KernelIdeal.Gen.frame m ρ

theorem kernelIdeal_frame_finite : Cert.quiescent_KernelIdeal_pre_finite := fun m ρ _ => Cert.KernelIdeal.Gen.frame m ρ

theorem referenceIdeal_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem referenceIdeal_frame_finite : Cert.quiescent_ReferenceIdeal_pre_finite := fun m ρ _ => referenceIdeal_frame m ρ trivial

/-- **The value claim**: from finite queries and keys the kernel's result is the reference's. -/
theorem value : Cert.algebraic_KernelIdeal_ReferenceIdeal_pre_finite := by
  intro m ρ m' ρ' hpre hagree
  have hf := fun c => finite_of_pre _ _ _ (hpre c)
  refine ⟨fun c => Cert.KernelIdeal.Attn.goal m c, Cert.KernelIdeal.Attn.run m ρ (fun c => (hf c).1) (fun c => (hf c).2), ?_⟩
  refine (θ_run Cert.ReferenceIdeal.defs _ _).mono (fun r h c => ⟨(h c).1.trans ?_, (h c).2⟩) (Cert.ReferenceIdeal.Value.run (F := Ideal) m' ρ')
  rw [Cert.ReferenceIdeal.Attn.res_eq, (hagree c).1, (hagree c).2.1, (hagree c).2.2]
  funext i
  rw [eq_ix3 i]
  exact Cert.ReferenceIdeal.Attn.res_at _ _ _ (hf c).1 (hf c).2 _ _ _

end Cert.Attn

end
-- ==== Proof.TailMath.lean ====
/-
  The layer's tail on one row: the mathematics both programs are shown to compute, with no program in it.
-/
module

public import Idealize.ShloMosaic.PureOps.Ideal
public import Idealize.ShloMosaic.Lib.Pointwise

@[expose] public section

noncomputable section

open Idealize.ShloMosaic

namespace Cert.TailMath

/-- A row times a matrix, at column `n`. -/
def dotRow {K N : ℕ} (r : Fin K → EReal) (w : Fin K → Fin N → EReal) (n : Fin N) : EReal := ∑ k, r k * w k n

/-- The number the mean of squares is divided by, as its 32-bit pattern names it, and the small number added. -/
def n512 : EReal := Ideal.ofBits .f32 0x44000000#32
def n1024 : EReal := Ideal.ofBits .f32 0x44800000#32
def eps : EReal := Ideal.ofBits .f32 0x358637BD#32

/-- Root-mean-square normalisation of a row with weights `w`, at column `k`. -/
def rms {K : ℕ} (d : EReal) (r w : Fin K → EReal) (k : Fin K) : EReal :=
  r k * Ideal.rsqrt (Ideal.div (∑ j, r j * r j) d + eps) * w k

/-- The output projection of the two mixers' rows side by side: the first 512 rows of the matrix take the first mixer's, the
    last 512 the second's. -/
def mix (hg sb : Fin 512 → EReal) (w : Fin 1024 → Fin 1024 → EReal) (n : Fin 1024) : EReal :=
  ∑ k : Fin 512, hg k * w ⟨k.val, by omega⟩ n + ∑ k : Fin 512, sb k * w ⟨512 + k.val, by omega⟩ n

/-- The residual stream after the mixers: the two mixers' outputs projected, normalised, added. -/
def afterMix (x : Fin 1024 → EReal) (hg sb sbn : Fin 512 → EReal) (wout : Fin 1024 → Fin 1024 → EReal) (apn : Fin 1024 → EReal) (k : Fin 1024) : EReal :=
  x k + rms n1024 (mix hg (rms n512 sb sbn) wout) apn k

/-- A hidden unit of the feed-forward network: the gate times its sigmoid, times the up projection. -/
def unit (u : Fin 1024 → EReal) (wg wu : Fin 1024 → Fin 2816 → EReal) (j : Fin 2816) : EReal :=
  dotRow u wg j * Ideal.logistic (dotRow u wg j) * dotRow u wu j

/-- The residual stream after the feed-forward network. -/
def afterFfn (h fpre : Fin 1024 → EReal) (wg wu : Fin 1024 → Fin 2816 → EReal) (wd : Fin 2816 → Fin 1024 → EReal) (fpost : Fin 1024 → EReal)
    (k : Fin 1024) : EReal :=
  h k + rms n1024 (dotRow (unit (rms n1024 h fpre) wg wu) wd) fpost k

/-- The residual stream after the input embedding, gated by the sigmoid of a projection of the stream. -/
def afterEmb (h : Fin 1024 → EReal) (p : Fin 256 → EReal) (proj : Fin 256 → Fin 1024 → EReal) (gate : Fin 1024 → Fin 1024 → EReal)
    (k : Fin 1024) : EReal :=
  h k + dotRow p proj k * Ideal.logistic (dotRow h gate k)

/-- A sum over the hidden units is the sum over eleven chunks of the sums over their 256 units. -/
theorem sum_chunks (f : Fin 2816 → EReal) : ∑ j, f j = ∑ k : Fin 11, ∑ s : Fin 256, f ⟨256 * k.val + s.val, by omega⟩ := by
  rw [← Fintype.sum_prod_type' (fun (k : Fin 11) (s : Fin 256) => f ⟨256 * k.val + s.val, by omega⟩)]
  refine (Fintype.sum_equiv (finProdFinEquiv (m := 11) (n := 256)) _ _ fun a => ?_).symm
  congr 1
  exact Fin.ext (Nat.add_comm _ _)

/-- The tail of the layer on its arguments, at batch `b`, position `t` and column `n`. -/
def tailAt (x : (⟨3, ![8, 4096, 1024]⟩ : Shape).Idx → EReal) (hg sb : (⟨3, ![8, 4096, 512]⟩ : Shape).Idx → EReal)
    (p : (⟨4, ![1, 8, 4096, 256]⟩ : Shape).Idx → EReal) (sbn : (⟨2, ![1, 512]⟩ : Shape).Idx → EReal)
    (wout : (⟨3, ![1, 1024, 1024]⟩ : Shape).Idx → EReal) (apn fpre : (⟨2, ![1, 1024]⟩ : Shape).Idx → EReal)
    (wgu : (⟨3, ![1, 1024, 5632]⟩ : Shape).Idx → EReal) (wd : (⟨3, ![1, 2816, 1024]⟩ : Shape).Idx → EReal) (fpost : (⟨2, ![1, 1024]⟩ : Shape).Idx → EReal)
    (proj : (⟨3, ![1, 256, 1024]⟩ : Shape).Idx → EReal) (gate : (⟨3, ![1, 1024, 1024]⟩ : Shape).Idx → EReal)
    (b : Fin 8) (t : Fin 4096) (n : Fin 1024) : EReal :=
  afterEmb
    (afterFfn
      (afterMix (fun k => x (ix3 b t k)) (fun k => hg (ix3 b t k)) (fun k => sb (ix3 b t k)) (fun k => sbn (ix2 0 k)) (fun k j => wout (ix3 0 k j))
        (fun k => apn (ix2 0 k)))
      (fun k => fpre (ix2 0 k)) (fun k j => wgu (ix3 0 k ⟨j.val, by omega⟩)) (fun k j => wgu (ix3 0 k ⟨2816 + j.val, by omega⟩))
      (fun j k => wd (ix3 0 j k)) (fun k => fpost (ix2 0 k)))
    (fun k => p (ix4 0 b t k)) (fun k j => proj (ix3 0 k j)) (fun k j => gate (ix3 0 k j)) n

end Cert.TailMath

end
-- ==== Proof.TailLoops.lean ====
/-
  The layer's tail, inside one grid point: the two counted loops of its body. The first fills the scratch buffer with the
  eleven 256-wide parts of the gated activation, the second adds up the eleven partial products with the down projection.
-/
module

public import proofs.«01_k».proof.Proof.Gen.Kernel2Ideal.Frame.Runs
public import Idealize.ShloMosaic.Lib.WritesUnit
public import Idealize.ShloMosaic.Lib.VecWindow
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.Kernel2Ideal.Tail

open Cert.Kernel2Ideal Cert.Kernel2Ideal.Gen

variable {F : FTy → Type} [FloatOps F]

/-- Slab `k` of a stack of eleven matrices. -/
def slab {a b : ℕ} {e : EltTy} (x : Vec F ⟨3, ![11, a, b]⟩ e) (k : Fin 11) : Vec F ⟨3, ![1, a, b]⟩ e :=
  fun y => x (ix3 k (y 1) (y 2))

/-- Part `k` of the gated activation: the sigmoid-weighted gate times the up projection, over the hidden units
    `256 * k … 256 * k + 255`. -/
def act (u : Vec F S512x1024 .bf16) (x9 x10 : Vec F S11x1024x256 .bf16) (k : Fin 11) : FVec F S1x512x256 .bf16 :=
  k0_pay6 u (slab x9 k) (slab x10 k)

/-- The down projection of the first `n` parts of the activation. -/
def ffn (u : Vec F S512x1024 .bf16) (x9 x10 : Vec F S11x1024x256 .bf16) (x11 : Vec F S11x256x1024 .bf16) : ℕ → FVec F S512x1024 .f32
  | 0 => k0_pay7
  | n + 1 => if h : n < 11 then k0_pay8 (ffn u x9 x10 x11 n) (act u x9 x10 ⟨n, h⟩) (slab x11 ⟨n, h⟩) else ffn u x9 x10 x11 n

/-- What the tail's body stores, from its input blocks. -/
def block (x0 : Vec F S512x1024 .f32) (x1 : Vec F S512x512 .bf16) (x2 : Vec F S512x512 .bf16) (x3 : Vec F S512x256 .f32) (x4 : Vec F S1x512 .f32) (x5 : Vec F S1x1024 .f32) (x6 : Vec F S1x1024 .f32) (x7 : Vec F S1x1024 .f32) (x8 : Vec F S1024x1024 .bf16) (x9 : Vec F S11x1024x256 .bf16) (x10 : Vec F S11x1024x256 .bf16) (x11 : Vec F S11x256x1024 .bf16) (x12 : Vec F S256x1024 .bf16) (x13 : Vec F S1024x1024 .bf16) : FVec F S512x1024 .f32 :=
  k0_pay1 (k0_pay4 (k0_pay2 x0) (k0_pay3 x2 x4 x1 x8 x5))
    (k0_pay9 (ffn (k0_pay5 (k0_pay2 x0) (k0_pay3 x2 x4 x1 x8 x5) x6) x9 x10 x11 11) x7) x3 x12 x13

theorem hz2 : (![0, 0] : Fin 2 → Nat) = fun _ => 0 := funext fun a => by fin_cases a <;> rfl

theorem trips1 : k0_t1_loop.trips = 11 := by decide +kernel
theorem trips2 : k0_t2_loop.trips = 11 := by decide +kernel

theorem iv_eq : ∀ k : Fin 11, (Scalar.indexCast (Scf.iv 0#32 1#32 k.val) : Index).toNat = k.val := by decide +kernel

theorem off1_eq (k : Fin k0_t1_loop.trips) (h : k.val < 11) : k0_off1 k = ![k.val, 0, 0] := by
  have := iv_eq ⟨k.val, h⟩
  unfold k0_off1
  exact congrArg (fun n => ![n, 0, 0]) this
theorem off2_eq (k : Fin k0_t1_loop.trips) (h : k.val < 11) : k0_off2 k = ![k.val, 0, 0] := off1_eq k h
theorem off3_eq (k : Fin k0_t2_loop.trips) (h : k.val < 11) : k0_off3 k = ![k.val, 0, 0] := off1_eq k h
theorem off4_eq (k : Fin k0_t2_loop.trips) (h : k.val < 11) : k0_off4 k = ![k.val, 0, 0] := off1_eq k h

/-- A load of one slab of a stack. -/
theorem ld_slab {a b : ℕ} {e : EltTy} (x : Vec F ⟨3, ![11, a, b]⟩ e) (k : Fin 11) (off : Fin 3 → Nat) (h : off = ![k.val, 0, 0])
    (inb : ∀ d, off d + (![1, a, b] : Fin 3 → Nat) d ≤ (⟨3, ![11, a, b]⟩ : Shape).size d) :
    View.ld x (Rect.unit (s := ⟨3, ![11, a, b]⟩) off ![1, a, b] inb) = slab x k := by
  subst h
  funext y
  show x _ = x _
  congr 1
  funext d
  apply Fin.ext
  match d with
  | ⟨0, _⟩ =>
    have : (y 0).val < 1 := (y 0).isLt
    show k.val + 1 * (y 0).val = k.val
    omega
  | ⟨1, _⟩ => show 0 + 1 * (y 1).val = (y 1).val; omega
  | ⟨2, _⟩ => show 0 + 1 * (y 2).val = (y 2).val; omega

section
variable (𝒱 : Variants) (c : Dev nD) (bd : Option 𝒱.V) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S11x1024x256 .bf16) (harg10 : arg10.IsWhole) (arg11 : Memref sig .tc .vmem S11x1024x256 .bf16) (harg11 : arg11.IsWhole) (arg12 : Memref sig .tc .vmem S11x256x1024 .bf16) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S11x512x256 .bf16) (harg17 : arg17.IsWhole)
    (v25 v39 : FVec F S512x1024 .f32) (u : Vec F S512x1024 .bf16) (x9 x10 : Vec F S11x1024x256 .bf16) (x11 : Vec F S11x256x1024 .bf16)
    (X16 : BufTy.Contents (Elt F) arg16.view.ty)

/-- Trip `k` of the first loop stores part `k` of the activation in slab `k` of the scratch buffer. -/
theorem trip1 (hu : arg16.view.read (Elt F) X16 = u) (k : Fin k0_t1_loop.trips) (h : k.val < 11) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 (harg10.unread x9) (harg11.unread x10) X16 k
      = [⟨Rect.unit (s := S11x512x256) (k0_off2 k) S1x512x256.size (k0_off2_inb k), act u x9 x10 ⟨k.val, h⟩⟩] := by
  unfold tripL_k0_t1 trip_k0_t1
  dsimp only
  sl_unfold_run_names
  simp only [View.readAt_eq_ld, harg10.read_unread, harg11.read_unread, hu, View.ld_unit_zero (S := S512x1024) hz2]
  unfold act
  rw [← ld_slab x9 ⟨k.val, h⟩ (k0_off1 k) (off1_eq k h) (k0_off1_inb k), ← ld_slab x10 ⟨k.val, h⟩ (k0_off1 k) (off1_eq k h) (k0_off1_inb k)]

/-- After `n` trips the first `n` slabs hold the first `n` parts, whatever the scratch buffer held before. -/
theorem slabs (hu : arg16.view.read (Elt F) X16 = u) (G : BufTy.Contents (Elt F) arg17.view.ty) (n : ℕ) (hn : n ≤ 11) (j : Fin 11) (hj : j.val < n) :
    slab (arg17.view.read (Elt F) (arg17.view.writes (Elt F) G
      (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 (harg10.unread x9) (harg11.unread x10) X16 n))) j = act u x9 x10 j := by
  induction n with
  | zero => omega
  | succ n ih =>
    rw [pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 (harg10.unread x9) (harg11.unread x10) X16 ⟨n, by rw [trips1]; omega⟩,
      trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 u x9 x10 X16 hu ⟨n, by rw [trips1]; omega⟩ (by show n < 11; omega)]
    by_cases e : j.val = n
    · funext y
      show arg17.view.read (Elt F) _ (ix3 j (y 1) (y 2)) = _
      have hj' : j = ⟨n, by omega⟩ := Fin.ext e
      rw [hj']
      refine View.read_writes_cons_unit_of_mem (s := S11x512x256) arg17.view G _ _ _ _ y (off2_eq ⟨n, by rw [trips1]; omega⟩ (by show n < 11; omega)) fun a => ?_
      match a with
      | ⟨0, _⟩ =>
        have : (y 0).val < 1 := (y 0).isLt
        show n = n + (y 0).val
        omega
      | ⟨1, _⟩ => show (y 1).val = 0 + (y 1).val; omega
      | ⟨2, _⟩ => show (y 2).val = 0 + (y 2).val; omega
    · rw [← ih (by omega) (by omega)]
      funext y
      refine View.read_writes_cons_unit_of_not_mem (s := S11x512x256) arg17.view G _ _ _ _ (off2_eq ⟨n, by rw [trips1]; omega⟩ (by show n < 11; omega)) (0 : Fin 3) ?_
      left
      show j.val < n
      omega

/-- Trip `k` of the second loop adds the product of slab `k` of the scratch buffer with slab `k` of the down projection. -/
theorem trip2 (X17 : BufTy.Contents (Elt F) arg17.view.ty) (k : Fin k0_t2_loop.trips) (h : k.val < 11) (s : FVec F S512x1024 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 (harg12.unread x11) X17 k s
      = k0_pay8 s (slab (arg17.view.read (Elt F) X17) ⟨k.val, h⟩) (slab x11 ⟨k.val, h⟩) := by
  unfold tripR_k0_t2 trip_k0_t2
  dsimp only
  sl_unfold_run_names
  simp only [View.readAt_eq_ld, harg12.read_unread]
  rw [← ld_slab x11 ⟨k.val, h⟩ (k0_off4 k) (off4_eq k h) (k0_off4_inb k),
    ← ld_slab (arg17.view.read (Elt F) X17) ⟨k.val, h⟩ (k0_off3 k) (off3_eq k h) (k0_off3_inb k)]

/-- The second loop's carried value is the down projection of the parts taken in. -/
theorem carried (X17 : BufTy.Contents (Elt F) arg17.view.ty) (h17 : ∀ j : Fin 11, slab (arg17.view.read (Elt F) X17) j = act u x9 x10 j)
    (n : ℕ) (hn : n ≤ 11) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 (harg12.unread x11) X17 k0_pay7 n = ffn u x9 x10 x11 n := by
  induction n with
  | zero => rw [st_k0_t2_zero]; rfl
  | succ n ih =>
    rw [st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 (harg12.unread x11) X17 k0_pay7 ⟨n, by rw [trips2]; omega⟩,
      trip2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v39 x11 X17 ⟨n, by rw [trips2]; omega⟩ (by show n < 11; omega), h17, ih (by omega), ffn, dif_pos (show n < 11 by omega)]

end
end Cert.Kernel2Ideal.Tail

end
-- ==== Proof.TailBlock.lean ====
/-
  What the tail's body stores, row by row: the mathematics of `TailMath` on the rows of its blocks.
-/
module

public import proofs.«01_k».proof.Proof.TailMath
public import proofs.«01_k».proof.Proof.TailLoops

@[expose] public section

set_option maxRecDepth 16384

noncomputable section

open Idealize.ShloMosaic Idealize.ShloMosaic.TcCoe Idealize.SL.Sem

namespace Cert.Kernel2Ideal.Tail

open Cert.Kernel2Ideal Cert.Kernel2Ideal.Gen Cert.TailMath

/-- Row `r` of a matrix, and a matrix as a function of its two indices. -/
abbrev row {a b : ℕ} (x : (⟨2, ![a, b]⟩ : Shape).Idx → EReal) (r : Fin a) : Fin b → EReal := fun k => x (ix2 r k)
abbrev mat {a b : ℕ} (x : (⟨2, ![a, b]⟩ : Shape).Idx → EReal) : Fin a → Fin b → EReal := fun r k => x (ix2 r k)
/-- A weight stored as eleven slabs of 256 columns, and one stored as eleven slabs of 256 rows. -/
abbrev cols (x : S11x1024x256.Idx → EReal) : Fin 1024 → Fin 2816 → EReal :=
  fun k j => x (ix3 ⟨j.val / 256, by omega⟩ k ⟨j.val % 256, by omega⟩)
abbrev rows (x : S11x256x1024.Idx → EReal) : Fin 2816 → Fin 1024 → EReal :=
  fun j k => x (ix3 ⟨j.val / 256, by omega⟩ ⟨j.val % 256, by omega⟩ k)

theorem res_row (x0 : FVec Ideal S512x1024 .f32) (r : Fin 512) (n : Fin 1024) : k0_pay2 x0 (ix2 r n) = x0 (ix2 r n) := by
  unfold k0_pay2
  pointwise

theorem mix_row (x2 : Vec Ideal S512x512 .bf16) (x4 : Vec Ideal S1x512 .f32) (x1 : Vec Ideal S512x512 .bf16) (x8 : Vec Ideal S1024x1024 .bf16)
    (x5 : Vec Ideal S1x1024 .f32) (r : Fin 512) (n : Fin 1024) :
    (k0_pay3 x2 x4 x1 x8 x5 : FVec Ideal S512x1024 .f32) (ix2 r n)
      = rms n1024 (mix (row x1 r) (rms n512 (row x2 r) (row x4 0)) (mat x8)) (row x5 0) n := by
  unfold k0_pay3
  pointwise
  rfl

theorem afterMix_row (x0 : Vec Ideal S512x1024 .f32) (x2 : Vec Ideal S512x512 .bf16) (x4 : Vec Ideal S1x512 .f32) (x1 : Vec Ideal S512x512 .bf16)
    (x8 : Vec Ideal S1024x1024 .bf16) (x5 : Vec Ideal S1x1024 .f32) (r : Fin 512) :
    row (k0_pay4 (k0_pay2 x0) (k0_pay3 x2 x4 x1 x8 x5) : FVec Ideal S512x1024 .f32) r
      = afterMix (row x0 r) (row x1 r) (row x2 r) (row x4 0) (mat x8) (row x5 0) := by
  funext n
  unfold k0_pay4 afterMix row
  pointwise
  exact congrArg₂ (· + ·) (res_row x0 r n) (mix_row x2 x4 x1 x8 x5 r n)

theorem norm_row (a b : FVec Ideal S512x1024 .f32) (x6 : Vec Ideal S1x1024 .f32) (r : Fin 512) :
    row (k0_pay5 a b x6 : FVec Ideal S512x1024 .bf16) r = rms n1024 (row (k0_pay4 a b) r) (row x6 0) := by
  funext n
  unfold k0_pay5 row
  generalize k0_pay4 a b = h
  pointwise
  rfl

theorem unit_row (u : FVec Ideal S512x1024 .bf16) (x9 x10 : Vec Ideal S11x1024x256 .bf16) (k : Fin 11) (r : Fin 512) (s : Fin 256) :
    (act u x9 x10 k : FVec Ideal S1x512x256 .bf16) (ix3 0 r s)
      = unit (row u r) (cols x9) (cols x10) ⟨256 * k.val + s.val, by omega⟩ := by
  have hk : (⟨(256 * k.val + s.val) / 256, by omega⟩ : Fin 11) = k := Fin.ext (by show (256 * k.val + s.val) / 256 = k.val; omega)
  have hs : (⟨(256 * k.val + s.val) % 256, by omega⟩ : Fin 256) = s := Fin.ext (by show (256 * k.val + s.val) % 256 = s.val; omega)
  unfold act k0_pay6
  pointwise
  unfold unit dotRow cols
  simp only [hk, hs]
  rfl

theorem down_row (a : FVec Ideal S512x1024 .f32) (b : Vec Ideal S1x512x256 .bf16) (d : Vec Ideal S1x256x1024 .bf16) (r : Fin 512) (n : Fin 1024) :
    (k0_pay8 a b d : FVec Ideal S512x1024 .f32) (ix2 r n) = a (ix2 r n) + ∑ s : Fin 256, b (ix3 0 r s) * d (ix3 0 s n) := by
  unfold k0_pay8
  pointwise

/-- The down projection of the first `n` chunks, at an index. -/
theorem ffn_partial (u : FVec Ideal S512x1024 .bf16) (x9 x10 : Vec Ideal S11x1024x256 .bf16) (x11 : Vec Ideal S11x256x1024 .bf16) (r : Fin 512) (c : Fin 1024)
    (n : ℕ) (hn : n ≤ 11) :
    (ffn u x9 x10 x11 n : FVec Ideal S512x1024 .f32) (ix2 r c)
      = ∑ k : Fin n, ∑ s : Fin 256, unit (row u r) (cols x9) (cols x10) ⟨256 * k.val + s.val, by omega⟩ * rows x11 ⟨256 * k.val + s.val, by omega⟩ c := by
  induction n with
  | zero =>
    show (k0_pay7 : FVec Ideal S512x1024 .f32) (ix2 r c) = _
    unfold k0_pay7
    pointwise
    rw [Fin.sum_univ_zero]
  | succ n ih =>
    rw [ffn, dif_pos (show n < 11 by omega), down_row, Fin.sum_univ_castSucc (n := n), ih (by omega)]
    refine congrArg (fun z : EReal => _ + z) (Finset.sum_congr rfl fun s _ => congrArg₂ (fun y z : EReal => y * z) ?_ ?_)
    · exact unit_row u x9 x10 ⟨n, by omega⟩ r s
    · have hk : (⟨(256 * n + s.val) / 256, by omega⟩ : Fin 11) = ⟨n, by omega⟩ := Fin.ext (by show (256 * n + s.val) / 256 = n; omega)
      have hs : (⟨(256 * n + s.val) % 256, by omega⟩ : Fin 256) = s := Fin.ext (by show (256 * n + s.val) % 256 = s.val; omega)
      show x11 (ix3 ⟨n, by omega⟩ s c) = x11 (ix3 ⟨(256 * n + s.val) / 256, by omega⟩ ⟨(256 * n + s.val) % 256, by omega⟩ c)
      rw [hk, hs]

theorem ffn_row (u : FVec Ideal S512x1024 .bf16) (x9 x10 : Vec Ideal S11x1024x256 .bf16) (x11 : Vec Ideal S11x256x1024 .bf16) (r : Fin 512) :
    row (ffn u x9 x10 x11 11 : FVec Ideal S512x1024 .f32) r = dotRow (unit (row u r) (cols x9) (cols x10)) (rows x11) := by
  funext c
  unfold dotRow
  rw [sum_chunks]
  exact ffn_partial u x9 x10 x11 r c 11 le_rfl

theorem post_row (y : FVec Ideal S512x1024 .f32) (x7 : Vec Ideal S1x1024 .f32) (r : Fin 512) :
    row (k0_pay9 y x7 : FVec Ideal S512x1024 .f32) r = rms n1024 (row y r) (row x7 0) := by
  funext n
  unfold k0_pay9 row
  pointwise
  rfl

theorem emb_row (a b : FVec Ideal S512x1024 .f32) (x3 : Vec Ideal S512x256 .f32) (x12 : Vec Ideal S256x1024 .bf16) (x13 : Vec Ideal S1024x1024 .bf16)
    (r : Fin 512) (n : Fin 1024) :
    (k0_pay1 a b x3 x12 x13 : FVec Ideal S512x1024 .f32) (ix2 r n)
      = afterEmb (fun k => row a r k + row b r k) (row x3 r) (mat x12) (mat x13) n := by
  unfold k0_pay1
  pointwise
  rfl

/-- The whole body on a row. -/
theorem block_row (x0 : Vec Ideal S512x1024 .f32) (x1 : Vec Ideal S512x512 .bf16) (x2 : Vec Ideal S512x512 .bf16) (x3 : Vec Ideal S512x256 .f32)
    (x4 : Vec Ideal S1x512 .f32) (x5 : Vec Ideal S1x1024 .f32) (x6 : Vec Ideal S1x1024 .f32) (x7 : Vec Ideal S1x1024 .f32) (x8 : Vec Ideal S1024x1024 .bf16)
    (x9 : Vec Ideal S11x1024x256 .bf16) (x10 : Vec Ideal S11x1024x256 .bf16) (x11 : Vec Ideal S11x256x1024 .bf16) (x12 : Vec Ideal S256x1024 .bf16)
    (x13 : Vec Ideal S1024x1024 .bf16) (r : Fin 512) (n : Fin 1024) :
    (block x0 x1 x2 x3 x4 x5 x6 x7 x8 x9 x10 x11 x12 x13 : FVec Ideal S512x1024 .f32) (ix2 r n)
      = afterEmb (afterFfn (afterMix (row x0 r) (row x1 r) (row x2 r) (row x4 0) (mat x8) (row x5 0)) (row x6 0) (cols x9) (cols x10) (rows x11) (row x7 0))
          (row x3 r) (mat x12) (mat x13) n := by
  unfold block
  rw [emb_row, post_row, ffn_row, norm_row, afterMix_row]
  rfl

end Cert.Kernel2Ideal.Tail

end
-- ==== Proof.TailRun.lean ====
/-
  The tail's body run on whole staging buffers: from its fourteen input blocks it leaves `Tail.block` in the output's buffer.
-/
module

public import proofs.«01_k».proof.Proof.TailLoops

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Kernel2Ideal.Tail

open Cert.Kernel2Ideal Cert.Kernel2Ideal.Gen

variable {F : FTy → Type} [FloatOps F]

set_option maxHeartbeats 4000000 in
/-- The body, holding its inputs at their blocks and the output and the two scratch buffers at anything, runs to its end with
    the inputs as they were, the output at `block` of them, and the scratch buffers at something. -/
theorem body_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S11x1024x256 .bf16) (harg10 : arg10.IsWhole) (arg11 : Memref sig .tc .vmem S11x1024x256 .bf16) (harg11 : arg11.IsWhole) (arg12 : Memref sig .tc .vmem S11x256x1024 .bf16) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S11x512x256 .bf16) (harg17 : arg17.IsWhole) (x0 : Vec F S512x1024 .f32) (x1 : Vec F S512x512 .bf16) (x2 : Vec F S512x512 .bf16) (x3 : Vec F S512x256 .f32) (x4 : Vec F S1x512 .f32) (x5 : Vec F S1x1024 .f32) (x6 : Vec F S1x1024 .f32) (x7 : Vec F S1x1024 .f32) (x8 : Vec F S1024x1024 .bf16) (x9 : Vec F S11x1024x256 .bf16) (x10 : Vec F S11x1024x256 .bf16) (x11 : Vec F S11x256x1024 .bf16) (x12 : Vec F S256x1024 .bf16) (x13 : Vec F S1024x1024 .bf16) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (block x0 x1 x2 x3 x4 x5 x6 x7 x8 x9 x10 x11 x12 x13) ∗ (∃ d, owns (c : Thread nD τ) arg16 fullShare d) ∗ (∃ d, owns (c : Thread nD τ) arg17 fullShare d)) -∗ K ⟨⟩))
      ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_tail_eq_skeleton]; unfold cc0_tail_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr
    swap; · iexact H14
    ipureintro
    sl_unfold_run_names
    rw [View.read_writes_full]
    have t1 : Scf.trips k0_t1_loop.lb k0_t1_loop.ub k0_t1_loop.st = 11 := trips1
    rw [t1]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
      View.ld_unit_zero (S := S512x1024) hz2, View.ld_unit_zero (S := S512x512) hz2, View.ld_unit_zero (S := S512x256) hz2,
      View.ld_unit_zero (S := S1x512) hz2, View.ld_unit_zero (S := S1x1024) hz2, View.ld_unit_zero (S := S1024x1024) hz2,
      View.ld_unit_zero (S := S256x1024) hz2]
    rw [carried Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ (k0_pay5 (k0_pay2 x0) (k0_pay3 x2 x4 x1 x8 x5) x6) x9 x10 x11 _
      (fun j => slabs Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ x9 x10 _ (View.read_writes_full _ _ _ _ _) _ 11 le_rfl j j.isLt) 11 le_rfl]
    rfl
  isplitl [HS0]
  · iexists _, _; isplitr; swap; · iexact HS0
    ipureintro; rfl
  iexists _, _; isplitr; swap; · iexact HS1
  ipureintro; rfl

end Cert.Kernel2Ideal.Tail

end
-- ==== Proof.TailFrame.lean ====
/-
  The tail as launched: the body's run at every grid point, the pipeline's run from it, the frame, and what the result array
  holds at the end, block by block.
-/
module

public import proofs.«01_k».proof.Proof.TailRun
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Tail

open Cert.Kernel2Ideal Cert.Kernel2Ideal.Gen

variable {F : FTy → Type} [FloatOps F]
variable (m : (ℓ : Loc nD τ sig) → Buf (Elt F) ℓ) (ρ : Dev nD → PrngReg)

/-- What the output's staging buffer holds after grid point `t`. -/
def blockAt (c : Dev nD) (t : Fin cfg0.N) : Vec F S512x1024 .f32 :=
  block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The pipeline's contents: every array as the host left it, every input's staging buffer at its block after the body, the
    output's at `blockAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => blockAt m c t
  Φ _ := Pipeline.ΦA spec0 c
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = blockAt m c t := by dsimp only [dats]

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d
theorem before6 (c : Dev nD) (t : Fin cfg0.N) (d) : (dats m 0 c).before 6 t d = iblk m c 6 t :=
  before0_6_of m (dats m 0 c) (arrays m c 6) (after6 m c) t d
theorem before7 (c : Dev nD) (t : Fin cfg0.N) (d) : (dats m 0 c).before 7 t d = iblk m c 7 t :=
  before0_7_of m (dats m 0 c) (arrays m c 7) (after7 m c) t d
theorem before8 (c : Dev nD) (t : Fin cfg0.N) (d) : (dats m 0 c).before 8 t d = iblk m c 8 t :=
  before0_8_of m (dats m 0 c) (arrays m c 8) (after8 m c) t d
theorem before9 (c : Dev nD) (t : Fin cfg0.N) (d) : (dats m 0 c).before 9 t d = iblk m c 9 t :=
  before0_9_of m (dats m 0 c) (arrays m c 9) (after9 m c) t d
theorem before10 (c : Dev nD) (t : Fin cfg0.N) (d) : (dats m 0 c).before 10 t d = iblk m c 10 t :=
  before0_10_of m (dats m 0 c) (arrays m c 10) (after10 m c) t d
theorem before11 (c : Dev nD) (t : Fin cfg0.N) (d) : (dats m 0 c).before 11 t d = iblk m c 11 t :=
  before0_11_of m (dats m 0 c) (arrays m c 11) (after11 m c) t d
theorem before12 (c : Dev nD) (t : Fin cfg0.N) (d) : (dats m 0 c).before 12 t d = iblk m c 12 t :=
  before0_12_of m (dats m 0 c) (arrays m c 12) (after12 m c) t d
theorem before13 (c : Dev nD) (t : Fin cfg0.N) (d) : (dats m 0 c).before 13 t d = iblk m c 13 t :=
  before0_13_of m (dats m 0 c) (arrays m c 13) (after13 m c) t d

/-- What the body is called with at a grid point. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it gives back. -/
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 1600000 in
/-- The body at a grid point, from `body_run` at the point's buffers and blocks. -/
theorem body_at (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl, after0, after1, after2, after3, after4, after5, after6, after7, after8, after9, after10, after11, after12, after13, after14]
  rw [show (dats m 0 c).Φ t.castSucc = Pipeline.ΦA spec0 c from rfl, PhiA0_eq]
  unfold blockAt
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The launch: it ends with every array of the pipeline at what the contents above make it, and with every semaphore zero. -/
theorem launch : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- The launch, each argument array unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (arrays m) ((θ_run defs _ _).mono (fun _ h => h.1) (launch m ρ))

/-- The frame: the arguments unchanged and every semaphore zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
    ∧ r.2.sem = fun _ => 0) :=
  θ_run_and (args_kept m ρ) ((θ_run defs _ _).mono (fun _ h => h.2) (launch m ρ))

/-- What a grid point writes back. -/
theorem written (c : Dev nD) (t : Fin cfg0.N) :
    (dats m 0 c).flushed 14 t = (cfg0.win 14).cut (grid0.coords t) (blockAt m c t) := by
  show (cfg0.win 14).cut (grid0.coords t) ((dats m 0 c).after 14 t) = _
  rw [after14]

theorem index_inj : ∀ t t' : Fin cfg0.N, win0_14.index t = win0_14.index t' → t = t' :=
  (by decide +kernel : ∀ t t' : Fin grid0.N, win0_14.index t = win0_14.index t' → t = t')

theorem blocks_apart : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (index_inj t t' h)

/-- Block `t` of the final array is what grid point `t` wrote back. -/
theorem final_block (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 blocks_apart cfg0.N t t.isLt hf

/-- The launch with the result array named, the arguments unchanged. -/
theorem run_final : θ_run defs (onTc (τ := τ) (main (F := F))) ⟨m, fun _ => 0, ρ⟩ fun r => ∀ c : Dev nD,
      r.2.mem ((c : Thread nD τ).loc main_v30) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h.1 c).1 14, h.2 c⟩)
    (θ_run_and ((θ_run defs _ _).mono (fun _ h => h.1) (launch m ρ)) (args_kept m ρ))

end Cert.Kernel2Ideal.Tail

end
-- ==== Proof.TailValue.lean ====
/-
  The tail's result array: at every row and column it is the layer's tail of the arguments.
-/
module

public import proofs.«01_k».proof.Proof.TailBlock
public import proofs.«01_k».proof.Proof.TailFrame

@[expose] public section

set_option maxRecDepth 16384

noncomputable section

open Idealize.ShloMosaic Idealize.ShloMosaic.TcCoe Idealize.SL.Sem
open Idealize.ShloMosaic.Pipeline (Dat)

namespace Cert.Kernel2Ideal.Tail

open Cert.Kernel2Ideal Cert.Kernel2Ideal.Gen Cert.TailMath
open Facts

variable (m : (ℓ : Loc nD τ sig) → Buf (Elt Ideal) ℓ) (ρ : Dev nD → PrngReg)

/-- The thirteen arguments. -/
abbrev ax (c : Dev nD) : FVec Ideal S8x4096x1024 .f32 := m ((c : Thread nD τ).loc main_arg0)
abbrev ahg (c : Dev nD) : FVec Ideal S8x4096x512 .bf16 := m ((c : Thread nD τ).loc main_arg1)
abbrev asb (c : Dev nD) : FVec Ideal S8x4096x512 .bf16 := m ((c : Thread nD τ).loc main_arg2)
abbrev ap (c : Dev nD) : FVec Ideal S1x8x4096x256 .f32 := m ((c : Thread nD τ).loc main_arg3)
abbrev asbn (c : Dev nD) : FVec Ideal S1x512 .f32 := m ((c : Thread nD τ).loc main_arg4)
abbrev awout (c : Dev nD) : FVec Ideal S1x1024x1024 .f32 := m ((c : Thread nD τ).loc main_arg5)
abbrev aapn (c : Dev nD) : FVec Ideal S1x1024 .f32 := m ((c : Thread nD τ).loc main_arg6)
abbrev afpre (c : Dev nD) : FVec Ideal S1x1024 .f32 := m ((c : Thread nD τ).loc main_arg7)
abbrev awgu (c : Dev nD) : FVec Ideal S1x1024x5632 .f32 := m ((c : Thread nD τ).loc main_arg8)
abbrev awd (c : Dev nD) : FVec Ideal S1x2816x1024 .f32 := m ((c : Thread nD τ).loc main_arg9)
abbrev afpost (c : Dev nD) : FVec Ideal S1x1024 .f32 := m ((c : Thread nD τ).loc main_arg10)
abbrev aproj (c : Dev nD) : FVec Ideal S1x256x1024 .f32 := m ((c : Thread nD τ).loc main_arg11)
abbrev agate (c : Dev nD) : FVec Ideal S1x1024x1024 .f32 := m ((c : Thread nD τ).loc main_arg12)

/-- What the result array is shown to hold. -/
def goal (c : Dev nD) : Buf (Elt Ideal) ((c : Thread nD τ).loc main_v30) :=
  fun i : S32768x1024.Idx => tailAt (ax m c) (ahg m c) (asb m c) (ap m c) (asbn m c) (awout m c) (aapn m c) (afpre m c) (awgu m c) (awd m c) (afpost m c)
    (aproj m c) (agate m c) ⟨(i 0).val / 4096, by have : (i 0).val < 32768 := (i 0).isLt; omega⟩ ⟨(i 0).val % 4096, by omega⟩ (i 1)

/-- Grid point `t` is row block `t`. -/
theorem coords_at (t : Fin cfg0.N) : (grid0.coords t 0).val = t.val := by
  have h : ∀ t : Fin grid0.N, (grid0.coords t 0).val = t.val := by decide +kernel
  exact h t

theorem toNat_fin (a : Fin cfg0.N) : (BitVec.ofNat 32 a.val).toNat = a.val := by
  have hN : cfg0.N = 64 := N_0
  rw [BitVec.toNat_ofNat]
  exact Nat.mod_eq_of_lt (by have := a.isLt; omega)

/-- Window 0's array, as the host prepares it, and its block at a grid point. -/
theorem V_0 (c : Dev nD) : (V m c main_v0 : FVec Ideal S32768x1024 .f32) = shapeCast S32768x1024 (ax m c) shapeCasts_S8x4096x1024_S32768x1024 := by
  unfold_abbrev_sides
  after_results <;> rfl

theorem blk_0 (c : Dev nD) (t : Fin cfg0.N) (r : Fin 512) (k : Fin 1024) (p : Fin 32768) (hp : p.val = 512 * t.val + r.val) :
    (iblk m c 0 t : Vec Ideal S512x1024 .f32) (ix2 r k) = ax m c (ix3 ⟨p.val / 4096, by omega⟩ ⟨p.val % 4096, by omega⟩ k) := by
  unfold iblk
  rw [View.read_apply]
  show (V m c main_v0 : FVec Ideal S32768x1024 .f32) _ = _
  rw [V_0]
  refine (congrArg _ (?_ : _ = (ix2 p k : S32768x1024.Idx))).trans ?_
  rotate_left
  · pointwise
  funext a
  apply Fin.ext
  match a with
  | ⟨0, _⟩ =>
    show (BitVec.ofNat 32 (grid0.coords t 0).val).toNat * 512 + 1 * r.val = p.val
    rw [coords_at, toNat_fin]; omega
  | ⟨1, _⟩ => show 0 * 1024 + 1 * k.val = k.val; omega

/-- Window 1's array, as the host prepares it, and its block at a grid point. -/
theorem V_1 (c : Dev nD) : (V m c main_v3 : FVec Ideal S32768x512 .bf16) = shapeCast S32768x512 (ahg m c) shapeCasts_S8x4096x512_S32768x512 := by
  unfold_abbrev_sides
  after_results <;> rfl

theorem blk_1 (c : Dev nD) (t : Fin cfg0.N) (r : Fin 512) (k : Fin 512) (p : Fin 32768) (hp : p.val = 512 * t.val + r.val) :
    (iblk m c 1 t : Vec Ideal S512x512 .bf16) (ix2 r k) = ahg m c (ix3 ⟨p.val / 4096, by omega⟩ ⟨p.val % 4096, by omega⟩ k) := by
  unfold iblk
  rw [View.read_apply]
  show (V m c main_v3 : FVec Ideal S32768x512 .bf16) _ = _
  rw [V_1]
  refine (congrArg _ (?_ : _ = (ix2 p k : S32768x512.Idx))).trans ?_
  rotate_left
  · pointwise
  funext a
  apply Fin.ext
  match a with
  | ⟨0, _⟩ =>
    show (BitVec.ofNat 32 (grid0.coords t 0).val).toNat * 512 + 1 * r.val = p.val
    rw [coords_at, toNat_fin]; omega
  | ⟨1, _⟩ => show 0 * 512 + 1 * k.val = k.val; omega

/-- Window 2's array, as the host prepares it, and its block at a grid point. -/
theorem V_2 (c : Dev nD) : (V m c main_v4 : FVec Ideal S32768x512 .bf16) = shapeCast S32768x512 (asb m c) shapeCasts_S8x4096x512_S32768x512 := by
  unfold_abbrev_sides
  after_results <;> rfl

theorem blk_2 (c : Dev nD) (t : Fin cfg0.N) (r : Fin 512) (k : Fin 512) (p : Fin 32768) (hp : p.val = 512 * t.val + r.val) :
    (iblk m c 2 t : Vec Ideal S512x512 .bf16) (ix2 r k) = asb m c (ix3 ⟨p.val / 4096, by omega⟩ ⟨p.val % 4096, by omega⟩ k) := by
  unfold iblk
  rw [View.read_apply]
  show (V m c main_v4 : FVec Ideal S32768x512 .bf16) _ = _
  rw [V_2]
  refine (congrArg _ (?_ : _ = (ix2 p k : S32768x512.Idx))).trans ?_
  rotate_left
  · pointwise
  funext a
  apply Fin.ext
  match a with
  | ⟨0, _⟩ =>
    show (BitVec.ofNat 32 (grid0.coords t 0).val).toNat * 512 + 1 * r.val = p.val
    rw [coords_at, toNat_fin]; omega
  | ⟨1, _⟩ => show 0 * 512 + 1 * k.val = k.val; omega

/-- Window 3's array, as the host prepares it, and its block at a grid point. -/
theorem V_3 (c : Dev nD) : (V m c main_v6 : FVec Ideal S32768x256 .f32) = shapeCast S32768x256 (shapeCast S8x4096x256 (ap m c) shapeCasts_S1x8x4096x256_S8x4096x256) shapeCasts_S8x4096x256_S32768x256 := by
  unfold_abbrev_sides
  after_results <;> rfl

theorem blk_3 (c : Dev nD) (t : Fin cfg0.N) (r : Fin 512) (k : Fin 256) (p : Fin 32768) (hp : p.val = 512 * t.val + r.val) :
    (iblk m c 3 t : Vec Ideal S512x256 .f32) (ix2 r k) = ap m c (ix4 0 ⟨p.val / 4096, by omega⟩ ⟨p.val % 4096, by omega⟩ k) := by
  unfold iblk
  rw [View.read_apply]
  show (V m c main_v6 : FVec Ideal S32768x256 .f32) _ = _
  rw [V_3]
  refine (congrArg _ (?_ : _ = (ix2 p k : S32768x256.Idx))).trans ?_
  rotate_left
  · pointwise
  funext a
  apply Fin.ext
  match a with
  | ⟨0, _⟩ =>
    show (BitVec.ofNat 32 (grid0.coords t 0).val).toNat * 512 + 1 * r.val = p.val
    rw [coords_at, toNat_fin]; omega
  | ⟨1, _⟩ => show 0 * 256 + 1 * k.val = k.val; omega

/-- Window 4's array, as the host prepares it, and its block at a grid point. -/
theorem V_4 (c : Dev nD) : (V m c main_v8 : FVec Ideal S1x512 .f32) = broadcastInDim S1x512 ![1] bcast_S512_S1x512_1 (shapeCast S512 (asbn m c) shapeCasts_S1x512_S512) := by
  unfold_abbrev_sides
  after_results <;> rfl

theorem blk_4 (c : Dev nD) (t : Fin cfg0.N) (k : Fin 512) :
    (iblk m c 4 t : Vec Ideal S1x512 .f32) (ix2 0 k) = asbn m c (ix2 0 k) := by
  unfold iblk
  rw [View.read_apply]
  show (V m c main_v8 : FVec Ideal S1x512 .f32) _ = _
  rw [V_4]
  refine (congrArg _ (?_ : _ = (ix2 0 k : S1x512.Idx))).trans ?_
  rotate_left
  · pointwise
  funext a
  apply Fin.ext
  match a with
  | ⟨0, _⟩ => show 0 * 1 + 1 * 0 = 0; omega
  | ⟨1, _⟩ => show 0 * 512 + 1 * k.val = k.val; omega

/-- Window 5's array, as the host prepares it, and its block at a grid point. -/
theorem V_5 (c : Dev nD) : (V m c main_v10 : FVec Ideal S1x1024 .f32) = broadcastInDim S1x1024 ![1] bcast_S1024_S1x1024_1 (shapeCast S1024 (aapn m c) shapeCasts_S1x1024_S1024) := by
  unfold_abbrev_sides
  after_results <;> rfl

theorem blk_5 (c : Dev nD) (t : Fin cfg0.N) (k : Fin 1024) :
    (iblk m c 5 t : Vec Ideal S1x1024 .f32) (ix2 0 k) = aapn m c (ix2 0 k) := by
  unfold iblk
  rw [View.read_apply]
  show (V m c main_v10 : FVec Ideal S1x1024 .f32) _ = _
  rw [V_5]
  refine (congrArg _ (?_ : _ = (ix2 0 k : S1x1024.Idx))).trans ?_
  rotate_left
  · pointwise
  funext a
  apply Fin.ext
  match a with
  | ⟨0, _⟩ => show 0 * 1 + 1 * 0 = 0; omega
  | ⟨1, _⟩ => show 0 * 1024 + 1 * k.val = k.val; omega

/-- Window 6's array, as the host prepares it, and its block at a grid point. -/
theorem V_6 (c : Dev nD) : (V m c main_v12 : FVec Ideal S1x1024 .f32) = broadcastInDim S1x1024 ![1] bcast_S1024_S1x1024_1 (shapeCast S1024 (afpre m c) shapeCasts_S1x1024_S1024) := by
  unfold_abbrev_sides
  after_results <;> rfl

theorem blk_6 (c : Dev nD) (t : Fin cfg0.N) (k : Fin 1024) :
    (iblk m c 6 t : Vec Ideal S1x1024 .f32) (ix2 0 k) = afpre m c (ix2 0 k) := by
  unfold iblk
  rw [View.read_apply]
  show (V m c main_v12 : FVec Ideal S1x1024 .f32) _ = _
  rw [V_6]
  refine (congrArg _ (?_ : _ = (ix2 0 k : S1x1024.Idx))).trans ?_
  rotate_left
  · pointwise
  funext a
  apply Fin.ext
  match a with
  | ⟨0, _⟩ => show 0 * 1 + 1 * 0 = 0; omega
  | ⟨1, _⟩ => show 0 * 1024 + 1 * k.val = k.val; omega

/-- Window 7's array, as the host prepares it, and its block at a grid point. -/
theorem V_7 (c : Dev nD) : (V m c main_v14 : FVec Ideal S1x1024 .f32) = broadcastInDim S1x1024 ![1] bcast_S1024_S1x1024_1 (shapeCast S1024 (afpost m c) shapeCasts_S1x1024_S1024) := by
  unfold_abbrev_sides
  after_results <;> rfl

theorem blk_7 (c : Dev nD) (t : Fin cfg0.N) (k : Fin 1024) :
    (iblk m c 7 t : Vec Ideal S1x1024 .f32) (ix2 0 k) = afpost m c (ix2 0 k) := by
  unfold iblk
  rw [View.read_apply]
  show (V m c main_v14 : FVec Ideal S1x1024 .f32) _ = _
  rw [V_7]
  refine (congrArg _ (?_ : _ = (ix2 0 k : S1x1024.Idx))).trans ?_
  rotate_left
  · pointwise
  funext a
  apply Fin.ext
  match a with
  | ⟨0, _⟩ => show 0 * 1 + 1 * 0 = 0; omega
  | ⟨1, _⟩ => show 0 * 1024 + 1 * k.val = k.val; omega

/-- Window 8's array, as the host prepares it, and its block at a grid point. -/
theorem V_8 (c : Dev nD) : (V m c main_v16 : FVec Ideal S1024x1024 .bf16) = truncf .bf16 (shapeCast S1024x1024 (awout m c) shapeCasts_S1x1024x1024_S1024x1024) bitsLt_bf16_f32 := by
  unfold_abbrev_sides
  after_results <;> rfl

theorem blk_8 (c : Dev nD) (t : Fin cfg0.N) (j : Fin 1024) (k : Fin 1024) :
    (iblk m c 8 t : Vec Ideal S1024x1024 .bf16) (ix2 j k) = awout m c (ix3 0 j k) := by
  unfold iblk
  rw [View.read_apply]
  show (V m c main_v16 : FVec Ideal S1024x1024 .bf16) _ = _
  rw [V_8]
  refine (congrArg _ (?_ : _ = (ix2 j k : S1024x1024.Idx))).trans ?_
  rotate_left
  · pointwise
  funext a
  apply Fin.ext
  match a with
  | ⟨0, _⟩ => show 0 * 1024 + 1 * j.val = j.val; omega
  | ⟨1, _⟩ => show 0 * 1024 + 1 * k.val = k.val; omega

/-- Window 9's array, as the host prepares it, and its block at a grid point. -/
theorem V_9 (c : Dev nD) : (V m c main_v19 : FVec Ideal S11x1024x256 .bf16) = transpose S11x1024x256 [1, 0, 2] (shapeCast S1024x11x256 (extractStridedSlice S1024x2816 ![0, 0] (truncf .bf16 (shapeCast S1024x5632 (awgu m c) shapeCasts_S1x1024x5632_S1024x5632) bitsLt_bf16_f32) slices_S1024x5632_S1024x2816_0_0) shapeCasts_S1024x2816_S1024x11x256) transposes_S1024x11x256_S11x1024x256_1_0_2 := by
  unfold_abbrev_sides
  after_results <;> rfl

theorem blk_9 (c : Dev nD) (t : Fin cfg0.N) (s : Fin 11) (j : Fin 1024) (k : Fin 256) :
    (iblk m c 9 t : Vec Ideal S11x1024x256 .bf16) (ix3 s j k) = awgu m c (ix3 0 j ⟨s.val * 256 + k.val, by omega⟩) := by
  unfold iblk
  rw [View.read_apply]
  show (V m c main_v19 : FVec Ideal S11x1024x256 .bf16) _ = _
  rw [V_9]
  refine (congrArg _ (?_ : _ = (ix3 s j k : S11x1024x256.Idx))).trans ?_
  rotate_left
  · pointwise
  funext a
  apply Fin.ext
  match a with
  | ⟨0, _⟩ => show 0 * 11 + 1 * s.val = s.val; omega
  | ⟨1, _⟩ => show 0 * 1024 + 1 * j.val = j.val; omega
  | ⟨2, _⟩ => show 0 * 256 + 1 * k.val = k.val; omega

/-- Window 10's array, as the host prepares it, and its block at a grid point. -/
theorem V_10 (c : Dev nD) : (V m c main_v22 : FVec Ideal S11x1024x256 .bf16) = transpose S11x1024x256 [1, 0, 2] (shapeCast S1024x11x256 (extractStridedSlice S1024x2816 ![0, 2816] (truncf .bf16 (shapeCast S1024x5632 (awgu m c) shapeCasts_S1x1024x5632_S1024x5632) bitsLt_bf16_f32) slices_S1024x5632_S1024x2816_0_2816) shapeCasts_S1024x2816_S1024x11x256) transposes_S1024x11x256_S11x1024x256_1_0_2 := by
  unfold_abbrev_sides
  after_results <;> rfl

theorem blk_10 (c : Dev nD) (t : Fin cfg0.N) (s : Fin 11) (j : Fin 1024) (k : Fin 256) :
    (iblk m c 10 t : Vec Ideal S11x1024x256 .bf16) (ix3 s j k) = awgu m c (ix3 0 j ⟨2816 + (s.val * 256 + k.val), by omega⟩) := by
  unfold iblk
  rw [View.read_apply]
  show (V m c main_v22 : FVec Ideal S11x1024x256 .bf16) _ = _
  rw [V_10]
  refine (congrArg _ (?_ : _ = (ix3 s j k : S11x1024x256.Idx))).trans ?_
  rotate_left
  · pointwise
  funext a
  apply Fin.ext
  match a with
  | ⟨0, _⟩ => show 0 * 11 + 1 * s.val = s.val; omega
  | ⟨1, _⟩ => show 0 * 1024 + 1 * j.val = j.val; omega
  | ⟨2, _⟩ => show 0 * 256 + 1 * k.val = k.val; omega

/-- Window 11's array, as the host prepares it, and its block at a grid point. -/
theorem V_11 (c : Dev nD) : (V m c main_v25 : FVec Ideal S11x256x1024 .bf16) = shapeCast S11x256x1024 (truncf .bf16 (shapeCast S2816x1024 (awd m c) shapeCasts_S1x2816x1024_S2816x1024) bitsLt_bf16_f32) shapeCasts_S2816x1024_S11x256x1024 := by
  unfold_abbrev_sides
  after_results <;> rfl

theorem blk_11 (c : Dev nD) (t : Fin cfg0.N) (s : Fin 11) (j : Fin 256) (k : Fin 1024) :
    (iblk m c 11 t : Vec Ideal S11x256x1024 .bf16) (ix3 s j k) = awd m c (ix3 0 ⟨s.val * 256 + j.val, by omega⟩ k) := by
  unfold iblk
  rw [View.read_apply]
  show (V m c main_v25 : FVec Ideal S11x256x1024 .bf16) _ = _
  rw [V_11]
  refine (congrArg _ (?_ : _ = (ix3 s j k : S11x256x1024.Idx))).trans ?_
  rotate_left
  · pointwise
  funext a
  apply Fin.ext
  match a with
  | ⟨0, _⟩ => show 0 * 11 + 1 * s.val = s.val; omega
  | ⟨1, _⟩ => show 0 * 256 + 1 * j.val = j.val; omega
  | ⟨2, _⟩ => show 0 * 1024 + 1 * k.val = k.val; omega

/-- Window 12's array, as the host prepares it, and its block at a grid point. -/
theorem V_12 (c : Dev nD) : (V m c main_v27 : FVec Ideal S256x1024 .bf16) = truncf .bf16 (shapeCast S256x1024 (aproj m c) shapeCasts_S1x256x1024_S256x1024) bitsLt_bf16_f32 := by
  unfold_abbrev_sides
  after_results <;> rfl

theorem blk_12 (c : Dev nD) (t : Fin cfg0.N) (j : Fin 256) (k : Fin 1024) :
    (iblk m c 12 t : Vec Ideal S256x1024 .bf16) (ix2 j k) = aproj m c (ix3 0 j k) := by
  unfold iblk
  rw [View.read_apply]
  show (V m c main_v27 : FVec Ideal S256x1024 .bf16) _ = _
  rw [V_12]
  refine (congrArg _ (?_ : _ = (ix2 j k : S256x1024.Idx))).trans ?_
  rotate_left
  · pointwise
  funext a
  apply Fin.ext
  match a with
  | ⟨0, _⟩ => show 0 * 256 + 1 * j.val = j.val; omega
  | ⟨1, _⟩ => show 0 * 1024 + 1 * k.val = k.val; omega

/-- Window 13's array, as the host prepares it, and its block at a grid point. -/
theorem V_13 (c : Dev nD) : (V m c main_v29 : FVec Ideal S1024x1024 .bf16) = truncf .bf16 (shapeCast S1024x1024 (agate m c) shapeCasts_S1x1024x1024_S1024x1024) bitsLt_bf16_f32 := by
  unfold_abbrev_sides
  after_results <;> rfl

theorem blk_13 (c : Dev nD) (t : Fin cfg0.N) (j : Fin 1024) (k : Fin 1024) :
    (iblk m c 13 t : Vec Ideal S1024x1024 .bf16) (ix2 j k) = agate m c (ix3 0 j k) := by
  unfold iblk
  rw [View.read_apply]
  show (V m c main_v29 : FVec Ideal S1024x1024 .bf16) _ = _
  rw [V_13]
  refine (congrArg _ (?_ : _ = (ix2 j k : S1024x1024.Idx))).trans ?_
  rotate_left
  · pointwise
  funext a
  apply Fin.ext
  match a with
  | ⟨0, _⟩ => show 0 * 1024 + 1 * j.val = j.val; omega
  | ⟨1, _⟩ => show 0 * 1024 + 1 * k.val = k.val; omega

/-- What a grid point stores, at an index of its block. -/
theorem out_at (c : Dev nD) (t : Fin cfg0.N) (r : Fin 512) (n : Fin 1024) (p : Fin 32768) (hp : p.val = 512 * t.val + r.val) :
    (blockAt m c t : FVec Ideal S512x1024 .f32) (ix2 r n)
      = tailAt (ax m c) (ahg m c) (asb m c) (ap m c) (asbn m c) (awout m c) (aapn m c) (afpre m c) (awgu m c) (awd m c) (afpost m c)
          (aproj m c) (agate m c) ⟨p.val / 4096, by omega⟩ ⟨p.val % 4096, by omega⟩ n := by
  have e9 : cols (iblk m c 9 t) = fun k j => awgu m c (ix3 0 k ⟨j.val, by omega⟩) := funext fun k => funext fun j =>
    (blk_9 m c t _ _ _).trans (congrArg (fun z => awgu m c (ix3 0 k z)) (Fin.ext (by show j.val / 256 * 256 + j.val % 256 = j.val; omega)))
  have e10 : cols (iblk m c 10 t) = fun k j => awgu m c (ix3 0 k ⟨2816 + j.val, by omega⟩) := funext fun k => funext fun j =>
    (blk_10 m c t _ _ _).trans (congrArg (fun z => awgu m c (ix3 0 k z)) (Fin.ext (by show 2816 + (j.val / 256 * 256 + j.val % 256) = 2816 + j.val; omega)))
  have e11 : rows (iblk m c 11 t) = fun j k => awd m c (ix3 0 j k) := funext fun j => funext fun k =>
    (blk_11 m c t _ _ _).trans (congrArg (fun z => awd m c (ix3 0 z k)) (Fin.ext (by show j.val / 256 * 256 + j.val % 256 = j.val; omega)))
  unfold blockAt
  rw [block_row, e9, e10, e11]
  unfold tailAt row mat
  simp only [fun k => blk_0 m c t r k p hp]
  simp only [fun k => blk_1 m c t r k p hp]
  simp only [fun k => blk_2 m c t r k p hp]
  simp only [fun k => blk_3 m c t r k p hp]
  simp only [fun k => blk_4 m c t k]
  simp only [fun k => blk_5 m c t k]
  simp only [fun k => blk_6 m c t k]
  simp only [fun k => blk_7 m c t k]
  simp only [fun j k => blk_8 m c t j k]
  simp only [fun j k => blk_12 m c t j k]
  simp only [fun j k => blk_13 m c t j k]

/-- What point `t` writes back is its block of the goal. -/
theorem flushed_eq (c : Dev nD) (t : Fin cfg0.N) :
    (dats m 0 c).flushed 14 t = (win0_14.blk t).view.read (Elt Ideal) (goal m c) := by
  have hN : cfg0.N = 64 := N_0
  have ht := t.isLt
  rw [written]
  funext j
  rw [View.read_apply]
  show blockAt m c t _ = goal m c _
  have hj0 : (j 0).val < 512 := (j 0).isLt
  have hj1 : (j 1).val < 1024 := (j 1).isLt
  have e := out_at m c t ⟨(j 0).val, hj0⟩ ⟨(j 1).val, hj1⟩ ⟨512 * t.val + (j 0).val, by omega⟩ rfl
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show (j 1).val = 0 * 1024 + 1 * (j 1).val; omega

/-- Every index of the result is in some point's block. -/
theorem cover (i : S32768x1024.Idx) : ∃ t : Fin cfg0.N, (cfg0.win 14).flush t = true ∧ i ∈ ((cfg0.win 14).blk t).view.set := by
  have i0 : (i 0).val < 32768 := (i 0).isLt
  have i1 : (i 1).val < 1024 := (i 1).isLt
  have hN : cfg0.N = 64 := N_0
  refine ⟨⟨(i 0).val / 512, by omega⟩, flush0_14 _, ?_⟩
  generalize ht : (⟨(i 0).val / 512, by omega⟩ : Fin cfg0.N) = t
  have hv : t.val = (i 0).val / 512 := by rw [← ht]
  show i ∈ ((View.whole main_v30).slice (win0_14.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 1024 ≤ (i 1).val ∧ (i 1).val < 0 * 1024 + 1024; omega

/-- The result array ends holding the layer's tail of the arguments. -/
theorem final_o (c : Dev nD) : (dats m 0 c).arrAt 14 cfg0.N = goal m c :=
  (dats m 0 c).arrAt_eq_of_cover 14 (goal m c) (fun t _ => flushed_eq m c t) cover

/-- The run, read: the result array at the goal, the arguments unchanged. -/
theorem run : θ_run defs (onTc (τ := τ) (main (F := Ideal))) ⟨m, fun _ => 0, ρ⟩ fun r => ∀ c : Dev nD,
      r.2.mem ((c : Thread nD τ).loc main_v30) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (final_o m c), (h c).2⟩) (run_final m ρ)

end Cert.Kernel2Ideal.Tail

end
-- ==== Proof.TailRef.lean ====
/-
  The tail's reference, index by index: the mathematics of `TailMath`.
-/
module

public import proofs.«01_k».proof.Proof.TailMath
public import proofs.«01_k».proof.Proof.Gen.Reference2Ideal.Run

@[expose] public section

set_option maxRecDepth 16384

noncomputable section

open Idealize.ShloMosaic Idealize.ShloMosaic.TcCoe Idealize.SL.Sem

namespace Cert.Reference2Ideal.Tail

open Cert.Reference2Ideal Cert.Reference2Ideal.Gen Cert.Reference2Ideal.Value Cert.TailMath
open Facts

variable (V0 : Valuation τ sig (Elt Ideal))

abbrev ax : S8x4096x1024.Idx → EReal := V0 (Proc.devRef .tc main_arg0)
abbrev ahg : S8x4096x512.Idx → EReal := V0 (Proc.devRef .tc main_arg1)
abbrev asb : S8x4096x512.Idx → EReal := V0 (Proc.devRef .tc main_arg2)
abbrev ap : S1x8x4096x256.Idx → EReal := V0 (Proc.devRef .tc main_arg3)
abbrev asbn : S1x512.Idx → EReal := V0 (Proc.devRef .tc main_arg4)
abbrev awout : S1x1024x1024.Idx → EReal := V0 (Proc.devRef .tc main_arg5)
abbrev aapn : S1x1024.Idx → EReal := V0 (Proc.devRef .tc main_arg6)
abbrev afpre : S1x1024.Idx → EReal := V0 (Proc.devRef .tc main_arg7)
abbrev awgu : S1x1024x5632.Idx → EReal := V0 (Proc.devRef .tc main_arg8)
abbrev awd : S1x2816x1024.Idx → EReal := V0 (Proc.devRef .tc main_arg9)
abbrev afpost : S1x1024.Idx → EReal := V0 (Proc.devRef .tc main_arg10)
abbrev aproj : S1x256x1024.Idx → EReal := V0 (Proc.devRef .tc main_arg11)
abbrev agate : S1x1024x1024.Idx → EReal := V0 (Proc.devRef .tc main_arg12)

/-- The stream after the mixers and the stream after the feed-forward network, at a batch and position. -/
def h1 (b : Fin 8) (t : Fin 4096) : Fin 1024 → EReal :=
  afterMix (fun k => ax V0 (ix3 b t k)) (fun k => ahg V0 (ix3 b t k)) (fun k => asb V0 (ix3 b t k)) (fun k => asbn V0 (ix2 0 k))
    (fun k j => awout V0 (ix3 0 k j)) (fun k => aapn V0 (ix2 0 k))
def h2 (b : Fin 8) (t : Fin 4096) : Fin 1024 → EReal :=
  afterFfn (h1 V0 b t) (fun k => afpre V0 (ix2 0 k)) (fun k j => awgu V0 (ix3 0 k ⟨j.val, by omega⟩)) (fun k j => awgu V0 (ix3 0 k ⟨2816 + j.val, by omega⟩))
    (fun j k => awd V0 (ix3 0 j k)) (fun k => afpost V0 (ix2 0 k))

theorem mix_at (b : Fin 8) (t : Fin 4096) (n : Fin 1024) : (res_main_v18 V0 : S8x4096x1024.Idx → EReal) (ix3 b t n)
    = mix (fun k => ahg V0 (ix3 b t k)) (rms n512 (fun k => asb V0 (ix3 b t k)) (fun k => asbn V0 (ix2 0 k))) (fun k j => awout V0 (ix3 0 k j)) n := by
  unfold res_main_v18 res_main_v1
  pointwise
  rfl

theorem h1_at (b : Fin 8) (t : Fin 4096) (n : Fin 1024) : (res_main_v33 V0 : S8x4096x1024.Idx → EReal) (ix3 b t n) = h1 V0 b t n := by
  unfold h1 afterMix
  have e : (fun k => (res_main_v18 V0 : S8x4096x1024.Idx → EReal) (ix3 b t k)) = _ := funext fun k => mix_at V0 b t k
  rw [← e]
  unfold res_main_v33
  generalize (res_main_v18 V0) = z
  pointwise
  rfl

theorem proj_at (b : Fin 8) (t : Fin 4096) (n : Fin 5632) : (res_main_v49 V0 : S8x4096x5632.Idx → EReal) (ix3 b t n)
    = dotRow (rms n1024 (h1 V0 b t) (fun k => afpre V0 (ix2 0 k))) (fun k j => awgu V0 (ix3 0 k j)) n := by
  have e : (fun k => (res_main_v33 V0 : S8x4096x1024.Idx → EReal) (ix3 b t k)) = _ := funext fun k => h1_at V0 b t k
  have e' : h1 V0 b t = fun k => (res_main_v33 V0 : S8x4096x1024.Idx → EReal) (ix3 b t k) := e.symm
  rw [e']
  unfold res_main_v49
  generalize (res_main_v33 V0) = z
  pointwise
  rfl

/-- The gate and the up projection, side by side. -/
def gu (b : Fin 8) (t : Fin 4096) (n : Fin 5632) : EReal := (res_main_v49 V0 : S8x4096x5632.Idx → EReal) (ix3 b t n)

theorem down_at (b : Fin 8) (t : Fin 4096) (n : Fin 1024) : (res_main_v55 V0 : S8x4096x1024.Idx → EReal) (ix3 b t n)
    = dotRow (unit (rms n1024 (h1 V0 b t) (fun k => afpre V0 (ix2 0 k))) (fun k j => awgu V0 (ix3 0 k ⟨j.val, by omega⟩))
        (fun k j => awgu V0 (ix3 0 k ⟨2816 + j.val, by omega⟩))) (fun j k => awd V0 (ix3 0 j k)) n := by
  have e : ∀ j : Fin 2816, unit (rms n1024 (h1 V0 b t) (fun k => afpre V0 (ix2 0 k))) (fun k j => awgu V0 (ix3 0 k ⟨j.val, by omega⟩))
        (fun k j => awgu V0 (ix3 0 k ⟨2816 + j.val, by omega⟩)) j
      = gu V0 b t ⟨j.val, by omega⟩ * Ideal.logistic (gu V0 b t ⟨j.val, by omega⟩) * gu V0 b t ⟨2816 + j.val, by omega⟩ := fun j => by
    unfold gu
    rw [proj_at, proj_at]
    rfl
  unfold dotRow
  simp only [e]
  unfold gu res_main_v55 res_main_v50
  generalize (res_main_v49 V0) = z
  pointwise
  rfl

theorem h2_at (b : Fin 8) (t : Fin 4096) (n : Fin 1024) : (res_main_v70 V0 : S8x4096x1024.Idx → EReal) (ix3 b t n) = h2 V0 b t n := by
  unfold h2 afterFfn
  have e : (fun k => (res_main_v55 V0 : S8x4096x1024.Idx → EReal) (ix3 b t k)) = _ := funext fun k => down_at V0 b t k
  rw [← e, ← h1_at]
  unfold res_main_v70
  generalize (res_main_v55 V0) = z
  generalize (res_main_v33 V0) = y
  pointwise
  rfl

/-- The reference's result. -/
def result : FVec Ideal S32768x1024 .f32 :=
  shapeCast _ (addf (F := Ideal) (φ := .f32) (s := S8x4096x1024) (res_main_v70 V0) (mulf (Host.dotGeneral (φ₁ := .f32) (φ₂ := .f32) dot_S8x4096x256_S256x1024_S8x4096x1024_2_0_01_1_n_n none (shapeCast (α := Ideal .f32) _ (V0 (Proc.devRef .tc main_arg3)) shapeCasts_S1x8x4096x256_S8x4096x256) (shapeCast (α := Ideal .f32) _ (V0 (Proc.devRef .tc main_arg11)) shapeCasts_S1x256x1024_S256x1024)) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (Host.dotGeneral (φ₁ := .f32) (φ₂ := .f32) dot_S8x4096x1024_S1024x1024_S8x4096x1024_2_0_01_1_n_n none (res_main_v70 V0) (shapeCast (α := Ideal .f32) _ (V0 (Proc.devRef .tc main_arg12)) shapeCasts_S1x1024x1024_S1024x1024)))))))) shapeCasts_S8x4096x1024_S32768x1024

/-- The reference's result at an index. -/
theorem result_at (r : Fin 32768) (n : Fin 1024) : result V0 (ix2 r n)
    = tailAt (ax V0) (ahg V0) (asb V0) (ap V0) (asbn V0) (awout V0) (aapn V0) (afpre V0) (awgu V0) (awd V0) (afpost V0) (aproj V0) (agate V0)
        ⟨r.val / 4096, by omega⟩ ⟨r.val % 4096, by omega⟩ n := by
  show _ = afterEmb (h2 V0 _ _) _ _ _ n
  have e : h2 V0 ⟨r.val / 4096, by omega⟩ ⟨r.val % 4096, by omega⟩
      = fun k => (res_main_v70 V0 : S8x4096x1024.Idx → EReal) (ix3 ⟨r.val / 4096, by omega⟩ ⟨r.val % 4096, by omega⟩ k) := funext fun k => (h2_at V0 _ _ k).symm
  rw [e]
  unfold result
  generalize (res_main_v70 V0) = z
  pointwise
  rfl

end Cert.Reference2Ideal.Tail

end
-- ==== Proof.Tail.lean ====
/-
  The tail call's claims: the frames, and the equality of the kernel's and the reference's results.
-/
module

public import proofs.«01_k».proof.Defs
public import proofs.«01_k».proof.Proof.TailValue
public import proofs.«01_k».proof.Proof.TailRef
public import proofs.«01_k».proof.Proof.TailBitsFrame

@[expose] public section

set_option maxRecDepth 16384

noncomputable section

open Idealize.ShloMosaic Idealize.ShloMosaic.TcCoe Idealize.ShloMosaic.StableHlo Idealize.SL.Sem

namespace Cert.Tail

theorem kernel_frame : Cert.quiescent_Kernel2 := fun m ρ _ => Cert.Kernel2.Tail.frame m ρ

theorem kernelIdeal_frame : Cert.quiescent_Kernel2Ideal := fun m ρ _ => Cert.Kernel2Ideal.Tail.frame m ρ

theorem referenceIdeal_frame : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- **The value claim**: from any arguments the kernel's result is the reference's. -/
theorem value : Cert.algebraic_Kernel2Ideal_Reference2Ideal := by
  intro m ρ m' ρ' _ hagree
  refine ⟨fun c => Cert.Kernel2Ideal.Tail.goal m c, Cert.Kernel2Ideal.Tail.run m ρ, ?_⟩
  refine (θ_run Cert.Reference2Ideal.defs _ _).mono (fun r h c => ⟨(h c).1.trans ?_, (h c).2⟩) (Cert.Reference2Ideal.Value.run (F := Ideal) m' ρ')
  obtain ⟨h0, h1, h2, h3, h4, h5, h6, h7, h8, h9, h10, h11, h12⟩ := hagree c
  funext i
  rw [eq_ix2 i]
  refine (Cert.Reference2Ideal.Tail.result_at (launchContents m' c) (i 0) (i 1)).trans ?_
  have e0 : Cert.Reference2Ideal.Tail.ax (launchContents m' c) = Cert.Kernel2Ideal.Tail.ax m c := h0
  have e1 : Cert.Reference2Ideal.Tail.ahg (launchContents m' c) = Cert.Kernel2Ideal.Tail.ahg m c := h1
  have e2 : Cert.Reference2Ideal.Tail.asb (launchContents m' c) = Cert.Kernel2Ideal.Tail.asb m c := h2
  have e3 : Cert.Reference2Ideal.Tail.ap (launchContents m' c) = Cert.Kernel2Ideal.Tail.ap m c := h3
  have e4 : Cert.Reference2Ideal.Tail.asbn (launchContents m' c) = Cert.Kernel2Ideal.Tail.asbn m c := h4
  have e5 : Cert.Reference2Ideal.Tail.awout (launchContents m' c) = Cert.Kernel2Ideal.Tail.awout m c := h5
  have e6 : Cert.Reference2Ideal.Tail.aapn (launchContents m' c) = Cert.Kernel2Ideal.Tail.aapn m c := h6
  have e7 : Cert.Reference2Ideal.Tail.afpre (launchContents m' c) = Cert.Kernel2Ideal.Tail.afpre m c := h7
  have e8 : Cert.Reference2Ideal.Tail.awgu (launchContents m' c) = Cert.Kernel2Ideal.Tail.awgu m c := h8
  have e9 : Cert.Reference2Ideal.Tail.awd (launchContents m' c) = Cert.Kernel2Ideal.Tail.awd m c := h9
  have e10 : Cert.Reference2Ideal.Tail.afpost (launchContents m' c) = Cert.Kernel2Ideal.Tail.afpost m c := h10
  have e11 : Cert.Reference2Ideal.Tail.aproj (launchContents m' c) = Cert.Kernel2Ideal.Tail.aproj m c := h11
  have e12 : Cert.Reference2Ideal.Tail.agate (launchContents m' c) = Cert.Kernel2Ideal.Tail.agate m c := h12
  rw [e0, e1, e2, e3, e4, e5, e6, e7, e8, e9, e10, e11, e12]
  rfl

end Cert.Tail

end
-- ==== Proof.InprojMath.lean ====
/-
  The mixers' input projection on extended reals: a normalised row times a column of the projection matrix. The kernel's
  and the reference's results are both read as this.
-/
module

public import proofs.«01_k».proof.Proof.TailMath

@[expose] public section

set_option maxRecDepth 16384

noncomputable section

open Idealize.ShloMosaic Idealize.ShloMosaic.TcCoe Idealize.SL.Sem

namespace Cert.InprojMath

open Cert.TailMath

/-- The queries' scale, as its 32-bit pattern names it. -/
def scale : EReal := Ideal.ofBits .f32 0x3E000000#32

/-- Column `j` of the projection of the normalised row at batch `b` and position `t`. -/
def projAt (x : (⟨3, ![8, 4096, 1024]⟩ : Shape).Idx → EReal) (wn : (⟨2, ![1, 1024]⟩ : Shape).Idx → EReal)
    (w : (⟨3, ![1, 1024, 3584]⟩ : Shape).Idx → EReal) (b : Fin 8) (t : Fin 4096) (j : Fin 3584) : EReal :=
  dotRow (rms n1024 (fun k => x (ix3 b t k)) (fun k => wn (ix2 0 k))) (fun k n => w (ix3 0 k n)) j

end Cert.InprojMath

end
-- ==== Proof.InprojValue.lean ====
/-
  The input projection's seven result arrays: at every row and column each is its part of the projected row.
-/
module

public import proofs.«01_k».proof.Proof.InprojMath
public import proofs.«01_k».proof.Proof.Gen.Kernel3Ideal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Inproj

open Cert.Kernel3Ideal Cert.Kernel3Ideal.Gen Cert.TailMath Cert.InprojMath
open Facts

theorem hz2 : (![0, 0] : Fin 2 → ℕ) = fun _ => 0 := by funext a; match a with | ⟨0, _⟩ => rfl | ⟨1, _⟩ => rfl

/-- Row `r` of a matrix, and a matrix as a function of its two indices. -/
abbrev row {a b : ℕ} (x : (⟨2, ![a, b]⟩ : Shape).Idx → EReal) (r : Fin a) : Fin b → EReal := fun k => x (ix2 r k)
abbrev mat {a b : ℕ} (x : (⟨2, ![a, b]⟩ : Shape).Idx → EReal) : Fin a → Fin b → EReal := fun r k => x (ix2 r k)

/-- The body's normalised row. -/
theorem norm_row (x0 : Vec Ideal S512x1024 .f32) (x1 : Vec Ideal S1x1024 .f32) (r : Fin 512) :
    row (k0_pay5 x0 x1 : FVec Ideal S512x1024 .bf16) r = rms n1024 (row x0 r) (row x1 0) := by
  funext n
  unfold k0_pay5 row
  pointwise
  rfl

/-- A load of 512 columns of the matrix from column `lo`, at an index. -/
theorem ld_at (x : Vec Ideal S1024x3584 .bf16) (lo : ℕ) (inb : ∀ a, (![0, lo] : Fin 2 → ℕ) a + S1024x512.size a ≤ S1024x3584.size a)
    (j : Fin 1024) (n : Fin 512) (h : lo + n.val < 3584) :
    View.ld x (Rect.unit (s := S1024x3584) ![0, lo] S1024x512.size inb) (ix2 j n) = x (ix2 j ⟨lo + n.val, h⟩) := by
  show x _ = x _
  congr 1
  funext a
  apply Fin.ext
  match a with
  | ⟨0, _⟩ => show 0 + 1 * j.val = j.val; omega
  | ⟨1, _⟩ => show lo + 1 * n.val = lo + n.val; omega

/-! What each of the seven stores holds, at an index. -/

theorem out_0 (x0 : Vec Ideal S512x1024 .f32) (x1 : Vec Ideal S1x1024 .f32) (x2 : Vec Ideal S1024x3584 .bf16) (r n : Fin 512) :
    (out0_3 x0 x1 x2 : FVec Ideal S512x512 .bf16) (ix2 r n)
      = dotRow (rms n1024 (row x0 r) (row x1 0)) (mat x2) ⟨0 + n.val, by omega⟩ := by
  unfold_out out0_3
  rw [View.canon_unit_zero hz2]
  simp only [View.ld_unit_zero (S := S512x1024) hz2, View.ld_unit_zero (S := S1x1024) hz2]
  have e : ∀ j : Fin 1024, x2 (ix2 j ⟨0 + n.val, by omega⟩) = View.ld x2 r0_2 (ix2 j n) :=
    fun j => (ld_at x2 0 _ j n (by omega)).symm
  unfold dotRow mat
  simp only [e, ← norm_row]
  unfold k0_pay6 row
  generalize k0_pay5 x0 x1 = z
  generalize View.ld x2 r0_2 = y
  pointwise

theorem out_1 (x0 : Vec Ideal S512x1024 .f32) (x1 : Vec Ideal S1x1024 .f32) (x2 : Vec Ideal S1024x3584 .bf16) (r n : Fin 512) :
    (out0_4 x0 x1 x2 : FVec Ideal S512x512 .f32) (ix2 r n)
      = dotRow (rms n1024 (row x0 r) (row x1 0)) (mat x2) ⟨512 + n.val, by omega⟩ := by
  unfold_out out0_4
  rw [View.canon_unit_zero hz2]
  simp only [View.ld_unit_zero (S := S512x1024) hz2, View.ld_unit_zero (S := S1x1024) hz2]
  have e : ∀ j : Fin 1024, x2 (ix2 j ⟨512 + n.val, by omega⟩) = View.ld x2 r0_4 (ix2 j n) :=
    fun j => (ld_at x2 512 _ j n (by omega)).symm
  unfold dotRow mat
  simp only [e, ← norm_row]
  unfold k0_pay7 row
  generalize k0_pay5 x0 x1 = z
  generalize View.ld x2 r0_4 = y
  pointwise

theorem out_2 (x0 : Vec Ideal S512x1024 .f32) (x1 : Vec Ideal S1x1024 .f32) (x2 : Vec Ideal S1024x3584 .bf16) (r n : Fin 512) :
    (out0_5 x0 x1 x2 : FVec Ideal S512x512 .bf16) (ix2 r n)
      = dotRow (rms n1024 (row x0 r) (row x1 0)) (mat x2) ⟨1024 + n.val, by omega⟩ := by
  unfold_out out0_5
  rw [View.canon_unit_zero hz2]
  simp only [View.ld_unit_zero (S := S512x1024) hz2, View.ld_unit_zero (S := S1x1024) hz2]
  have e : ∀ j : Fin 1024, x2 (ix2 j ⟨1024 + n.val, by omega⟩) = View.ld x2 r0_5 (ix2 j n) :=
    fun j => (ld_at x2 1024 _ j n (by omega)).symm
  unfold dotRow mat
  simp only [e, ← norm_row]
  unfold k0_pay8 row
  generalize k0_pay5 x0 x1 = z
  generalize View.ld x2 r0_5 = y
  pointwise

theorem out_3 (x0 : Vec Ideal S512x1024 .f32) (x1 : Vec Ideal S1x1024 .f32) (x2 : Vec Ideal S1024x3584 .bf16) (r n : Fin 512) :
    (out0_6 x0 x1 x2 : FVec Ideal S512x512 .bf16) (ix2 r n)
      = dotRow (rms n1024 (row x0 r) (row x1 0)) (mat x2) ⟨1536 + n.val, by omega⟩ := by
  unfold_out out0_6
  rw [View.canon_unit_zero hz2]
  simp only [View.ld_unit_zero (S := S512x1024) hz2, View.ld_unit_zero (S := S1x1024) hz2]
  have e : ∀ j : Fin 1024, x2 (ix2 j ⟨1536 + n.val, by omega⟩) = View.ld x2 r0_6 (ix2 j n) :=
    fun j => (ld_at x2 1536 _ j n (by omega)).symm
  unfold dotRow mat
  simp only [e, ← norm_row]
  unfold k0_pay1 row
  generalize k0_pay5 x0 x1 = z
  generalize View.ld x2 r0_6 = y
  pointwise

theorem out_4 (x0 : Vec Ideal S512x1024 .f32) (x1 : Vec Ideal S1x1024 .f32) (x2 : Vec Ideal S1024x3584 .bf16) (r n : Fin 512) :
    (out0_7 x0 x1 x2 : FVec Ideal S512x512 .bf16) (ix2 r n)
      = dotRow (rms n1024 (row x0 r) (row x1 0)) (mat x2) ⟨2048 + n.val, by omega⟩ * scale := by
  unfold_out out0_7
  rw [View.canon_unit_zero hz2]
  simp only [View.ld_unit_zero (S := S512x1024) hz2, View.ld_unit_zero (S := S1x1024) hz2]
  have e : ∀ j : Fin 1024, x2 (ix2 j ⟨2048 + n.val, by omega⟩) = View.ld x2 r0_7 (ix2 j n) :=
    fun j => (ld_at x2 2048 _ j n (by omega)).symm
  unfold dotRow mat
  simp only [e, ← norm_row]
  unfold k0_pay2 row
  generalize k0_pay5 x0 x1 = z
  generalize View.ld x2 r0_7 = y
  pointwise
  rfl

theorem out_5 (x0 : Vec Ideal S512x1024 .f32) (x1 : Vec Ideal S1x1024 .f32) (x2 : Vec Ideal S1024x3584 .bf16) (r n : Fin 512) :
    (out0_8 x0 x1 x2 : FVec Ideal S512x512 .bf16) (ix2 r n)
      = dotRow (rms n1024 (row x0 r) (row x1 0)) (mat x2) ⟨2560 + n.val, by omega⟩ := by
  unfold_out out0_8
  rw [View.canon_unit_zero hz2]
  simp only [View.ld_unit_zero (S := S512x1024) hz2, View.ld_unit_zero (S := S1x1024) hz2]
  have e : ∀ j : Fin 1024, x2 (ix2 j ⟨2560 + n.val, by omega⟩) = View.ld x2 r0_8 (ix2 j n) :=
    fun j => (ld_at x2 2560 _ j n (by omega)).symm
  unfold dotRow mat
  simp only [e, ← norm_row]
  unfold k0_pay3 row
  generalize k0_pay5 x0 x1 = z
  generalize View.ld x2 r0_8 = y
  pointwise

theorem out_6 (x0 : Vec Ideal S512x1024 .f32) (x1 : Vec Ideal S1x1024 .f32) (x2 : Vec Ideal S1024x3584 .bf16) (r n : Fin 512) :
    (out0_9 x0 x1 x2 : FVec Ideal S512x512 .bf16) (ix2 r n)
      = dotRow (rms n1024 (row x0 r) (row x1 0)) (mat x2) ⟨3072 + n.val, by omega⟩ := by
  unfold_out out0_9
  rw [View.canon_unit_zero hz2]
  simp only [View.ld_unit_zero (S := S512x1024) hz2, View.ld_unit_zero (S := S1x1024) hz2]
  have e : ∀ j : Fin 1024, x2 (ix2 j ⟨3072 + n.val, by omega⟩) = View.ld x2 r0_9 (ix2 j n) :=
    fun j => (ld_at x2 3072 _ j n (by omega)).symm
  unfold dotRow mat
  simp only [e, ← norm_row]
  unfold k0_pay4 row
  generalize k0_pay5 x0 x1 = z
  generalize View.ld x2 r0_9 = y
  pointwise

variable (m : (ℓ : Loc nD τ sig) → Buf (Elt Ideal) ℓ) (ρ : Dev nD → PrngReg)

/-- The three arguments. -/
abbrev ax (c : Dev nD) : FVec Ideal S8x4096x1024 .f32 := m ((c : Thread nD τ).loc main_arg0)
abbrev awn (c : Dev nD) : FVec Ideal S1x1024 .f32 := m ((c : Thread nD τ).loc main_arg1)
abbrev aw (c : Dev nD) : FVec Ideal S1x1024x3584 .f32 := m ((c : Thread nD τ).loc main_arg2)

/-- Part `lo` of the projected row: columns `lo … lo + 511`. -/
def part (c : Dev nD) (lo : ℕ) (h : lo + 512 ≤ 3584) (i : S32768x512.Idx) : EReal :=
  projAt (ax m c) (awn m c) (aw m c) ⟨(i 0).val / 4096, by have : (i 0).val < 32768 := (i 0).isLt; omega⟩ ⟨(i 0).val % 4096, by omega⟩
    ⟨lo + (i 1).val, by have : (i 1).val < 512 := (i 1).isLt; omega⟩

/-- Grid point `t` is row block `t`. -/
theorem coords_at (t : Fin cfg0.N) : (grid0.coords t 0).val = t.val := by
  have h : ∀ t : Fin grid0.N, (grid0.coords t 0).val = t.val := by decide +kernel
  exact h t

theorem toNat_fin (a : Fin cfg0.N) : (BitVec.ofNat 32 a.val).toNat = a.val := by
  have hN : cfg0.N = 64 := N_0
  rw [BitVec.toNat_ofNat]
  exact Nat.mod_eq_of_lt (by have := a.isLt; omega)

/-- Window 0's array, as the host prepares it, and its block at a grid point. -/
theorem V_0 (c : Dev nD) : (V m c main_v0 : FVec Ideal S32768x1024 .f32) = shapeCast S32768x1024 (ax m c) shapeCasts_S8x4096x1024_S32768x1024 := by
  unfold_abbrev_sides
  after_results <;> rfl

theorem blk_0 (c : Dev nD) (t : Fin cfg0.N) (r : Fin 512) (k : Fin 1024) (p : Fin 32768) (hp : p.val = 512 * t.val + r.val) :
    (iblk m c 0 t : Vec Ideal S512x1024 .f32) (ix2 r k) = ax m c (ix3 ⟨p.val / 4096, by omega⟩ ⟨p.val % 4096, by omega⟩ k) := by
  unfold iblk
  rw [View.read_apply]
  show (V m c main_v0 : FVec Ideal S32768x1024 .f32) _ = _
  rw [V_0]
  refine (congrArg _ (?_ : _ = (ix2 p k : S32768x1024.Idx))).trans ?_
  rotate_left
  · pointwise
  funext a
  apply Fin.ext
  match a with
  | ⟨0, _⟩ =>
    show (BitVec.ofNat 32 (grid0.coords t 0).val).toNat * 512 + 1 * r.val = p.val
    rw [coords_at, toNat_fin]; omega
  | ⟨1, _⟩ => show 0 * 1024 + 1 * k.val = k.val; omega

/-- Window 1's array, as the host prepares it, and its block at a grid point. -/
theorem V_1 (c : Dev nD) : (V m c main_v2 : FVec Ideal S1x1024 .f32) = broadcastInDim S1x1024 ![1] bcast_S1024_S1x1024_1 (shapeCast S1024 (awn m c) shapeCasts_S1x1024_S1024) := by
  unfold_abbrev_sides
  after_results <;> rfl

theorem blk_1 (c : Dev nD) (t : Fin cfg0.N) (k : Fin 1024) :
    (iblk m c 1 t : Vec Ideal S1x1024 .f32) (ix2 0 k) = awn m c (ix2 0 k) := by
  unfold iblk
  rw [View.read_apply]
  show (V m c main_v2 : FVec Ideal S1x1024 .f32) _ = _
  rw [V_1]
  refine (congrArg _ (?_ : _ = (ix2 0 k : S1x1024.Idx))).trans ?_
  rotate_left
  · pointwise
  funext a
  apply Fin.ext
  match a with
  | ⟨0, _⟩ => show 0 * 1 + 1 * 0 = 0; omega
  | ⟨1, _⟩ => show 0 * 1024 + 1 * k.val = k.val; omega

/-- Window 2's array, as the host prepares it, and its block at a grid point. -/
theorem V_2 (c : Dev nD) : (V m c main_v4 : FVec Ideal S1024x3584 .bf16) = truncf .bf16 (shapeCast S1024x3584 (aw m c) shapeCasts_S1x1024x3584_S1024x3584) bitsLt_bf16_f32 := by
  unfold_abbrev_sides
  after_results <;> rfl

theorem blk_2 (c : Dev nD) (t : Fin cfg0.N) (j : Fin 1024) (k : Fin 3584) :
    (iblk m c 2 t : Vec Ideal S1024x3584 .bf16) (ix2 j k) = aw m c (ix3 0 j k) := by
  unfold iblk
  rw [View.read_apply]
  show (V m c main_v4 : FVec Ideal S1024x3584 .bf16) _ = _
  rw [V_2]
  refine (congrArg _ (?_ : _ = (ix2 j k : S1024x3584.Idx))).trans ?_
  rotate_left
  · pointwise
  funext a
  apply Fin.ext
  match a with
  | ⟨0, _⟩ => show 0 * 1024 + 1 * j.val = j.val; omega
  | ⟨1, _⟩ => show 0 * 3584 + 1 * k.val = k.val; omega

/-- A projected row of a grid point's blocks is the projected row of the arguments. -/
theorem proj_blk (c : Dev nD) (t : Fin cfg0.N) (r : Fin 512) (p : Fin 32768) (hp : p.val = 512 * t.val + r.val) (j : Fin 3584) :
    dotRow (rms n1024 (row (iblk m c 0 t : Vec Ideal S512x1024 .f32) r) (row (iblk m c 1 t : Vec Ideal S1x1024 .f32) 0))
        (mat (iblk m c 2 t : Vec Ideal S1024x3584 .bf16)) j
      = projAt (ax m c) (awn m c) (aw m c) ⟨p.val / 4096, by omega⟩ ⟨p.val % 4096, by omega⟩ j := by
  unfold projAt row mat
  simp only [fun k => blk_0 m c t r k p hp, fun k => blk_1 m c t k, fun j k => blk_2 m c t j k]

/-- Result 0: what the array is shown to hold, what a grid point writes back, and the array at the end. -/
def goal_0 (c : Dev nD) : Buf (Elt Ideal) ((c : Thread nD τ).loc main_v5_0) :=
  fun i : S32768x512.Idx => part m c 0 (by omega) i

theorem flushed_0 (c : Dev nD) (t : Fin cfg0.N) :
    (dats m 0 c).flushed 3 t = (win0_3.blk t).view.read (Elt Ideal) (goal_0 m c) := by
  have hN : cfg0.N = 64 := N_0
  have ht := t.isLt
  rw [Cert.Kernel3Ideal.Value.flushed3]
  funext j
  rw [View.read_apply]
  show (out0_3 (iblk m c 0 t) (iblk m c 1 t) (iblk m c 2 t) : FVec Ideal S512x512 .bf16) _ = goal_0 m c _
  have hj0 : (j 0).val < 512 := (j 0).isLt
  have hj1 : (j 1).val < 512 := (j 1).isLt
  have e := out_0 (iblk m c 0 t) (iblk m c 1 t) (iblk m c 2 t) ⟨(j 0).val, hj0⟩ ⟨(j 1).val, hj1⟩
  rw [proj_blk m c t ⟨(j 0).val, hj0⟩ ⟨512 * t.val + (j 0).val, by omega⟩ rfl] at e
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal_0 part
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show 0 + (j 1).val = 0 + (0 * 512 + 1 * (j 1).val); omega

theorem cover_0 (i : S32768x512.Idx) : ∃ t : Fin cfg0.N, (cfg0.win 3).flush t = true ∧ i ∈ ((cfg0.win 3).blk t).view.set := by
  have i0 : (i 0).val < 32768 := (i 0).isLt
  have i1 : (i 1).val < 512 := (i 1).isLt
  have hN : cfg0.N = 64 := N_0
  refine ⟨⟨(i 0).val / 512, by omega⟩, flush0_3 _, ?_⟩
  generalize ht : (⟨(i 0).val / 512, by omega⟩ : Fin cfg0.N) = t
  have hv : t.val = (i 0).val / 512 := by rw [← ht]
  show i ∈ ((View.whole main_v5_0).slice (win0_3.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 512 ≤ (i 1).val ∧ (i 1).val < 0 * 512 + 512; omega

theorem final_0 (c : Dev nD) : (dats m 0 c).arrAt 3 cfg0.N = goal_0 m c :=
  (dats m 0 c).arrAt_eq_of_cover 3 (goal_0 m c) (fun t _ => flushed_0 m c t) cover_0

/-- Result 1: what the array is shown to hold, what a grid point writes back, and the array at the end. -/
def goal_1 (c : Dev nD) : Buf (Elt Ideal) ((c : Thread nD τ).loc main_v5_1) :=
  fun i : S32768x512.Idx => part m c 512 (by omega) i

theorem flushed_1 (c : Dev nD) (t : Fin cfg0.N) :
    (dats m 0 c).flushed 4 t = (win0_4.blk t).view.read (Elt Ideal) (goal_1 m c) := by
  have hN : cfg0.N = 64 := N_0
  have ht := t.isLt
  rw [Cert.Kernel3Ideal.Value.flushed4]
  funext j
  rw [View.read_apply]
  show (out0_4 (iblk m c 0 t) (iblk m c 1 t) (iblk m c 2 t) : FVec Ideal S512x512 .f32) _ = goal_1 m c _
  have hj0 : (j 0).val < 512 := (j 0).isLt
  have hj1 : (j 1).val < 512 := (j 1).isLt
  have e := out_1 (iblk m c 0 t) (iblk m c 1 t) (iblk m c 2 t) ⟨(j 0).val, hj0⟩ ⟨(j 1).val, hj1⟩
  rw [proj_blk m c t ⟨(j 0).val, hj0⟩ ⟨512 * t.val + (j 0).val, by omega⟩ rfl] at e
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal_1 part
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show 512 + (j 1).val = 512 + (0 * 512 + 1 * (j 1).val); omega

theorem cover_1 (i : S32768x512.Idx) : ∃ t : Fin cfg0.N, (cfg0.win 4).flush t = true ∧ i ∈ ((cfg0.win 4).blk t).view.set := by
  have i0 : (i 0).val < 32768 := (i 0).isLt
  have i1 : (i 1).val < 512 := (i 1).isLt
  have hN : cfg0.N = 64 := N_0
  refine ⟨⟨(i 0).val / 512, by omega⟩, flush0_4 _, ?_⟩
  generalize ht : (⟨(i 0).val / 512, by omega⟩ : Fin cfg0.N) = t
  have hv : t.val = (i 0).val / 512 := by rw [← ht]
  show i ∈ ((View.whole main_v5_1).slice (win0_4.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 512 ≤ (i 1).val ∧ (i 1).val < 0 * 512 + 512; omega

theorem final_1 (c : Dev nD) : (dats m 0 c).arrAt 4 cfg0.N = goal_1 m c :=
  (dats m 0 c).arrAt_eq_of_cover 4 (goal_1 m c) (fun t _ => flushed_1 m c t) cover_1

/-- Result 2: what the array is shown to hold, what a grid point writes back, and the array at the end. -/
def goal_2 (c : Dev nD) : Buf (Elt Ideal) ((c : Thread nD τ).loc main_v5_2) :=
  fun i : S32768x512.Idx => part m c 1024 (by omega) i

theorem flushed_2 (c : Dev nD) (t : Fin cfg0.N) :
    (dats m 0 c).flushed 5 t = (win0_5.blk t).view.read (Elt Ideal) (goal_2 m c) := by
  have hN : cfg0.N = 64 := N_0
  have ht := t.isLt
  rw [Cert.Kernel3Ideal.Value.flushed5]
  funext j
  rw [View.read_apply]
  show (out0_5 (iblk m c 0 t) (iblk m c 1 t) (iblk m c 2 t) : FVec Ideal S512x512 .bf16) _ = goal_2 m c _
  have hj0 : (j 0).val < 512 := (j 0).isLt
  have hj1 : (j 1).val < 512 := (j 1).isLt
  have e := out_2 (iblk m c 0 t) (iblk m c 1 t) (iblk m c 2 t) ⟨(j 0).val, hj0⟩ ⟨(j 1).val, hj1⟩
  rw [proj_blk m c t ⟨(j 0).val, hj0⟩ ⟨512 * t.val + (j 0).val, by omega⟩ rfl] at e
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal_2 part
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show 1024 + (j 1).val = 1024 + (0 * 512 + 1 * (j 1).val); omega

theorem cover_2 (i : S32768x512.Idx) : ∃ t : Fin cfg0.N, (cfg0.win 5).flush t = true ∧ i ∈ ((cfg0.win 5).blk t).view.set := by
  have i0 : (i 0).val < 32768 := (i 0).isLt
  have i1 : (i 1).val < 512 := (i 1).isLt
  have hN : cfg0.N = 64 := N_0
  refine ⟨⟨(i 0).val / 512, by omega⟩, flush0_5 _, ?_⟩
  generalize ht : (⟨(i 0).val / 512, by omega⟩ : Fin cfg0.N) = t
  have hv : t.val = (i 0).val / 512 := by rw [← ht]
  show i ∈ ((View.whole main_v5_2).slice (win0_5.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 512 ≤ (i 1).val ∧ (i 1).val < 0 * 512 + 512; omega

theorem final_2 (c : Dev nD) : (dats m 0 c).arrAt 5 cfg0.N = goal_2 m c :=
  (dats m 0 c).arrAt_eq_of_cover 5 (goal_2 m c) (fun t _ => flushed_2 m c t) cover_2

/-- Result 3: what the array is shown to hold, what a grid point writes back, and the array at the end. -/
def goal_3 (c : Dev nD) : Buf (Elt Ideal) ((c : Thread nD τ).loc main_v5_3) :=
  fun i : S32768x512.Idx => part m c 1536 (by omega) i

theorem flushed_3 (c : Dev nD) (t : Fin cfg0.N) :
    (dats m 0 c).flushed 6 t = (win0_6.blk t).view.read (Elt Ideal) (goal_3 m c) := by
  have hN : cfg0.N = 64 := N_0
  have ht := t.isLt
  rw [Cert.Kernel3Ideal.Value.flushed6]
  funext j
  rw [View.read_apply]
  show (out0_6 (iblk m c 0 t) (iblk m c 1 t) (iblk m c 2 t) : FVec Ideal S512x512 .bf16) _ = goal_3 m c _
  have hj0 : (j 0).val < 512 := (j 0).isLt
  have hj1 : (j 1).val < 512 := (j 1).isLt
  have e := out_3 (iblk m c 0 t) (iblk m c 1 t) (iblk m c 2 t) ⟨(j 0).val, hj0⟩ ⟨(j 1).val, hj1⟩
  rw [proj_blk m c t ⟨(j 0).val, hj0⟩ ⟨512 * t.val + (j 0).val, by omega⟩ rfl] at e
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal_3 part
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show 1536 + (j 1).val = 1536 + (0 * 512 + 1 * (j 1).val); omega

theorem cover_3 (i : S32768x512.Idx) : ∃ t : Fin cfg0.N, (cfg0.win 6).flush t = true ∧ i ∈ ((cfg0.win 6).blk t).view.set := by
  have i0 : (i 0).val < 32768 := (i 0).isLt
  have i1 : (i 1).val < 512 := (i 1).isLt
  have hN : cfg0.N = 64 := N_0
  refine ⟨⟨(i 0).val / 512, by omega⟩, flush0_6 _, ?_⟩
  generalize ht : (⟨(i 0).val / 512, by omega⟩ : Fin cfg0.N) = t
  have hv : t.val = (i 0).val / 512 := by rw [← ht]
  show i ∈ ((View.whole main_v5_3).slice (win0_6.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 512 ≤ (i 1).val ∧ (i 1).val < 0 * 512 + 512; omega

theorem final_3 (c : Dev nD) : (dats m 0 c).arrAt 6 cfg0.N = goal_3 m c :=
  (dats m 0 c).arrAt_eq_of_cover 6 (goal_3 m c) (fun t _ => flushed_3 m c t) cover_3

/-- Result 4: what the array is shown to hold, what a grid point writes back, and the array at the end. -/
def goal_4 (c : Dev nD) : Buf (Elt Ideal) ((c : Thread nD τ).loc main_v5_4) :=
  fun i : S32768x512.Idx => part m c 2048 (by omega) i * scale

theorem flushed_4 (c : Dev nD) (t : Fin cfg0.N) :
    (dats m 0 c).flushed 7 t = (win0_7.blk t).view.read (Elt Ideal) (goal_4 m c) := by
  have hN : cfg0.N = 64 := N_0
  have ht := t.isLt
  rw [Cert.Kernel3Ideal.Value.flushed7]
  funext j
  rw [View.read_apply]
  show (out0_7 (iblk m c 0 t) (iblk m c 1 t) (iblk m c 2 t) : FVec Ideal S512x512 .bf16) _ = goal_4 m c _
  have hj0 : (j 0).val < 512 := (j 0).isLt
  have hj1 : (j 1).val < 512 := (j 1).isLt
  have e := out_4 (iblk m c 0 t) (iblk m c 1 t) (iblk m c 2 t) ⟨(j 0).val, hj0⟩ ⟨(j 1).val, hj1⟩
  rw [proj_blk m c t ⟨(j 0).val, hj0⟩ ⟨512 * t.val + (j 0).val, by omega⟩ rfl] at e
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal_4 part
    refine congrArg (· * scale) ?_
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show 2048 + (j 1).val = 2048 + (0 * 512 + 1 * (j 1).val); omega

theorem cover_4 (i : S32768x512.Idx) : ∃ t : Fin cfg0.N, (cfg0.win 7).flush t = true ∧ i ∈ ((cfg0.win 7).blk t).view.set := by
  have i0 : (i 0).val < 32768 := (i 0).isLt
  have i1 : (i 1).val < 512 := (i 1).isLt
  have hN : cfg0.N = 64 := N_0
  refine ⟨⟨(i 0).val / 512, by omega⟩, flush0_7 _, ?_⟩
  generalize ht : (⟨(i 0).val / 512, by omega⟩ : Fin cfg0.N) = t
  have hv : t.val = (i 0).val / 512 := by rw [← ht]
  show i ∈ ((View.whole main_v5_4).slice (win0_7.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 512 ≤ (i 1).val ∧ (i 1).val < 0 * 512 + 512; omega

theorem final_4 (c : Dev nD) : (dats m 0 c).arrAt 7 cfg0.N = goal_4 m c :=
  (dats m 0 c).arrAt_eq_of_cover 7 (goal_4 m c) (fun t _ => flushed_4 m c t) cover_4

/-- Result 5: what the array is shown to hold, what a grid point writes back, and the array at the end. -/
def goal_5 (c : Dev nD) : Buf (Elt Ideal) ((c : Thread nD τ).loc main_v5_5) :=
  fun i : S32768x512.Idx => part m c 2560 (by omega) i

theorem flushed_5 (c : Dev nD) (t : Fin cfg0.N) :
    (dats m 0 c).flushed 8 t = (win0_8.blk t).view.read (Elt Ideal) (goal_5 m c) := by
  have hN : cfg0.N = 64 := N_0
  have ht := t.isLt
  rw [Cert.Kernel3Ideal.Value.flushed8]
  funext j
  rw [View.read_apply]
  show (out0_8 (iblk m c 0 t) (iblk m c 1 t) (iblk m c 2 t) : FVec Ideal S512x512 .bf16) _ = goal_5 m c _
  have hj0 : (j 0).val < 512 := (j 0).isLt
  have hj1 : (j 1).val < 512 := (j 1).isLt
  have e := out_5 (iblk m c 0 t) (iblk m c 1 t) (iblk m c 2 t) ⟨(j 0).val, hj0⟩ ⟨(j 1).val, hj1⟩
  rw [proj_blk m c t ⟨(j 0).val, hj0⟩ ⟨512 * t.val + (j 0).val, by omega⟩ rfl] at e
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal_5 part
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show 2560 + (j 1).val = 2560 + (0 * 512 + 1 * (j 1).val); omega

theorem cover_5 (i : S32768x512.Idx) : ∃ t : Fin cfg0.N, (cfg0.win 8).flush t = true ∧ i ∈ ((cfg0.win 8).blk t).view.set := by
  have i0 : (i 0).val < 32768 := (i 0).isLt
  have i1 : (i 1).val < 512 := (i 1).isLt
  have hN : cfg0.N = 64 := N_0
  refine ⟨⟨(i 0).val / 512, by omega⟩, flush0_8 _, ?_⟩
  generalize ht : (⟨(i 0).val / 512, by omega⟩ : Fin cfg0.N) = t
  have hv : t.val = (i 0).val / 512 := by rw [← ht]
  show i ∈ ((View.whole main_v5_5).slice (win0_8.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 512 ≤ (i 1).val ∧ (i 1).val < 0 * 512 + 512; omega

theorem final_5 (c : Dev nD) : (dats m 0 c).arrAt 8 cfg0.N = goal_5 m c :=
  (dats m 0 c).arrAt_eq_of_cover 8 (goal_5 m c) (fun t _ => flushed_5 m c t) cover_5

/-- Result 6: what the array is shown to hold, what a grid point writes back, and the array at the end. -/
def goal_6 (c : Dev nD) : Buf (Elt Ideal) ((c : Thread nD τ).loc main_v5_6) :=
  fun i : S32768x512.Idx => part m c 3072 (by omega) i

theorem flushed_6 (c : Dev nD) (t : Fin cfg0.N) :
    (dats m 0 c).flushed 9 t = (win0_9.blk t).view.read (Elt Ideal) (goal_6 m c) := by
  have hN : cfg0.N = 64 := N_0
  have ht := t.isLt
  rw [Cert.Kernel3Ideal.Value.flushed9]
  funext j
  rw [View.read_apply]
  show (out0_9 (iblk m c 0 t) (iblk m c 1 t) (iblk m c 2 t) : FVec Ideal S512x512 .bf16) _ = goal_6 m c _
  have hj0 : (j 0).val < 512 := (j 0).isLt
  have hj1 : (j 1).val < 512 := (j 1).isLt
  have e := out_6 (iblk m c 0 t) (iblk m c 1 t) (iblk m c 2 t) ⟨(j 0).val, hj0⟩ ⟨(j 1).val, hj1⟩
  rw [proj_blk m c t ⟨(j 0).val, hj0⟩ ⟨512 * t.val + (j 0).val, by omega⟩ rfl] at e
  have p0 : (BitVec.ofNat 32 (grid0.coords t 0).val).toNat * 512 + 1 * (j 0).val = 512 * t.val + (j 0).val := by rw [coords_at, toNat_fin]; omega
  refine Eq.trans ?_ (e.trans ?_)
  · congr 1
    funext a
    apply Fin.ext
    match a with
    | ⟨0, _⟩ => rfl
    | ⟨1, _⟩ => rfl
  · unfold goal_6 part
    congr 1 <;> apply Fin.ext
    · show (512 * t.val + (j 0).val) / 4096 = ((BitVec.ofNat 32 (grid0.coords t 0).val).toNat * 512 + 1 * (j 0).val) / 4096; rw [p0]
    · show (512 * t.val + (j 0).val) % 4096 = ((BitVec.ofNat 32 (grid0.coords t 0).val).toNat * 512 + 1 * (j 0).val) % 4096; rw [p0]
    · show 3072 + (j 1).val = 3072 + (0 * 512 + 1 * (j 1).val); omega

theorem cover_6 (i : S32768x512.Idx) : ∃ t : Fin cfg0.N, (cfg0.win 9).flush t = true ∧ i ∈ ((cfg0.win 9).blk t).view.set := by
  have i0 : (i 0).val < 32768 := (i 0).isLt
  have i1 : (i 1).val < 512 := (i 1).isLt
  have hN : cfg0.N = 64 := N_0
  refine ⟨⟨(i 0).val / 512, by omega⟩, flush0_9 _, ?_⟩
  generalize ht : (⟨(i 0).val / 512, by omega⟩ : Fin cfg0.N) = t
  have hv : t.val = (i 0).val / 512 := by rw [← ht]
  show i ∈ ((View.whole main_v5_6).slice (win0_9.rect t)).set
  rw [View.set_slice_whole, Rect.mem_set_unit]
  intro a
  match a with
  | ⟨0, _⟩ =>
    show (BitVec.ofNat 32 (grid0.coords t 0).val).toNat * 512 ≤ (i 0).val ∧ (i 0).val < (BitVec.ofNat 32 (grid0.coords t 0).val).toNat * 512 + 512
    rw [coords_at, toNat_fin]; omega
  | ⟨1, _⟩ => show 0 * 512 ≤ (i 1).val ∧ (i 1).val < 0 * 512 + 512; omega

theorem final_6 (c : Dev nD) : (dats m 0 c).arrAt 9 cfg0.N = goal_6 m c :=
  (dats m 0 c).arrAt_eq_of_cover 9 (goal_6 m c) (fun t _ => flushed_6 m c t) cover_6

/-- The run, read: every result array at its part of the projection, the arguments unchanged. -/
theorem run : θ_run defs (onTc (τ := τ) (main (F := Ideal))) ⟨m, fun _ => 0, ρ⟩ fun r => ∀ c : Dev nD,
      r.2.mem ((c : Thread nD τ).loc main_v5_0) = goal_0 m c
      ∧ r.2.mem ((c : Thread nD τ).loc main_v5_1) = goal_1 m c
      ∧ r.2.mem ((c : Thread nD τ).loc main_v5_2) = goal_2 m c
      ∧ r.2.mem ((c : Thread nD τ).loc main_v5_3) = goal_3 m c
      ∧ r.2.mem ((c : Thread nD τ).loc main_v5_4) = goal_4 m c
      ∧ r.2.mem ((c : Thread nD τ).loc main_v5_5) = goal_5 m c
      ∧ r.2.mem ((c : Thread nD τ).loc main_v5_6) = goal_6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_0 m c), (h c).2.1.trans (final_1 m c), (h c).2.2.1.trans (final_2 m c), (h c).2.2.2.1.trans (final_3 m c), (h c).2.2.2.2.1.trans (final_4 m c), (h c).2.2.2.2.2.1.trans (final_5 m c), (h c).2.2.2.2.2.2.1.trans (final_6 m c), (h c).2.2.2.2.2.2.2⟩) (Cert.Kernel3Ideal.Value.run_blocks m ρ)

end Cert.Kernel3Ideal.Inproj

end
-- ==== Proof.InprojRef.lean ====
/-
  The reference of the input projection, read at an index: its part of the projected row.
-/
module

public import proofs.«01_k».proof.Proof.InprojMath
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Reference3Ideal.Inproj

open Cert.Reference3Ideal Cert.Reference3Ideal.Gen Cert.TailMath Cert.InprojMath
open Facts

variable (x : FVec Ideal S8x4096x1024 .f32) (wn : FVec Ideal S1x1024 .f32) (w : FVec Ideal S1x1024x3584 .f32)

/-- The normalised rows. -/
def normed : FVec Ideal S8x4096x1024 .f32 := (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast (α := Ideal .f32) _ wn shapeCasts_S1x1024_S1024))))

/-- The whole projection. -/
def proj : FVec Ideal S8x4096x3584 .f32 := Host.dotGeneral (φ₁ := .f32) (φ₂ := .f32) dot_S8x4096x1024_S1024x3584_S8x4096x3584_2_0_01_1_n_n none (normed x wn) (shapeCast (α := Ideal .f32) _ w shapeCasts_S1x1024x3584_S1024x3584)

theorem normed_at (b : Fin 8) (t : Fin 4096) (k : Fin 1024) :
    normed x wn (ix3 b t k) = rms n1024 (fun k => x (ix3 b t k)) (fun k => wn (ix2 0 k)) k := by
  unfold normed
  pointwise
  rfl

theorem proj_at (b : Fin 8) (t : Fin 4096) (j : Fin 3584) : proj x wn w (ix3 b t j) = projAt x wn w b t j := by
  unfold projAt dotRow
  simp only [← normed_at]
  unfold proj
  generalize normed x wn = z
  pointwise

/-! The seven results, at a row and a column. -/

def result_0 : FVec Ideal S32768x512 .bf16 := truncf .bf16 (shapeCast (α := Ideal .f32) _ (extractStridedSlice S8x4096x512 ![0, 0, 0] (proj x wn w) slices_S8x4096x3584_S8x4096x512_0_0_0) shapeCasts_S8x4096x512_S32768x512) bitsLt_bf16_f32

theorem result_0_at (r : Fin 32768) (n : Fin 512) : result_0 x wn w (ix2 r n)
    = projAt x wn w ⟨r.val / 4096, by omega⟩ ⟨r.val % 4096, by omega⟩ ⟨0 + n.val, by omega⟩ := by
  rw [← proj_at]
  unfold result_0
  generalize proj x wn w = z
  pointwise

def result_1 : FVec Ideal S32768x512 .f32 := shapeCast (α := Ideal .f32) _ (extractStridedSlice S8x4096x512 ![0, 0, 512] (proj x wn w) slices_S8x4096x3584_S8x4096x512_0_0_512) shapeCasts_S8x4096x512_S32768x512

theorem result_1_at (r : Fin 32768) (n : Fin 512) : result_1 x wn w (ix2 r n)
    = projAt x wn w ⟨r.val / 4096, by omega⟩ ⟨r.val % 4096, by omega⟩ ⟨512 + n.val, by omega⟩ := by
  rw [← proj_at]
  unfold result_1
  generalize proj x wn w = z
  pointwise

def result_2 : FVec Ideal S32768x512 .bf16 := truncf .bf16 (shapeCast (α := Ideal .f32) _ (extractStridedSlice S8x4096x512 ![0, 0, 1024] (proj x wn w) slices_S8x4096x3584_S8x4096x512_0_0_1024) shapeCasts_S8x4096x512_S32768x512) bitsLt_bf16_f32

theorem result_2_at (r : Fin 32768) (n : Fin 512) : result_2 x wn w (ix2 r n)
    = projAt x wn w ⟨r.val / 4096, by omega⟩ ⟨r.val % 4096, by omega⟩ ⟨1024 + n.val, by omega⟩ := by
  rw [← proj_at]
  unfold result_2
  generalize proj x wn w = z
  pointwise

def result_3 : FVec Ideal S32768x512 .bf16 := truncf .bf16 (shapeCast (α := Ideal .f32) _ (extractStridedSlice S8x4096x512 ![0, 0, 1536] (proj x wn w) slices_S8x4096x3584_S8x4096x512_0_0_1536) shapeCasts_S8x4096x512_S32768x512) bitsLt_bf16_f32

theorem result_3_at (r : Fin 32768) (n : Fin 512) : result_3 x wn w (ix2 r n)
    = projAt x wn w ⟨r.val / 4096, by omega⟩ ⟨r.val % 4096, by omega⟩ ⟨1536 + n.val, by omega⟩ := by
  rw [← proj_at]
  unfold result_3
  generalize proj x wn w = z
  pointwise

def result_4 : FVec Ideal S32768x512 .bf16 := truncf .bf16 (shapeCast (α := Ideal .f32) _ (mulf (extractStridedSlice S8x4096x512 ![0, 0, 2048] (proj x wn w) slices_S8x4096x3584_S8x4096x512_0_0_2048) (broadcastInDim S8x4096x512 ![] bcast_S_S8x4096x512 (constant S_ .f32 0x3E000000#32))) shapeCasts_S8x4096x512_S32768x512) bitsLt_bf16_f32

theorem result_4_at (r : Fin 32768) (n : Fin 512) : result_4 x wn w (ix2 r n)
    = projAt x wn w ⟨r.val / 4096, by omega⟩ ⟨r.val % 4096, by omega⟩ ⟨2048 + n.val, by omega⟩ * scale := by
  rw [← proj_at]
  unfold result_4
  generalize proj x wn w = z
  pointwise
  rfl

def result_5 : FVec Ideal S32768x512 .bf16 := truncf .bf16 (shapeCast (α := Ideal .f32) _ (extractStridedSlice S8x4096x512 ![0, 0, 2560] (proj x wn w) slices_S8x4096x3584_S8x4096x512_0_0_2560) shapeCasts_S8x4096x512_S32768x512) bitsLt_bf16_f32

theorem result_5_at (r : Fin 32768) (n : Fin 512) : result_5 x wn w (ix2 r n)
    = projAt x wn w ⟨r.val / 4096, by omega⟩ ⟨r.val % 4096, by omega⟩ ⟨2560 + n.val, by omega⟩ := by
  rw [← proj_at]
  unfold result_5
  generalize proj x wn w = z
  pointwise

def result_6 : FVec Ideal S32768x512 .bf16 := truncf .bf16 (shapeCast (α := Ideal .f32) _ (extractStridedSlice S8x4096x512 ![0, 0, 3072] (proj x wn w) slices_S8x4096x3584_S8x4096x512_0_0_3072) shapeCasts_S8x4096x512_S32768x512) bitsLt_bf16_f32

theorem result_6_at (r : Fin 32768) (n : Fin 512) : result_6 x wn w (ix2 r n)
    = projAt x wn w ⟨r.val / 4096, by omega⟩ ⟨r.val % 4096, by omega⟩ ⟨3072 + n.val, by omega⟩ := by
  rw [← proj_at]
  unfold result_6
  generalize proj x wn w = z
  pointwise

end Cert.Reference3Ideal.Inproj

end
-- ==== Proof.Inproj.lean ====
/-
  The input projection's claims: the frames, and the equality of the kernel's and the reference's results.
-/
module

public import proofs.«01_k».proof.Defs
public import proofs.«01_k».proof.Proof.InprojValue
public import proofs.«01_k».proof.Proof.InprojRef
public import proofs.«01_k».proof.Proof.Gen.Kernel3.Frame

@[expose] public section

set_option maxRecDepth 16384

noncomputable section

open Idealize.ShloMosaic Idealize.ShloMosaic.TcCoe Idealize.SL.Sem

namespace Cert.Inproj

theorem kernel_frame : Cert.quiescent_Kernel3 := fun m ρ _ => Cert.Kernel3.Gen.frame m ρ

theorem kernelIdeal_frame : Cert.quiescent_Kernel3Ideal := fun m ρ _ => Cert.Kernel3Ideal.Gen.frame m ρ

theorem referenceIdeal_frame : Cert.quiescent_Reference3Ideal := fun m ρ _ =>
  (θ_run Cert.Reference3Ideal.defs _ _).mono (fun r h => ⟨fun c => (h c).2.2.2.2.2.2.2, Idealize.ShloMosaic.sem_eq_zero_of_no_sems (by decide) r.2⟩)
    (Cert.Reference3Ideal.Value.run (F := Ideal) m ρ)

theorem goal_0_eq (m : (ℓ : Loc Cert.Kernel3Ideal.nD Cert.Kernel3Ideal.τ Cert.Kernel3Ideal.sig) → Buf (Elt Ideal) ℓ) (c : Dev Cert.Kernel3Ideal.nD) :
    Cert.Reference3Ideal.Inproj.result_0 (Cert.Kernel3Ideal.Inproj.ax m c) (Cert.Kernel3Ideal.Inproj.awn m c) (Cert.Kernel3Ideal.Inproj.aw m c)
      = Cert.Kernel3Ideal.Inproj.goal_0 m c := by
  funext i
  rw [eq_ix2 i]
  exact Cert.Reference3Ideal.Inproj.result_0_at _ _ _ (i 0) (i 1)

theorem goal_1_eq (m : (ℓ : Loc Cert.Kernel3Ideal.nD Cert.Kernel3Ideal.τ Cert.Kernel3Ideal.sig) → Buf (Elt Ideal) ℓ) (c : Dev Cert.Kernel3Ideal.nD) :
    Cert.Reference3Ideal.Inproj.result_1 (Cert.Kernel3Ideal.Inproj.ax m c) (Cert.Kernel3Ideal.Inproj.awn m c) (Cert.Kernel3Ideal.Inproj.aw m c)
      = Cert.Kernel3Ideal.Inproj.goal_1 m c := by
  funext i
  rw [eq_ix2 i]
  exact Cert.Reference3Ideal.Inproj.result_1_at _ _ _ (i 0) (i 1)

theorem goal_2_eq (m : (ℓ : Loc Cert.Kernel3Ideal.nD Cert.Kernel3Ideal.τ Cert.Kernel3Ideal.sig) → Buf (Elt Ideal) ℓ) (c : Dev Cert.Kernel3Ideal.nD) :
    Cert.Reference3Ideal.Inproj.result_2 (Cert.Kernel3Ideal.Inproj.ax m c) (Cert.Kernel3Ideal.Inproj.awn m c) (Cert.Kernel3Ideal.Inproj.aw m c)
      = Cert.Kernel3Ideal.Inproj.goal_2 m c := by
  funext i
  rw [eq_ix2 i]
  exact Cert.Reference3Ideal.Inproj.result_2_at _ _ _ (i 0) (i 1)

theorem goal_3_eq (m : (ℓ : Loc Cert.Kernel3Ideal.nD Cert.Kernel3Ideal.τ Cert.Kernel3Ideal.sig) → Buf (Elt Ideal) ℓ) (c : Dev Cert.Kernel3Ideal.nD) :
    Cert.Reference3Ideal.Inproj.result_3 (Cert.Kernel3Ideal.Inproj.ax m c) (Cert.Kernel3Ideal.Inproj.awn m c) (Cert.Kernel3Ideal.Inproj.aw m c)
      = Cert.Kernel3Ideal.Inproj.goal_3 m c := by
  funext i
  rw [eq_ix2 i]
  exact Cert.Reference3Ideal.Inproj.result_3_at _ _ _ (i 0) (i 1)

theorem goal_4_eq (m : (ℓ : Loc Cert.Kernel3Ideal.nD Cert.Kernel3Ideal.τ Cert.Kernel3Ideal.sig) → Buf (Elt Ideal) ℓ) (c : Dev Cert.Kernel3Ideal.nD) :
    Cert.Reference3Ideal.Inproj.result_4 (Cert.Kernel3Ideal.Inproj.ax m c) (Cert.Kernel3Ideal.Inproj.awn m c) (Cert.Kernel3Ideal.Inproj.aw m c)
      = Cert.Kernel3Ideal.Inproj.goal_4 m c := by
  funext i
  rw [eq_ix2 i]
  exact Cert.Reference3Ideal.Inproj.result_4_at _ _ _ (i 0) (i 1)

theorem goal_5_eq (m : (ℓ : Loc Cert.Kernel3Ideal.nD Cert.Kernel3Ideal.τ Cert.Kernel3Ideal.sig) → Buf (Elt Ideal) ℓ) (c : Dev Cert.Kernel3Ideal.nD) :
    Cert.Reference3Ideal.Inproj.result_5 (Cert.Kernel3Ideal.Inproj.ax m c) (Cert.Kernel3Ideal.Inproj.awn m c) (Cert.Kernel3Ideal.Inproj.aw m c)
      = Cert.Kernel3Ideal.Inproj.goal_5 m c := by
  funext i
  rw [eq_ix2 i]
  exact Cert.Reference3Ideal.Inproj.result_5_at _ _ _ (i 0) (i 1)

theorem goal_6_eq (m : (ℓ : Loc Cert.Kernel3Ideal.nD Cert.Kernel3Ideal.τ Cert.Kernel3Ideal.sig) → Buf (Elt Ideal) ℓ) (c : Dev Cert.Kernel3Ideal.nD) :
    Cert.Reference3Ideal.Inproj.result_6 (Cert.Kernel3Ideal.Inproj.ax m c) (Cert.Kernel3Ideal.Inproj.awn m c) (Cert.Kernel3Ideal.Inproj.aw m c)
      = Cert.Kernel3Ideal.Inproj.goal_6 m c := by
  funext i
  rw [eq_ix2 i]
  exact Cert.Reference3Ideal.Inproj.result_6_at _ _ _ (i 0) (i 1)

/-- **The value claim**: from any arguments each of the kernel's seven results is the reference's. -/
theorem value : Cert.algebraic_Kernel3Ideal_Reference3Ideal := by
  intro m ρ m' ρ' _ hagree
  refine ⟨fun c => Cert.Kernel3Ideal.Inproj.goal_0 m c, fun c => Cert.Kernel3Ideal.Inproj.goal_1 m c, fun c => Cert.Kernel3Ideal.Inproj.goal_2 m c, fun c => Cert.Kernel3Ideal.Inproj.goal_3 m c, fun c => Cert.Kernel3Ideal.Inproj.goal_4 m c, fun c => Cert.Kernel3Ideal.Inproj.goal_5 m c, fun c => Cert.Kernel3Ideal.Inproj.goal_6 m c, Cert.Kernel3Ideal.Inproj.run m ρ, ?_⟩
  refine (θ_run Cert.Reference3Ideal.defs _ _).mono (fun r h c => ?_) (Cert.Reference3Ideal.Value.run (F := Ideal) m' ρ')
  obtain ⟨h0, h1, h2⟩ := hagree c
  have h := h c
  rw [h0, h1, h2] at h
  obtain ⟨r0, r1, r2, r3, r4, r5, r6, a0, a1, a2⟩ := h
  exact ⟨r0.trans (goal_0_eq m c), r1.trans (goal_1_eq m c), r2.trans (goal_2_eq m c), r3.trans (goal_3_eq m c), r4.trans (goal_4_eq m c), r5.trans (goal_5_eq m c), r6.trans (goal_6_eq m c), a0.trans h0.symm, a1.trans h1.symm, a2.trans h2.symm⟩

end Cert.Inproj

end
-- ==== Proof.HgrnLoops.lean ====
/-
  The linear recurrence, inside one grid point: the loop that fills the scratch matrix of the within-group products, once
  for each of the four heads.
-/
module

public import proofs.«01_k».proof.Proof.Gen.Kernel4Ideal.Frame
public import proofs.«01_k».proof.Proof.Gen.Kernel4Ideal.Loops
public import Idealize.ShloMosaic.Lib.WritesUnit
public import Idealize.ShloMosaic.Lib.VecWindow
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.Kernel4Ideal.Hgrn

open Cert.Kernel4Ideal Cert.Kernel4Ideal.Gen

variable {F : FTy → Type} [FloatOps F]

/-- Sixteen rows of a matrix, from row `r`. -/
def rows16 (x : Vec F S128x128 .f32) (r : ℕ) : Vec F S16x128 .f32 := fun y => x (ix2 (Fin.ofNat 128 (r + (y 0).val)) (y 1))

/-- Row `r` of a matrix. -/
def row1 (x : Vec F S128x128 .f32) (r : ℕ) : Vec F S1x128 .f32 := fun y => x (ix2 (Fin.ofNat 128 r) (y 1))

/-- The within-group products: row `t`, column `128 s + k` is the product of the query at `t`, the key at the `s`-th row of
    `t`'s group of sixteen, and the decay between them, all at coordinate `k`. -/
def prods (B Q K : Vec F S128x128 .f32) : Vec F S128x2048 .bf16 := fun y =>
  k0_pay2 (rows16 B (16 * ((y 0).val / 16))) (rows16 Q (16 * ((y 0).val / 16)))
    (row1 B (16 * ((y 0).val / 16) + (y 1).val / 128)) (row1 K (16 * ((y 0).val / 16) + (y 1).val / 128))
    (ix2 (Fin.ofNat 16 (y 0).val) (Fin.ofNat 128 (y 1).val))

theorem iv_eq : ∀ k : Fin 8, (Scalar.indexCast (Scalar.muli (Scf.iv 0#32 1#32 k.val) 16#32) : Index).toNat = 16 * k.val := by decide +kernel
theorem iv_row : ∀ k : Fin 8, ∀ s : Fin 16,
    (Scalar.indexCast (Scalar.addi (Scalar.muli (Scf.iv 0#32 1#32 k.val) 16#32) (BitVec.ofNat 32 s.val)) : Index).toNat = 16 * k.val + s.val := by
  decide +kernel

/-- Reading sixteen rows of a matrix. -/
theorem ld_rows (x : Vec F S128x128 .f32) (r : ℕ) (off : Fin 2 → ℕ) (h : off = ![r, 0]) (hr : r + 16 ≤ 128)
    (inb : ∀ a, off a + S16x128.size a ≤ S128x128.size a) :
    View.ld x (Rect.unit (s := S128x128) off S16x128.size inb) = rows16 x r := by
  subst h
  funext y
  show x _ = x _
  have h0 : (y 0).val < 16 := (y 0).isLt
  congr 1
  funext d
  apply Fin.ext
  match d with
  | ⟨0, _⟩ => show r + 1 * (y 0).val = (r + (y 0).val) % 128; rw [Nat.mod_eq_of_lt (by omega)]; omega
  | ⟨1, _⟩ => show 0 + 1 * (y 1).val = (y 1).val; omega

/-- Reading one row of a matrix. -/
theorem ld_row (x : Vec F S128x128 .f32) (r : ℕ) (off : Fin 2 → ℕ) (h : off = ![r, 0]) (hr : r < 128)
    (inb : ∀ a, off a + S1x128.size a ≤ S128x128.size a) :
    View.ld x (Rect.unit (s := S128x128) off S1x128.size inb) = row1 x r := by
  subst h
  funext y
  show x _ = x _
  have h0 : (y 0).val < 1 := (y 0).isLt
  congr 1
  funext d
  apply Fin.ext
  match d with
  | ⟨0, _⟩ => show r + 1 * (y 0).val = r % 128; rw [Nat.mod_eq_of_lt hr]; omega
  | ⟨1, _⟩ => show 0 + 1 * (y 1).val = (y 1).val; omega

/-- One store of a trip: sixteen rows and 128 columns of the products. -/
theorem piece (B Q K : Vec F S128x128 .f32) (k : Fin 8) (s : Fin 16) (oB oR oD : Fin 2 → ℕ) (hB : oB = ![16 * k.val, 0])
    (hR : oR = ![16 * k.val + s.val, 0]) (hD : oD = ![16 * k.val, 128 * s.val])
    (iB : ∀ a, oB a + S16x128.size a ≤ S128x128.size a) (iR : ∀ a, oR a + S1x128.size a ≤ S128x128.size a)
    (iD : ∀ a, oD a + S16x128.size a ≤ S128x2048.size a) (x : S16x128.Idx) :
    k0_pay2 (View.ld B (Rect.unit (s := S128x128) oB S16x128.size iB)) (View.ld Q (Rect.unit (s := S128x128) oB S16x128.size iB))
        (View.ld B (Rect.unit (s := S128x128) oR S1x128.size iR)) (View.ld K (Rect.unit (s := S128x128) oR S1x128.size iR)) x
      = prods B Q K ((Rect.unit (s := S128x2048) oD S16x128.size iD).emb x) := by
  have hk := k.isLt
  have hs := s.isLt
  have x0 : (x 0).val < 16 := (x 0).isLt
  have x1 : (x 1).val < 128 := (x 1).isLt
  rw [ld_rows B _ oB hB (by omega), ld_rows Q _ oB hB (by omega), ld_row B _ oR hR (by omega), ld_row K _ oR hR (by omega)]
  subst hD
  unfold prods
  have e0 : ((Rect.unit (s := S128x2048) ![16 * k.val, 128 * s.val] S16x128.size iD).emb x 0).val = 16 * k.val + (x 0).val := by
    show 16 * k.val + 1 * (x 0).val = _; omega
  have e1 : ((Rect.unit (s := S128x2048) ![16 * k.val, 128 * s.val] S16x128.size iD).emb x 1).val = 128 * s.val + (x 1).val := by
    show 128 * s.val + 1 * (x 1).val = _; omega
  rw [e0, e1, show (16 * k.val + (x 0).val) / 16 = k.val by omega, show (128 * s.val + (x 1).val) / 128 = s.val by omega]
  congr 1
  funext d
  apply Fin.ext
  match d with
  | ⟨0, _⟩ => show (x 0).val = (16 * k.val + (x 0).val) % 16; omega
  | ⟨1, _⟩ => show (x 1).val = (128 * s.val + (x 1).val) % 128; omega

/-- Where a store of a trip lies. -/
theorem piece_mem (k : Fin 8) (s : Fin 16) (oD : Fin 2 → ℕ) (hD : oD = ![16 * k.val, 128 * s.val])
    (iD : ∀ a, oD a + S16x128.size a ≤ S128x2048.size a) (y : S128x2048.Idx) (h0 : (y 0).val / 16 = k.val) (h1 : (y 1).val / 128 = s.val) :
    y ∈ (Rect.unit (s := S128x2048) oD S16x128.size iD).set := by
  subst hD
  rw [Rect.mem_set_unit]
  intro a
  match a with
  | ⟨0, _⟩ => show 16 * k.val ≤ (y 0).val ∧ (y 0).val < 16 * k.val + 16; omega
  | ⟨1, _⟩ => show 128 * s.val ≤ (y 1).val ∧ (y 1).val < 128 * s.val + 128; omega

/-- Four entries down a list. -/
theorem four {α : Type*} {a b c d x : α} {l : List α} (h : x ∈ l) : x ∈ a :: b :: c :: d :: l := .tail _ (.tail _ (.tail _ (.tail _ h)))

/-! ## Head 0 -/

theorem trips1 : k0_t1_loop.trips = 8 := by decide +kernel

theorem offs1 (k : Fin k0_t1_loop.trips) (h : k.val < 8) :
    k0_off1 k = ![16 * k.val, 0] ∧ ∀ s : Fin 16, k0_off2 k (BitVec.ofNat 32 s.val) = ![16 * k.val + s.val, 0] := by
  constructor
  · have := iv_eq ⟨k.val, h⟩
    unfold k0_off1
    exact congrArg (fun n => ![n, 0]) this
  · intro s
    have := iv_row ⟨k.val, h⟩ s
    unfold k0_off2
    exact congrArg (fun n => ![n, 0]) this

theorem offd1_0 (k : Fin k0_t1_loop.trips) (h : k.val < 8) : k0_off3 k = ![16 * k.val, 128 * 0] :=
  congrArg (![·, 0]) (iv_eq ⟨k.val, h⟩)
theorem offd1_1 (k : Fin k0_t1_loop.trips) (h : k.val < 8) : k0_off4 k = ![16 * k.val, 128 * 1] :=
  congrArg (![·, 128]) (iv_eq ⟨k.val, h⟩)
theorem offd1_2 (k : Fin k0_t1_loop.trips) (h : k.val < 8) : k0_off5 k = ![16 * k.val, 128 * 2] :=
  congrArg (![·, 256]) (iv_eq ⟨k.val, h⟩)
theorem offd1_3 (k : Fin k0_t1_loop.trips) (h : k.val < 8) : k0_off6 k = ![16 * k.val, 128 * 3] :=
  congrArg (![·, 384]) (iv_eq ⟨k.val, h⟩)
theorem offd1_4 (k : Fin k0_t1_loop.trips) (h : k.val < 8) : k0_off7 k = ![16 * k.val, 128 * 4] :=
  congrArg (![·, 512]) (iv_eq ⟨k.val, h⟩)
theorem offd1_5 (k : Fin k0_t1_loop.trips) (h : k.val < 8) : k0_off8 k = ![16 * k.val, 128 * 5] :=
  congrArg (![·, 640]) (iv_eq ⟨k.val, h⟩)
theorem offd1_6 (k : Fin k0_t1_loop.trips) (h : k.val < 8) : k0_off9 k = ![16 * k.val, 128 * 6] :=
  congrArg (![·, 768]) (iv_eq ⟨k.val, h⟩)
theorem offd1_7 (k : Fin k0_t1_loop.trips) (h : k.val < 8) : k0_off10 k = ![16 * k.val, 128 * 7] :=
  congrArg (![·, 896]) (iv_eq ⟨k.val, h⟩)
theorem offd1_8 (k : Fin k0_t1_loop.trips) (h : k.val < 8) : k0_off11 k = ![16 * k.val, 128 * 8] :=
  congrArg (![·, 1024]) (iv_eq ⟨k.val, h⟩)
theorem offd1_9 (k : Fin k0_t1_loop.trips) (h : k.val < 8) : k0_off12 k = ![16 * k.val, 128 * 9] :=
  congrArg (![·, 1152]) (iv_eq ⟨k.val, h⟩)
theorem offd1_10 (k : Fin k0_t1_loop.trips) (h : k.val < 8) : k0_off13 k = ![16 * k.val, 128 * 10] :=
  congrArg (![·, 1280]) (iv_eq ⟨k.val, h⟩)
theorem offd1_11 (k : Fin k0_t1_loop.trips) (h : k.val < 8) : k0_off14 k = ![16 * k.val, 128 * 11] :=
  congrArg (![·, 1408]) (iv_eq ⟨k.val, h⟩)
theorem offd1_12 (k : Fin k0_t1_loop.trips) (h : k.val < 8) : k0_off15 k = ![16 * k.val, 128 * 12] :=
  congrArg (![·, 1536]) (iv_eq ⟨k.val, h⟩)
theorem offd1_13 (k : Fin k0_t1_loop.trips) (h : k.val < 8) : k0_off16 k = ![16 * k.val, 128 * 13] :=
  congrArg (![·, 1664]) (iv_eq ⟨k.val, h⟩)
theorem offd1_14 (k : Fin k0_t1_loop.trips) (h : k.val < 8) : k0_off17 k = ![16 * k.val, 128 * 14] :=
  congrArg (![·, 1792]) (iv_eq ⟨k.val, h⟩)
theorem offd1_15 (k : Fin k0_t1_loop.trips) (h : k.val < 8) : k0_off18 k = ![16 * k.val, 128 * 15] :=
  congrArg (![·, 1920]) (iv_eq ⟨k.val, h⟩)

section
variable (𝒱 : Variants) (c : Dev nD) (bd : Option 𝒱.V) (i : grid0.Coords) (arg2 : Memref sig .tc .vmem S1x128x512 .bf16) (harg2 : arg2.IsWhole) (arg3 : Memref sig .tc .vmem S1x128x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S128x128 .bf16) (harg8 : arg8.IsWhole) (arg9 : Memref sig .tc .vmem S2048x128 .bf16) (harg9 : arg9.IsWhole) (arg10 : Memref sig .tc .vmem S1x128x512 .bf16) (harg10 : arg10.IsWhole) (arg11 : Memref sig .tc .vmem S4x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x2048 .bf16) (harg15 : arg15.IsWhole) (arg16 : Memref sig .tc .vmem S128x512 .f32) (harg16 : arg16.IsWhole) (v15 : IVec S16x128 32) (v16 : IVec S16x128 32) (v24 : FVec F S128x128 .f32) (v53 : FVec F S128x128 .f32) (v62 : FVec F S128x128 .f32) (v83 : FVec F S1x128x128 .f32)
    (B Q K : Vec F S128x128 .f32) (X12 : BufTy.Contents (Elt F) arg12.view.ty) (X13 : BufTy.Contents (Elt F) arg13.view.ty) (X14 : BufTy.Contents (Elt F) arg14.view.ty)

/-- What trip `k` stores is the products there. -/
theorem agree1 (hB : arg12.view.read (Elt F) X12 = B) (hQ : arg13.view.read (Elt F) X13 = Q) (hK : arg14.view.read (Elt F) X14 = K)
    (k : Fin k0_t1_loop.trips) (h : k.val < 8) :
    ∀ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 k, ∀ x, p.2 x = prods B Q K (p.1.emb x) := by
  unfold tripL_k0_t1 trip_k0_t1
  dsimp only
  sl_unfold_run_names
  simp only [View.readAt_eq_ld, hB, hQ, hK]
  intro p hp
  simp only [List.mem_cons, List.not_mem_nil, or_false] at hp
  rcases hp with rfl | rfl | rfl | rfl | rfl | rfl | rfl | rfl | rfl | rfl | rfl | rfl | rfl | rfl | rfl | rfl
  · exact fun x => piece _ _ _ ⟨k.val, h⟩ 15 _ _ _ (offs1 k h).1 ((offs1 k h).2 15) (offd1_15 k h) _ _ (k0_off18_inb k) x
  · exact fun x => piece _ _ _ ⟨k.val, h⟩ 14 _ _ _ (offs1 k h).1 ((offs1 k h).2 14) (offd1_14 k h) _ _ (k0_off17_inb k) x
  · exact fun x => piece _ _ _ ⟨k.val, h⟩ 13 _ _ _ (offs1 k h).1 ((offs1 k h).2 13) (offd1_13 k h) _ _ (k0_off16_inb k) x
  · exact fun x => piece _ _ _ ⟨k.val, h⟩ 12 _ _ _ (offs1 k h).1 ((offs1 k h).2 12) (offd1_12 k h) _ _ (k0_off15_inb k) x
  · exact fun x => piece _ _ _ ⟨k.val, h⟩ 11 _ _ _ (offs1 k h).1 ((offs1 k h).2 11) (offd1_11 k h) _ _ (k0_off14_inb k) x
  · exact fun x => piece _ _ _ ⟨k.val, h⟩ 10 _ _ _ (offs1 k h).1 ((offs1 k h).2 10) (offd1_10 k h) _ _ (k0_off13_inb k) x
  · exact fun x => piece _ _ _ ⟨k.val, h⟩ 9 _ _ _ (offs1 k h).1 ((offs1 k h).2 9) (offd1_9 k h) _ _ (k0_off12_inb k) x
  · exact fun x => piece _ _ _ ⟨k.val, h⟩ 8 _ _ _ (offs1 k h).1 ((offs1 k h).2 8) (offd1_8 k h) _ _ (k0_off11_inb k) x
  · exact fun x => piece _ _ _ ⟨k.val, h⟩ 7 _ _ _ (offs1 k h).1 ((offs1 k h).2 7) (offd1_7 k h) _ _ (k0_off10_inb k) x
  · exact fun x => piece _ _ _ ⟨k.val, h⟩ 6 _ _ _ (offs1 k h).1 ((offs1 k h).2 6) (offd1_6 k h) _ _ (k0_off9_inb k) x
  · exact fun x => piece _ _ _ ⟨k.val, h⟩ 5 _ _ _ (offs1 k h).1 ((offs1 k h).2 5) (offd1_5 k h) _ _ (k0_off8_inb k) x
  · exact fun x => piece _ _ _ ⟨k.val, h⟩ 4 _ _ _ (offs1 k h).1 ((offs1 k h).2 4) (offd1_4 k h) _ _ (k0_off7_inb k) x
  · exact fun x => piece _ _ _ ⟨k.val, h⟩ 3 _ _ _ (offs1 k h).1 ((offs1 k h).2 3) (offd1_3 k h) _ _ (k0_off6_inb k) x
  · exact fun x => piece _ _ _ ⟨k.val, h⟩ 2 _ _ _ (offs1 k h).1 ((offs1 k h).2 2) (offd1_2 k h) _ _ (k0_off5_inb k) x
  · exact fun x => piece _ _ _ ⟨k.val, h⟩ 1 _ _ _ (offs1 k h).1 ((offs1 k h).2 1) (offd1_1 k h) _ _ (k0_off4_inb k) x
  · exact fun x => piece _ _ _ ⟨k.val, h⟩ 0 _ _ _ (offs1 k h).1 ((offs1 k h).2 0) (offd1_0 k h) _ _ (k0_off3_inb k) x

/-- Trip `k` stores the whole of its sixteen rows. -/
theorem covers1 (k : Fin k0_t1_loop.trips) (h : k.val < 8) (y : S128x2048.Idx) (hy : (y 0).val / 16 = k.val) :
    ∃ p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 k, y ∈ p.1.set := by
  unfold tripL_k0_t1 trip_k0_t1
  dsimp only
  have h1 : (y 1).val < 2048 := (y 1).isLt
  have hc : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 := by omega
  rcases hc with e | e | e | e | e | e | e | e | e | e | e | e | e | e | e | e
  · exact ⟨_, four (four (four (.tail _ (.tail _ (.tail _ (.head _)))))), piece_mem ⟨k.val, h⟩ 0 _ (offd1_0 k h) (k0_off3_inb k) y hy e⟩
  · exact ⟨_, four (four (four (.tail _ (.tail _ (.head _))))), piece_mem ⟨k.val, h⟩ 1 _ (offd1_1 k h) (k0_off4_inb k) y hy e⟩
  · exact ⟨_, four (four (four (.tail _ (.head _)))), piece_mem ⟨k.val, h⟩ 2 _ (offd1_2 k h) (k0_off5_inb k) y hy e⟩
  · exact ⟨_, four (four (four (.head _))), piece_mem ⟨k.val, h⟩ 3 _ (offd1_3 k h) (k0_off6_inb k) y hy e⟩
  · exact ⟨_, four (four (.tail _ (.tail _ (.tail _ (.head _))))), piece_mem ⟨k.val, h⟩ 4 _ (offd1_4 k h) (k0_off7_inb k) y hy e⟩
  · exact ⟨_, four (four (.tail _ (.tail _ (.head _)))), piece_mem ⟨k.val, h⟩ 5 _ (offd1_5 k h) (k0_off8_inb k) y hy e⟩
  · exact ⟨_, four (four (.tail _ (.head _))), piece_mem ⟨k.val, h⟩ 6 _ (offd1_6 k h) (k0_off9_inb k) y hy e⟩
  · exact ⟨_, four (four (.head _)), piece_mem ⟨k.val, h⟩ 7 _ (offd1_7 k h) (k0_off10_inb k) y hy e⟩
  · exact ⟨_, four (.tail _ (.tail _ (.tail _ (.head _)))), piece_mem ⟨k.val, h⟩ 8 _ (offd1_8 k h) (k0_off11_inb k) y hy e⟩
  · exact ⟨_, four (.tail _ (.tail _ (.head _))), piece_mem ⟨k.val, h⟩ 9 _ (offd1_9 k h) (k0_off12_inb k) y hy e⟩
  · exact ⟨_, four (.tail _ (.head _)), piece_mem ⟨k.val, h⟩ 10 _ (offd1_10 k h) (k0_off13_inb k) y hy e⟩
  · exact ⟨_, four (.head _), piece_mem ⟨k.val, h⟩ 11 _ (offd1_11 k h) (k0_off14_inb k) y hy e⟩
  · exact ⟨_, .tail _ (.tail _ (.tail _ (.head _))), piece_mem ⟨k.val, h⟩ 12 _ (offd1_12 k h) (k0_off15_inb k) y hy e⟩
  · exact ⟨_, .tail _ (.tail _ (.head _)), piece_mem ⟨k.val, h⟩ 13 _ (offd1_13 k h) (k0_off16_inb k) y hy e⟩
  · exact ⟨_, .tail _ (.head _), piece_mem ⟨k.val, h⟩ 14 _ (offd1_14 k h) (k0_off17_inb k) y hy e⟩
  · exact ⟨_, .head _, piece_mem ⟨k.val, h⟩ 15 _ (offd1_15 k h) (k0_off18_inb k) y hy e⟩

/-- After the loop the scratch matrix holds the products, whatever it held before. -/
theorem filled1 (hB : arg12.view.read (Elt F) X12 = B) (hQ : arg13.view.read (Elt F) X13 = Q) (hK : arg14.view.read (Elt F) X14 = K)
    (G : BufTy.Contents (Elt F) arg15.view.ty) :
    arg15.view.read (Elt F) (arg15.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 8)) = prods B Q K := by
  have key : ∀ n, n ≤ 8 → (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 n, ∀ x, p.2 x = prods B Q K (p.1.emb x))
      ∧ ∀ y : S128x2048.Idx, (y 0).val / 16 < n → ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 n, y ∈ p.1.set := by
    intro n
    induction n with
    | zero => intro _; exact ⟨fun p hp => absurd hp (by rw [pb_k0_t1.eq_1]; exact List.not_mem_nil), fun y hy => absurd hy (by omega)⟩
    | succ n ih =>
      intro hn
      obtain ⟨ha, hc⟩ := ih (by omega)
      have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 ⟨n, by rw [trips1]; omega⟩
      rw [e]
      refine ⟨fun p hp => ?_, fun y hy => ?_⟩
      · rcases List.mem_append.mp hp with hp | hp
        · exact agree1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 B Q K X12 X13 X14 hB hQ hK ⟨n, by rw [trips1]; omega⟩ (by show n < 8; omega) p hp
        · exact ha p hp
      · by_cases hy' : (y 0).val / 16 = n
        · obtain ⟨p, hp, hm⟩ := covers1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 ⟨n, by rw [trips1]; omega⟩ (by show n < 8; omega) y hy'
          exact ⟨p, List.mem_append.mpr (.inl hp), hm⟩
        · obtain ⟨p, hp, hm⟩ := hc y (by omega)
          exact ⟨p, List.mem_append.mpr (.inr hp), hm⟩
  funext y
  have hy : (y 0).val < 128 := (y 0).isLt
  exact View.read_writes_apply_of_pieces _ _ (prods B Q K) _ (key 8 le_rfl).1 y ((key 8 le_rfl).2 y (by omega))

/-- The same, from what the three matrices hold. -/
theorem reads1 (G : BufTy.Contents (Elt F) arg15.view.ty) :
    arg15.view.read (Elt F) (arg15.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 X12 X13 X14 8))
      = prods (arg12.view.read (Elt F) X12) (arg13.view.read (Elt F) X13) (arg14.view.read (Elt F) X14) :=
  filled1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v24 v53 v62 v83 _ _ _ X12 X13 X14 rfl rfl rfl G

end

/-! ## Head 1 -/

theorem trips2 : k0_t2_loop.trips = 8 := by decide +kernel

theorem offs2 (k : Fin k0_t2_loop.trips) (h : k.val < 8) :
    k0_off19 k = ![16 * k.val, 0] ∧ ∀ s : Fin 16, k0_off20 k (BitVec.ofNat 32 s.val) = ![16 * k.val + s.val, 0] := by
  constructor
  · have := iv_eq ⟨k.val, h⟩
    unfold k0_off19
    exact congrArg (fun n => ![n, 0]) this
  · intro s
    have := iv_row ⟨k.val, h⟩ s
    unfold k0_off20
    exact congrArg (fun n => ![n, 0]) this

theorem offd2_0 (k : Fin k0_t2_loop.trips) (h : k.val < 8) : k0_off21 k = ![16 * k.val, 128 * 0] :=
  congrArg (![·, 0]) (iv_eq ⟨k.val, h⟩)
theorem offd2_1 (k : Fin k0_t2_loop.trips) (h : k.val < 8) : k0_off22 k = ![16 * k.val, 128 * 1] :=
  congrArg (![·, 128]) (iv_eq ⟨k.val, h⟩)
theorem offd2_2 (k : Fin k0_t2_loop.trips) (h : k.val < 8) : k0_off23 k = ![16 * k.val, 128 * 2] :=
  congrArg (![·, 256]) (iv_eq ⟨k.val, h⟩)
theorem offd2_3 (k : Fin k0_t2_loop.trips) (h : k.val < 8) : k0_off24 k = ![16 * k.val, 128 * 3] :=
  congrArg (![·, 384]) (iv_eq ⟨k.val, h⟩)
theorem offd2_4 (k : Fin k0_t2_loop.trips) (h : k.val < 8) : k0_off25 k = ![16 * k.val, 128 * 4] :=
  congrArg (![·, 512]) (iv_eq ⟨k.val, h⟩)
theorem offd2_5 (k : Fin k0_t2_loop.trips) (h : k.val < 8) : k0_off26 k = ![16 * k.val, 128 * 5] :=
  congrArg (![·, 640]) (iv_eq ⟨k.val, h⟩)
theorem offd2_6 (k : Fin k0_t2_loop.trips) (h : k.val < 8) : k0_off27 k = ![16 * k.val, 128 * 6] :=
  congrArg (![·, 768]) (iv_eq ⟨k.val, h⟩)
theorem offd2_7 (k : Fin k0_t2_loop.trips) (h : k.val < 8) : k0_off28 k = ![16 * k.val, 128 * 7] :=
  congrArg (![·, 896]) (iv_eq ⟨k.val, h⟩)
theorem offd2_8 (k : Fin k0_t2_loop.trips) (h : k.val < 8) : k0_off29 k = ![16 * k.val, 128 * 8] :=
  congrArg (![·, 1024]) (iv_eq ⟨k.val, h⟩)
theorem offd2_9 (k : Fin k0_t2_loop.trips) (h : k.val < 8) : k0_off30 k = ![16 * k.val, 128 * 9] :=
  congrArg (![·, 1152]) (iv_eq ⟨k.val, h⟩)
theorem offd2_10 (k : Fin k0_t2_loop.trips) (h : k.val < 8) : k0_off31 k = ![16 * k.val, 128 * 10] :=
  congrArg (![·, 1280]) (iv_eq ⟨k.val, h⟩)
theorem offd2_11 (k : Fin k0_t2_loop.trips) (h : k.val < 8) : k0_off32 k = ![16 * k.val, 128 * 11] :=
  congrArg (![·, 1408]) (iv_eq ⟨k.val, h⟩)
theorem offd2_12 (k : Fin k0_t2_loop.trips) (h : k.val < 8) : k0_off33 k = ![16 * k.val, 128 * 12] :=
  congrArg (![·, 1536]) (iv_eq ⟨k.val, h⟩)
theorem offd2_13 (k : Fin k0_t2_loop.trips) (h : k.val < 8) : k0_off34 k = ![16 * k.val, 128 * 13] :=
  congrArg (![·, 1664]) (iv_eq ⟨k.val, h⟩)
theorem offd2_14 (k : Fin k0_t2_loop.trips) (h : k.val < 8) : k0_off35 k = ![16 * k.val, 128 * 14] :=
  congrArg (![·, 1792]) (iv_eq ⟨k.val, h⟩)
theorem offd2_15 (k : Fin k0_t2_loop.trips) (h : k.val < 8) : k0_off36 k = ![16 * k.val, 128 * 15] :=
  congrArg (![·, 1920]) (iv_eq ⟨k.val, h⟩)

section
variable (𝒱 : Variants) (c : Dev nD) (bd : Option 𝒱.V) (i : grid0.Coords) (arg2 : Memref sig .tc .vmem S1x128x512 .bf16) (harg2 : arg2.IsWhole) (arg3 : Memref sig .tc .vmem S1x128x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S128x128 .bf16) (harg8 : arg8.IsWhole) (arg9 : Memref sig .tc .vmem S2048x128 .bf16) (harg9 : arg9.IsWhole) (arg10 : Memref sig .tc .vmem S1x128x512 .bf16) (harg10 : arg10.IsWhole) (arg11 : Memref sig .tc .vmem S4x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x2048 .bf16) (harg15 : arg15.IsWhole) (arg16 : Memref sig .tc .vmem S128x512 .f32) (harg16 : arg16.IsWhole) (v15 : IVec S16x128 32) (v16 : IVec S16x128 32) (v315 : FVec F S128x128 .f32) (v344 : FVec F S128x128 .f32) (v346 : FVec F S128x128 .bf16) (v353 : FVec F S128x128 .f32) (v354 : FVec F S1x128 .f32) (v356 : FVec F S128x128 .f32)
    (B Q K : Vec F S128x128 .f32) (X12 : BufTy.Contents (Elt F) arg12.view.ty) (X13 : BufTy.Contents (Elt F) arg13.view.ty) (X14 : BufTy.Contents (Elt F) arg14.view.ty)

/-- What trip `k` stores is the products there. -/
theorem agree2 (hB : arg12.view.read (Elt F) X12 = B) (hQ : arg13.view.read (Elt F) X13 = Q) (hK : arg14.view.read (Elt F) X14 = K)
    (k : Fin k0_t2_loop.trips) (h : k.val < 8) :
    ∀ p ∈ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 k, ∀ x, p.2 x = prods B Q K (p.1.emb x) := by
  unfold tripL_k0_t2 trip_k0_t2
  dsimp only
  sl_unfold_run_names
  simp only [View.readAt_eq_ld, hB, hQ, hK]
  intro p hp
  simp only [List.mem_cons, List.not_mem_nil, or_false] at hp
  rcases hp with rfl | rfl | rfl | rfl | rfl | rfl | rfl | rfl | rfl | rfl | rfl | rfl | rfl | rfl | rfl | rfl
  · exact fun x => piece _ _ _ ⟨k.val, h⟩ 15 _ _ _ (offs2 k h).1 ((offs2 k h).2 15) (offd2_15 k h) _ _ (k0_off36_inb k) x
  · exact fun x => piece _ _ _ ⟨k.val, h⟩ 14 _ _ _ (offs2 k h).1 ((offs2 k h).2 14) (offd2_14 k h) _ _ (k0_off35_inb k) x
  · exact fun x => piece _ _ _ ⟨k.val, h⟩ 13 _ _ _ (offs2 k h).1 ((offs2 k h).2 13) (offd2_13 k h) _ _ (k0_off34_inb k) x
  · exact fun x => piece _ _ _ ⟨k.val, h⟩ 12 _ _ _ (offs2 k h).1 ((offs2 k h).2 12) (offd2_12 k h) _ _ (k0_off33_inb k) x
  · exact fun x => piece _ _ _ ⟨k.val, h⟩ 11 _ _ _ (offs2 k h).1 ((offs2 k h).2 11) (offd2_11 k h) _ _ (k0_off32_inb k) x
  · exact fun x => piece _ _ _ ⟨k.val, h⟩ 10 _ _ _ (offs2 k h).1 ((offs2 k h).2 10) (offd2_10 k h) _ _ (k0_off31_inb k) x
  · exact fun x => piece _ _ _ ⟨k.val, h⟩ 9 _ _ _ (offs2 k h).1 ((offs2 k h).2 9) (offd2_9 k h) _ _ (k0_off30_inb k) x
  · exact fun x => piece _ _ _ ⟨k.val, h⟩ 8 _ _ _ (offs2 k h).1 ((offs2 k h).2 8) (offd2_8 k h) _ _ (k0_off29_inb k) x
  · exact fun x => piece _ _ _ ⟨k.val, h⟩ 7 _ _ _ (offs2 k h).1 ((offs2 k h).2 7) (offd2_7 k h) _ _ (k0_off28_inb k) x
  · exact fun x => piece _ _ _ ⟨k.val, h⟩ 6 _ _ _ (offs2 k h).1 ((offs2 k h).2 6) (offd2_6 k h) _ _ (k0_off27_inb k) x
  · exact fun x => piece _ _ _ ⟨k.val, h⟩ 5 _ _ _ (offs2 k h).1 ((offs2 k h).2 5) (offd2_5 k h) _ _ (k0_off26_inb k) x
  · exact fun x => piece _ _ _ ⟨k.val, h⟩ 4 _ _ _ (offs2 k h).1 ((offs2 k h).2 4) (offd2_4 k h) _ _ (k0_off25_inb k) x
  · exact fun x => piece _ _ _ ⟨k.val, h⟩ 3 _ _ _ (offs2 k h).1 ((offs2 k h).2 3) (offd2_3 k h) _ _ (k0_off24_inb k) x
  · exact fun x => piece _ _ _ ⟨k.val, h⟩ 2 _ _ _ (offs2 k h).1 ((offs2 k h).2 2) (offd2_2 k h) _ _ (k0_off23_inb k) x
  · exact fun x => piece _ _ _ ⟨k.val, h⟩ 1 _ _ _ (offs2 k h).1 ((offs2 k h).2 1) (offd2_1 k h) _ _ (k0_off22_inb k) x
  · exact fun x => piece _ _ _ ⟨k.val, h⟩ 0 _ _ _ (offs2 k h).1 ((offs2 k h).2 0) (offd2_0 k h) _ _ (k0_off21_inb k) x

/-- Trip `k` stores the whole of its sixteen rows. -/
theorem covers2 (k : Fin k0_t2_loop.trips) (h : k.val < 8) (y : S128x2048.Idx) (hy : (y 0).val / 16 = k.val) :
    ∃ p ∈ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 k, y ∈ p.1.set := by
  unfold tripL_k0_t2 trip_k0_t2
  dsimp only
  have h1 : (y 1).val < 2048 := (y 1).isLt
  have hc : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 := by omega
  rcases hc with e | e | e | e | e | e | e | e | e | e | e | e | e | e | e | e
  · exact ⟨_, four (four (four (.tail _ (.tail _ (.tail _ (.head _)))))), piece_mem ⟨k.val, h⟩ 0 _ (offd2_0 k h) (k0_off21_inb k) y hy e⟩
  · exact ⟨_, four (four (four (.tail _ (.tail _ (.head _))))), piece_mem ⟨k.val, h⟩ 1 _ (offd2_1 k h) (k0_off22_inb k) y hy e⟩
  · exact ⟨_, four (four (four (.tail _ (.head _)))), piece_mem ⟨k.val, h⟩ 2 _ (offd2_2 k h) (k0_off23_inb k) y hy e⟩
  · exact ⟨_, four (four (four (.head _))), piece_mem ⟨k.val, h⟩ 3 _ (offd2_3 k h) (k0_off24_inb k) y hy e⟩
  · exact ⟨_, four (four (.tail _ (.tail _ (.tail _ (.head _))))), piece_mem ⟨k.val, h⟩ 4 _ (offd2_4 k h) (k0_off25_inb k) y hy e⟩
  · exact ⟨_, four (four (.tail _ (.tail _ (.head _)))), piece_mem ⟨k.val, h⟩ 5 _ (offd2_5 k h) (k0_off26_inb k) y hy e⟩
  · exact ⟨_, four (four (.tail _ (.head _))), piece_mem ⟨k.val, h⟩ 6 _ (offd2_6 k h) (k0_off27_inb k) y hy e⟩
  · exact ⟨_, four (four (.head _)), piece_mem ⟨k.val, h⟩ 7 _ (offd2_7 k h) (k0_off28_inb k) y hy e⟩
  · exact ⟨_, four (.tail _ (.tail _ (.tail _ (.head _)))), piece_mem ⟨k.val, h⟩ 8 _ (offd2_8 k h) (k0_off29_inb k) y hy e⟩
  · exact ⟨_, four (.tail _ (.tail _ (.head _))), piece_mem ⟨k.val, h⟩ 9 _ (offd2_9 k h) (k0_off30_inb k) y hy e⟩
  · exact ⟨_, four (.tail _ (.head _)), piece_mem ⟨k.val, h⟩ 10 _ (offd2_10 k h) (k0_off31_inb k) y hy e⟩
  · exact ⟨_, four (.head _), piece_mem ⟨k.val, h⟩ 11 _ (offd2_11 k h) (k0_off32_inb k) y hy e⟩
  · exact ⟨_, .tail _ (.tail _ (.tail _ (.head _))), piece_mem ⟨k.val, h⟩ 12 _ (offd2_12 k h) (k0_off33_inb k) y hy e⟩
  · exact ⟨_, .tail _ (.tail _ (.head _)), piece_mem ⟨k.val, h⟩ 13 _ (offd2_13 k h) (k0_off34_inb k) y hy e⟩
  · exact ⟨_, .tail _ (.head _), piece_mem ⟨k.val, h⟩ 14 _ (offd2_14 k h) (k0_off35_inb k) y hy e⟩
  · exact ⟨_, .head _, piece_mem ⟨k.val, h⟩ 15 _ (offd2_15 k h) (k0_off36_inb k) y hy e⟩

/-- After the loop the scratch matrix holds the products, whatever it held before. -/
theorem filled2 (hB : arg12.view.read (Elt F) X12 = B) (hQ : arg13.view.read (Elt F) X13 = Q) (hK : arg14.view.read (Elt F) X14 = K)
    (G : BufTy.Contents (Elt F) arg15.view.ty) :
    arg15.view.read (Elt F) (arg15.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 8)) = prods B Q K := by
  have key : ∀ n, n ≤ 8 → (∀ p ∈ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 n, ∀ x, p.2 x = prods B Q K (p.1.emb x))
      ∧ ∀ y : S128x2048.Idx, (y 0).val / 16 < n → ∃ p ∈ pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 n, y ∈ p.1.set := by
    intro n
    induction n with
    | zero => intro _; exact ⟨fun p hp => absurd hp (by rw [pb_k0_t2.eq_1]; exact List.not_mem_nil), fun y hy => absurd hy (by omega)⟩
    | succ n ih =>
      intro hn
      obtain ⟨ha, hc⟩ := ih (by omega)
      have e := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 ⟨n, by rw [trips2]; omega⟩
      rw [e]
      refine ⟨fun p hp => ?_, fun y hy => ?_⟩
      · rcases List.mem_append.mp hp with hp | hp
        · exact agree2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 B Q K X12 X13 X14 hB hQ hK ⟨n, by rw [trips2]; omega⟩ (by show n < 8; omega) p hp
        · exact ha p hp
      · by_cases hy' : (y 0).val / 16 = n
        · obtain ⟨p, hp, hm⟩ := covers2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 ⟨n, by rw [trips2]; omega⟩ (by show n < 8; omega) y hy'
          exact ⟨p, List.mem_append.mpr (.inl hp), hm⟩
        · obtain ⟨p, hp, hm⟩ := hc y (by omega)
          exact ⟨p, List.mem_append.mpr (.inr hp), hm⟩
  funext y
  have hy : (y 0).val < 128 := (y 0).isLt
  exact View.read_writes_apply_of_pieces _ _ (prods B Q K) _ (key 8 le_rfl).1 y ((key 8 le_rfl).2 y (by omega))

/-- The same, from what the three matrices hold. -/
theorem reads2 (G : BufTy.Contents (Elt F) arg15.view.ty) :
    arg15.view.read (Elt F) (arg15.view.writes (Elt F) G (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 X12 X13 X14 8))
      = prods (arg12.view.read (Elt F) X12) (arg13.view.read (Elt F) X13) (arg14.view.read (Elt F) X14) :=
  filled2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v315 v344 v346 v353 v354 v356 _ _ _ X12 X13 X14 rfl rfl rfl G

end

/-! ## Head 2 -/

theorem trips3 : k0_t3_loop.trips = 8 := by decide +kernel

theorem offs3 (k : Fin k0_t3_loop.trips) (h : k.val < 8) :
    k0_off37 k = ![16 * k.val, 0] ∧ ∀ s : Fin 16, k0_off38 k (BitVec.ofNat 32 s.val) = ![16 * k.val + s.val, 0] := by
  constructor
  · have := iv_eq ⟨k.val, h⟩
    unfold k0_off37
    exact congrArg (fun n => ![n, 0]) this
  · intro s
    have := iv_row ⟨k.val, h⟩ s
    unfold k0_off38
    exact congrArg (fun n => ![n, 0]) this

theorem offd3_0 (k : Fin k0_t3_loop.trips) (h : k.val < 8) : k0_off39 k = ![16 * k.val, 128 * 0] :=
  congrArg (![·, 0]) (iv_eq ⟨k.val, h⟩)
theorem offd3_1 (k : Fin k0_t3_loop.trips) (h : k.val < 8) : k0_off40 k = ![16 * k.val, 128 * 1] :=
  congrArg (![·, 128]) (iv_eq ⟨k.val, h⟩)
theorem offd3_2 (k : Fin k0_t3_loop.trips) (h : k.val < 8) : k0_off41 k = ![16 * k.val, 128 * 2] :=
  congrArg (![·, 256]) (iv_eq ⟨k.val, h⟩)
theorem offd3_3 (k : Fin k0_t3_loop.trips) (h : k.val < 8) : k0_off42 k = ![16 * k.val, 128 * 3] :=
  congrArg (![·, 384]) (iv_eq ⟨k.val, h⟩)
theorem offd3_4 (k : Fin k0_t3_loop.trips) (h : k.val < 8) : k0_off43 k = ![16 * k.val, 128 * 4] :=
  congrArg (![·, 512]) (iv_eq ⟨k.val, h⟩)
theorem offd3_5 (k : Fin k0_t3_loop.trips) (h : k.val < 8) : k0_off44 k = ![16 * k.val, 128 * 5] :=
  congrArg (![·, 640]) (iv_eq ⟨k.val, h⟩)
theorem offd3_6 (k : Fin k0_t3_loop.trips) (h : k.val < 8) : k0_off45 k = ![16 * k.val, 128 * 6] :=
  congrArg (![·, 768]) (iv_eq ⟨k.val, h⟩)
theorem offd3_7 (k : Fin k0_t3_loop.trips) (h : k.val < 8) : k0_off46 k = ![16 * k.val, 128 * 7] :=
  congrArg (![·, 896]) (iv_eq ⟨k.val, h⟩)
theorem offd3_8 (k : Fin k0_t3_loop.trips) (h : k.val < 8) : k0_off47 k = ![16 * k.val, 128 * 8] :=
  congrArg (![·, 1024]) (iv_eq ⟨k.val, h⟩)
theorem offd3_9 (k : Fin k0_t3_loop.trips) (h : k.val < 8) : k0_off48 k = ![16 * k.val, 128 * 9] :=
  congrArg (![·, 1152]) (iv_eq ⟨k.val, h⟩)
theorem offd3_10 (k : Fin k0_t3_loop.trips) (h : k.val < 8) : k0_off49 k = ![16 * k.val, 128 * 10] :=
  congrArg (![·, 1280]) (iv_eq ⟨k.val, h⟩)
theorem offd3_11 (k : Fin k0_t3_loop.trips) (h : k.val < 8) : k0_off50 k = ![16 * k.val, 128 * 11] :=
  congrArg (![·, 1408]) (iv_eq ⟨k.val, h⟩)
theorem offd3_12 (k : Fin k0_t3_loop.trips) (h : k.val < 8) : k0_off51 k = ![16 * k.val, 128 * 12] :=
  congrArg (![·, 1536]) (iv_eq ⟨k.val, h⟩)
theorem offd3_13 (k : Fin k0_t3_loop.trips) (h : k.val < 8) : k0_off52 k = ![16 * k.val, 128 * 13] :=
  congrArg (![·, 1664]) (iv_eq ⟨k.val, h⟩)
theorem offd3_14 (k : Fin k0_t3_loop.trips) (h : k.val < 8) : k0_off53 k = ![16 * k.val, 128 * 14] :=
  congrArg (![·, 1792]) (iv_eq ⟨k.val, h⟩)
theorem offd3_15 (k : Fin k0_t3_loop.trips) (h : k.val < 8) : k0_off54 k = ![16 * k.val, 128 * 15] :=
  congrArg (![·, 1920]) (iv_eq ⟨k.val, h⟩)

section
variable (𝒱 : Variants) (c : Dev nD) (bd : Option 𝒱.V) (i : grid0.Coords) (arg2 : Memref sig .tc .vmem S1x128x512 .bf16) (harg2 : arg2.IsWhole) (arg3 : Memref sig .tc .vmem S1x128x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S128x128 .bf16) (harg8 : arg8.IsWhole) (arg9 : Memref sig .tc .vmem S2048x128 .bf16) (harg9 : arg9.IsWhole) (arg10 : Memref sig .tc .vmem S1x128x512 .bf16) (harg10 : arg10.IsWhole) (arg11 : Memref sig .tc .vmem S4x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x2048 .bf16) (harg15 : arg15.IsWhole) (arg16 : Memref sig .tc .vmem S128x512 .f32) (harg16 : arg16.IsWhole) (v18 : FVec F S128x128 .bf16) (v606 : FVec F S128x128 .f32) (v635 : FVec F S128x128 .f32) (v637 : FVec F S128x128 .bf16) (v638 : FVec F S128x128 .bf16) (v641 : FVec F S128x128 .bf16)
    (B Q K : Vec F S128x128 .f32) (X12 : BufTy.Contents (Elt F) arg12.view.ty) (X13 : BufTy.Contents (Elt F) arg13.view.ty) (X14 : BufTy.Contents (Elt F) arg14.view.ty)

/-- What trip `k` stores is the products there. -/
theorem agree3 (hB : arg12.view.read (Elt F) X12 = B) (hQ : arg13.view.read (Elt F) X13 = Q) (hK : arg14.view.read (Elt F) X14 = K)
    (k : Fin k0_t3_loop.trips) (h : k.val < 8) :
    ∀ p ∈ tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 k, ∀ x, p.2 x = prods B Q K (p.1.emb x) := by
  unfold tripL_k0_t3 trip_k0_t3
  dsimp only
  sl_unfold_run_names
  simp only [View.readAt_eq_ld, hB, hQ, hK]
  intro p hp
  simp only [List.mem_cons, List.not_mem_nil, or_false] at hp
  rcases hp with rfl | rfl | rfl | rfl | rfl | rfl | rfl | rfl | rfl | rfl | rfl | rfl | rfl | rfl | rfl | rfl
  · exact fun x => piece _ _ _ ⟨k.val, h⟩ 15 _ _ _ (offs3 k h).1 ((offs3 k h).2 15) (offd3_15 k h) _ _ (k0_off54_inb k) x
  · exact fun x => piece _ _ _ ⟨k.val, h⟩ 14 _ _ _ (offs3 k h).1 ((offs3 k h).2 14) (offd3_14 k h) _ _ (k0_off53_inb k) x
  · exact fun x => piece _ _ _ ⟨k.val, h⟩ 13 _ _ _ (offs3 k h).1 ((offs3 k h).2 13) (offd3_13 k h) _ _ (k0_off52_inb k) x
  · exact fun x => piece _ _ _ ⟨k.val, h⟩ 12 _ _ _ (offs3 k h).1 ((offs3 k h).2 12) (offd3_12 k h) _ _ (k0_off51_inb k) x
  · exact fun x => piece _ _ _ ⟨k.val, h⟩ 11 _ _ _ (offs3 k h).1 ((offs3 k h).2 11) (offd3_11 k h) _ _ (k0_off50_inb k) x
  · exact fun x => piece _ _ _ ⟨k.val, h⟩ 10 _ _ _ (offs3 k h).1 ((offs3 k h).2 10) (offd3_10 k h) _ _ (k0_off49_inb k) x
  · exact fun x => piece _ _ _ ⟨k.val, h⟩ 9 _ _ _ (offs3 k h).1 ((offs3 k h).2 9) (offd3_9 k h) _ _ (k0_off48_inb k) x
  · exact fun x => piece _ _ _ ⟨k.val, h⟩ 8 _ _ _ (offs3 k h).1 ((offs3 k h).2 8) (offd3_8 k h) _ _ (k0_off47_inb k) x
  · exact fun x => piece _ _ _ ⟨k.val, h⟩ 7 _ _ _ (offs3 k h).1 ((offs3 k h).2 7) (offd3_7 k h) _ _ (k0_off46_inb k) x
  · exact fun x => piece _ _ _ ⟨k.val, h⟩ 6 _ _ _ (offs3 k h).1 ((offs3 k h).2 6) (offd3_6 k h) _ _ (k0_off45_inb k) x
  · exact fun x => piece _ _ _ ⟨k.val, h⟩ 5 _ _ _ (offs3 k h).1 ((offs3 k h).2 5) (offd3_5 k h) _ _ (k0_off44_inb k) x
  · exact fun x => piece _ _ _ ⟨k.val, h⟩ 4 _ _ _ (offs3 k h).1 ((offs3 k h).2 4) (offd3_4 k h) _ _ (k0_off43_inb k) x
  · exact fun x => piece _ _ _ ⟨k.val, h⟩ 3 _ _ _ (offs3 k h).1 ((offs3 k h).2 3) (offd3_3 k h) _ _ (k0_off42_inb k) x
  · exact fun x => piece _ _ _ ⟨k.val, h⟩ 2 _ _ _ (offs3 k h).1 ((offs3 k h).2 2) (offd3_2 k h) _ _ (k0_off41_inb k) x
  · exact fun x => piece _ _ _ ⟨k.val, h⟩ 1 _ _ _ (offs3 k h).1 ((offs3 k h).2 1) (offd3_1 k h) _ _ (k0_off40_inb k) x
  · exact fun x => piece _ _ _ ⟨k.val, h⟩ 0 _ _ _ (offs3 k h).1 ((offs3 k h).2 0) (offd3_0 k h) _ _ (k0_off39_inb k) x

/-- Trip `k` stores the whole of its sixteen rows. -/
theorem covers3 (k : Fin k0_t3_loop.trips) (h : k.val < 8) (y : S128x2048.Idx) (hy : (y 0).val / 16 = k.val) :
    ∃ p ∈ tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 k, y ∈ p.1.set := by
  unfold tripL_k0_t3 trip_k0_t3
  dsimp only
  have h1 : (y 1).val < 2048 := (y 1).isLt
  have hc : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 := by omega
  rcases hc with e | e | e | e | e | e | e | e | e | e | e | e | e | e | e | e
  · exact ⟨_, four (four (four (.tail _ (.tail _ (.tail _ (.head _)))))), piece_mem ⟨k.val, h⟩ 0 _ (offd3_0 k h) (k0_off39_inb k) y hy e⟩
  · exact ⟨_, four (four (four (.tail _ (.tail _ (.head _))))), piece_mem ⟨k.val, h⟩ 1 _ (offd3_1 k h) (k0_off40_inb k) y hy e⟩
  · exact ⟨_, four (four (four (.tail _ (.head _)))), piece_mem ⟨k.val, h⟩ 2 _ (offd3_2 k h) (k0_off41_inb k) y hy e⟩
  · exact ⟨_, four (four (four (.head _))), piece_mem ⟨k.val, h⟩ 3 _ (offd3_3 k h) (k0_off42_inb k) y hy e⟩
  · exact ⟨_, four (four (.tail _ (.tail _ (.tail _ (.head _))))), piece_mem ⟨k.val, h⟩ 4 _ (offd3_4 k h) (k0_off43_inb k) y hy e⟩
  · exact ⟨_, four (four (.tail _ (.tail _ (.head _)))), piece_mem ⟨k.val, h⟩ 5 _ (offd3_5 k h) (k0_off44_inb k) y hy e⟩
  · exact ⟨_, four (four (.tail _ (.head _))), piece_mem ⟨k.val, h⟩ 6 _ (offd3_6 k h) (k0_off45_inb k) y hy e⟩
  · exact ⟨_, four (four (.head _)), piece_mem ⟨k.val, h⟩ 7 _ (offd3_7 k h) (k0_off46_inb k) y hy e⟩
  · exact ⟨_, four (.tail _ (.tail _ (.tail _ (.head _)))), piece_mem ⟨k.val, h⟩ 8 _ (offd3_8 k h) (k0_off47_inb k) y hy e⟩
  · exact ⟨_, four (.tail _ (.tail _ (.head _))), piece_mem ⟨k.val, h⟩ 9 _ (offd3_9 k h) (k0_off48_inb k) y hy e⟩
  · exact ⟨_, four (.tail _ (.head _)), piece_mem ⟨k.val, h⟩ 10 _ (offd3_10 k h) (k0_off49_inb k) y hy e⟩
  · exact ⟨_, four (.head _), piece_mem ⟨k.val, h⟩ 11 _ (offd3_11 k h) (k0_off50_inb k) y hy e⟩
  · exact ⟨_, .tail _ (.tail _ (.tail _ (.head _))), piece_mem ⟨k.val, h⟩ 12 _ (offd3_12 k h) (k0_off51_inb k) y hy e⟩
  · exact ⟨_, .tail _ (.tail _ (.head _)), piece_mem ⟨k.val, h⟩ 13 _ (offd3_13 k h) (k0_off52_inb k) y hy e⟩
  · exact ⟨_, .tail _ (.head _), piece_mem ⟨k.val, h⟩ 14 _ (offd3_14 k h) (k0_off53_inb k) y hy e⟩
  · exact ⟨_, .head _, piece_mem ⟨k.val, h⟩ 15 _ (offd3_15 k h) (k0_off54_inb k) y hy e⟩

/-- After the loop the scratch matrix holds the products, whatever it held before. -/
theorem filled3 (hB : arg12.view.read (Elt F) X12 = B) (hQ : arg13.view.read (Elt F) X13 = Q) (hK : arg14.view.read (Elt F) X14 = K)
    (G : BufTy.Contents (Elt F) arg15.view.ty) :
    arg15.view.read (Elt F) (arg15.view.writes (Elt F) G (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 8)) = prods B Q K := by
  have key : ∀ n, n ≤ 8 → (∀ p ∈ pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 n, ∀ x, p.2 x = prods B Q K (p.1.emb x))
      ∧ ∀ y : S128x2048.Idx, (y 0).val / 16 < n → ∃ p ∈ pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 n, y ∈ p.1.set := by
    intro n
    induction n with
    | zero => intro _; exact ⟨fun p hp => absurd hp (by rw [pb_k0_t3.eq_1]; exact List.not_mem_nil), fun y hy => absurd hy (by omega)⟩
    | succ n ih =>
      intro hn
      obtain ⟨ha, hc⟩ := ih (by omega)
      have e := pb_k0_t3_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 ⟨n, by rw [trips3]; omega⟩
      rw [e]
      refine ⟨fun p hp => ?_, fun y hy => ?_⟩
      · rcases List.mem_append.mp hp with hp | hp
        · exact agree3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 B Q K X12 X13 X14 hB hQ hK ⟨n, by rw [trips3]; omega⟩ (by show n < 8; omega) p hp
        · exact ha p hp
      · by_cases hy' : (y 0).val / 16 = n
        · obtain ⟨p, hp, hm⟩ := covers3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 ⟨n, by rw [trips3]; omega⟩ (by show n < 8; omega) y hy'
          exact ⟨p, List.mem_append.mpr (.inl hp), hm⟩
        · obtain ⟨p, hp, hm⟩ := hc y (by omega)
          exact ⟨p, List.mem_append.mpr (.inr hp), hm⟩
  funext y
  have hy : (y 0).val < 128 := (y 0).isLt
  exact View.read_writes_apply_of_pieces _ _ (prods B Q K) _ (key 8 le_rfl).1 y ((key 8 le_rfl).2 y (by omega))

/-- The same, from what the three matrices hold. -/
theorem reads3 (G : BufTy.Contents (Elt F) arg15.view.ty) :
    arg15.view.read (Elt F) (arg15.view.writes (Elt F) G (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 X12 X13 X14 8))
      = prods (arg12.view.read (Elt F) X12) (arg13.view.read (Elt F) X13) (arg14.view.read (Elt F) X14) :=
  filled3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v18 v606 v635 v637 v638 v641 _ _ _ X12 X13 X14 rfl rfl rfl G

end

/-! ## Head 3 -/

theorem trips4 : k0_t4_loop.trips = 8 := by decide +kernel

theorem offs4 (k : Fin k0_t4_loop.trips) (h : k.val < 8) :
    k0_off55 k = ![16 * k.val, 0] ∧ ∀ s : Fin 16, k0_off56 k (BitVec.ofNat 32 s.val) = ![16 * k.val + s.val, 0] := by
  constructor
  · have := iv_eq ⟨k.val, h⟩
    unfold k0_off55
    exact congrArg (fun n => ![n, 0]) this
  · intro s
    have := iv_row ⟨k.val, h⟩ s
    unfold k0_off56
    exact congrArg (fun n => ![n, 0]) this

theorem offd4_0 (k : Fin k0_t4_loop.trips) (h : k.val < 8) : k0_off57 k = ![16 * k.val, 128 * 0] :=
  congrArg (![·, 0]) (iv_eq ⟨k.val, h⟩)
theorem offd4_1 (k : Fin k0_t4_loop.trips) (h : k.val < 8) : k0_off58 k = ![16 * k.val, 128 * 1] :=
  congrArg (![·, 128]) (iv_eq ⟨k.val, h⟩)
theorem offd4_2 (k : Fin k0_t4_loop.trips) (h : k.val < 8) : k0_off59 k = ![16 * k.val, 128 * 2] :=
  congrArg (![·, 256]) (iv_eq ⟨k.val, h⟩)
theorem offd4_3 (k : Fin k0_t4_loop.trips) (h : k.val < 8) : k0_off60 k = ![16 * k.val, 128 * 3] :=
  congrArg (![·, 384]) (iv_eq ⟨k.val, h⟩)
theorem offd4_4 (k : Fin k0_t4_loop.trips) (h : k.val < 8) : k0_off61 k = ![16 * k.val, 128 * 4] :=
  congrArg (![·, 512]) (iv_eq ⟨k.val, h⟩)
theorem offd4_5 (k : Fin k0_t4_loop.trips) (h : k.val < 8) : k0_off62 k = ![16 * k.val, 128 * 5] :=
  congrArg (![·, 640]) (iv_eq ⟨k.val, h⟩)
theorem offd4_6 (k : Fin k0_t4_loop.trips) (h : k.val < 8) : k0_off63 k = ![16 * k.val, 128 * 6] :=
  congrArg (![·, 768]) (iv_eq ⟨k.val, h⟩)
theorem offd4_7 (k : Fin k0_t4_loop.trips) (h : k.val < 8) : k0_off64 k = ![16 * k.val, 128 * 7] :=
  congrArg (![·, 896]) (iv_eq ⟨k.val, h⟩)
theorem offd4_8 (k : Fin k0_t4_loop.trips) (h : k.val < 8) : k0_off65 k = ![16 * k.val, 128 * 8] :=
  congrArg (![·, 1024]) (iv_eq ⟨k.val, h⟩)
theorem offd4_9 (k : Fin k0_t4_loop.trips) (h : k.val < 8) : k0_off66 k = ![16 * k.val, 128 * 9] :=
  congrArg (![·, 1152]) (iv_eq ⟨k.val, h⟩)
theorem offd4_10 (k : Fin k0_t4_loop.trips) (h : k.val < 8) : k0_off67 k = ![16 * k.val, 128 * 10] :=
  congrArg (![·, 1280]) (iv_eq ⟨k.val, h⟩)
theorem offd4_11 (k : Fin k0_t4_loop.trips) (h : k.val < 8) : k0_off68 k = ![16 * k.val, 128 * 11] :=
  congrArg (![·, 1408]) (iv_eq ⟨k.val, h⟩)
theorem offd4_12 (k : Fin k0_t4_loop.trips) (h : k.val < 8) : k0_off69 k = ![16 * k.val, 128 * 12] :=
  congrArg (![·, 1536]) (iv_eq ⟨k.val, h⟩)
theorem offd4_13 (k : Fin k0_t4_loop.trips) (h : k.val < 8) : k0_off70 k = ![16 * k.val, 128 * 13] :=
  congrArg (![·, 1664]) (iv_eq ⟨k.val, h⟩)
theorem offd4_14 (k : Fin k0_t4_loop.trips) (h : k.val < 8) : k0_off71 k = ![16 * k.val, 128 * 14] :=
  congrArg (![·, 1792]) (iv_eq ⟨k.val, h⟩)
theorem offd4_15 (k : Fin k0_t4_loop.trips) (h : k.val < 8) : k0_off72 k = ![16 * k.val, 128 * 15] :=
  congrArg (![·, 1920]) (iv_eq ⟨k.val, h⟩)

section
variable (𝒱 : Variants) (c : Dev nD) (bd : Option 𝒱.V) (i : grid0.Coords) (arg2 : Memref sig .tc .vmem S1x128x512 .bf16) (harg2 : arg2.IsWhole) (arg3 : Memref sig .tc .vmem S1x128x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S128x128 .bf16) (harg8 : arg8.IsWhole) (arg9 : Memref sig .tc .vmem S2048x128 .bf16) (harg9 : arg9.IsWhole) (arg10 : Memref sig .tc .vmem S1x128x512 .bf16) (harg10 : arg10.IsWhole) (arg11 : Memref sig .tc .vmem S4x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x2048 .bf16) (harg15 : arg15.IsWhole) (arg16 : Memref sig .tc .vmem S128x512 .f32) (harg16 : arg16.IsWhole) (v15 : IVec S16x128 32) (v16 : IVec S16x128 32) (v897 : FVec F S128x128 .f32) (v926 : FVec F S128x128 .f32) (v935 : FVec F S128x128 .f32)
    (B Q K : Vec F S128x128 .f32) (X12 : BufTy.Contents (Elt F) arg12.view.ty) (X13 : BufTy.Contents (Elt F) arg13.view.ty) (X14 : BufTy.Contents (Elt F) arg14.view.ty)

/-- What trip `k` stores is the products there. -/
theorem agree4 (hB : arg12.view.read (Elt F) X12 = B) (hQ : arg13.view.read (Elt F) X13 = Q) (hK : arg14.view.read (Elt F) X14 = K)
    (k : Fin k0_t4_loop.trips) (h : k.val < 8) :
    ∀ p ∈ tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 k, ∀ x, p.2 x = prods B Q K (p.1.emb x) := by
  unfold tripL_k0_t4 trip_k0_t4
  dsimp only
  sl_unfold_run_names
  simp only [View.readAt_eq_ld, hB, hQ, hK]
  intro p hp
  simp only [List.mem_cons, List.not_mem_nil, or_false] at hp
  rcases hp with rfl | rfl | rfl | rfl | rfl | rfl | rfl | rfl | rfl | rfl | rfl | rfl | rfl | rfl | rfl | rfl
  · exact fun x => piece _ _ _ ⟨k.val, h⟩ 15 _ _ _ (offs4 k h).1 ((offs4 k h).2 15) (offd4_15 k h) _ _ (k0_off72_inb k) x
  · exact fun x => piece _ _ _ ⟨k.val, h⟩ 14 _ _ _ (offs4 k h).1 ((offs4 k h).2 14) (offd4_14 k h) _ _ (k0_off71_inb k) x
  · exact fun x => piece _ _ _ ⟨k.val, h⟩ 13 _ _ _ (offs4 k h).1 ((offs4 k h).2 13) (offd4_13 k h) _ _ (k0_off70_inb k) x
  · exact fun x => piece _ _ _ ⟨k.val, h⟩ 12 _ _ _ (offs4 k h).1 ((offs4 k h).2 12) (offd4_12 k h) _ _ (k0_off69_inb k) x
  · exact fun x => piece _ _ _ ⟨k.val, h⟩ 11 _ _ _ (offs4 k h).1 ((offs4 k h).2 11) (offd4_11 k h) _ _ (k0_off68_inb k) x
  · exact fun x => piece _ _ _ ⟨k.val, h⟩ 10 _ _ _ (offs4 k h).1 ((offs4 k h).2 10) (offd4_10 k h) _ _ (k0_off67_inb k) x
  · exact fun x => piece _ _ _ ⟨k.val, h⟩ 9 _ _ _ (offs4 k h).1 ((offs4 k h).2 9) (offd4_9 k h) _ _ (k0_off66_inb k) x
  · exact fun x => piece _ _ _ ⟨k.val, h⟩ 8 _ _ _ (offs4 k h).1 ((offs4 k h).2 8) (offd4_8 k h) _ _ (k0_off65_inb k) x
  · exact fun x => piece _ _ _ ⟨k.val, h⟩ 7 _ _ _ (offs4 k h).1 ((offs4 k h).2 7) (offd4_7 k h) _ _ (k0_off64_inb k) x
  · exact fun x => piece _ _ _ ⟨k.val, h⟩ 6 _ _ _ (offs4 k h).1 ((offs4 k h).2 6) (offd4_6 k h) _ _ (k0_off63_inb k) x
  · exact fun x => piece _ _ _ ⟨k.val, h⟩ 5 _ _ _ (offs4 k h).1 ((offs4 k h).2 5) (offd4_5 k h) _ _ (k0_off62_inb k) x
  · exact fun x => piece _ _ _ ⟨k.val, h⟩ 4 _ _ _ (offs4 k h).1 ((offs4 k h).2 4) (offd4_4 k h) _ _ (k0_off61_inb k) x
  · exact fun x => piece _ _ _ ⟨k.val, h⟩ 3 _ _ _ (offs4 k h).1 ((offs4 k h).2 3) (offd4_3 k h) _ _ (k0_off60_inb k) x
  · exact fun x => piece _ _ _ ⟨k.val, h⟩ 2 _ _ _ (offs4 k h).1 ((offs4 k h).2 2) (offd4_2 k h) _ _ (k0_off59_inb k) x
  · exact fun x => piece _ _ _ ⟨k.val, h⟩ 1 _ _ _ (offs4 k h).1 ((offs4 k h).2 1) (offd4_1 k h) _ _ (k0_off58_inb k) x
  · exact fun x => piece _ _ _ ⟨k.val, h⟩ 0 _ _ _ (offs4 k h).1 ((offs4 k h).2 0) (offd4_0 k h) _ _ (k0_off57_inb k) x

/-- Trip `k` stores the whole of its sixteen rows. -/
theorem covers4 (k : Fin k0_t4_loop.trips) (h : k.val < 8) (y : S128x2048.Idx) (hy : (y 0).val / 16 = k.val) :
    ∃ p ∈ tripL_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 k, y ∈ p.1.set := by
  unfold tripL_k0_t4 trip_k0_t4
  dsimp only
  have h1 : (y 1).val < 2048 := (y 1).isLt
  have hc : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 ∨ (y 1).val / 128 = 12 ∨ (y 1).val / 128 = 13 ∨ (y 1).val / 128 = 14 ∨ (y 1).val / 128 = 15 := by omega
  rcases hc with e | e | e | e | e | e | e | e | e | e | e | e | e | e | e | e
  · exact ⟨_, four (four (four (.tail _ (.tail _ (.tail _ (.head _)))))), piece_mem ⟨k.val, h⟩ 0 _ (offd4_0 k h) (k0_off57_inb k) y hy e⟩
  · exact ⟨_, four (four (four (.tail _ (.tail _ (.head _))))), piece_mem ⟨k.val, h⟩ 1 _ (offd4_1 k h) (k0_off58_inb k) y hy e⟩
  · exact ⟨_, four (four (four (.tail _ (.head _)))), piece_mem ⟨k.val, h⟩ 2 _ (offd4_2 k h) (k0_off59_inb k) y hy e⟩
  · exact ⟨_, four (four (four (.head _))), piece_mem ⟨k.val, h⟩ 3 _ (offd4_3 k h) (k0_off60_inb k) y hy e⟩
  · exact ⟨_, four (four (.tail _ (.tail _ (.tail _ (.head _))))), piece_mem ⟨k.val, h⟩ 4 _ (offd4_4 k h) (k0_off61_inb k) y hy e⟩
  · exact ⟨_, four (four (.tail _ (.tail _ (.head _)))), piece_mem ⟨k.val, h⟩ 5 _ (offd4_5 k h) (k0_off62_inb k) y hy e⟩
  · exact ⟨_, four (four (.tail _ (.head _))), piece_mem ⟨k.val, h⟩ 6 _ (offd4_6 k h) (k0_off63_inb k) y hy e⟩
  · exact ⟨_, four (four (.head _)), piece_mem ⟨k.val, h⟩ 7 _ (offd4_7 k h) (k0_off64_inb k) y hy e⟩
  · exact ⟨_, four (.tail _ (.tail _ (.tail _ (.head _)))), piece_mem ⟨k.val, h⟩ 8 _ (offd4_8 k h) (k0_off65_inb k) y hy e⟩
  · exact ⟨_, four (.tail _ (.tail _ (.head _))), piece_mem ⟨k.val, h⟩ 9 _ (offd4_9 k h) (k0_off66_inb k) y hy e⟩
  · exact ⟨_, four (.tail _ (.head _)), piece_mem ⟨k.val, h⟩ 10 _ (offd4_10 k h) (k0_off67_inb k) y hy e⟩
  · exact ⟨_, four (.head _), piece_mem ⟨k.val, h⟩ 11 _ (offd4_11 k h) (k0_off68_inb k) y hy e⟩
  · exact ⟨_, .tail _ (.tail _ (.tail _ (.head _))), piece_mem ⟨k.val, h⟩ 12 _ (offd4_12 k h) (k0_off69_inb k) y hy e⟩
  · exact ⟨_, .tail _ (.tail _ (.head _)), piece_mem ⟨k.val, h⟩ 13 _ (offd4_13 k h) (k0_off70_inb k) y hy e⟩
  · exact ⟨_, .tail _ (.head _), piece_mem ⟨k.val, h⟩ 14 _ (offd4_14 k h) (k0_off71_inb k) y hy e⟩
  · exact ⟨_, .head _, piece_mem ⟨k.val, h⟩ 15 _ (offd4_15 k h) (k0_off72_inb k) y hy e⟩

/-- After the loop the scratch matrix holds the products, whatever it held before. -/
theorem filled4 (hB : arg12.view.read (Elt F) X12 = B) (hQ : arg13.view.read (Elt F) X13 = Q) (hK : arg14.view.read (Elt F) X14 = K)
    (G : BufTy.Contents (Elt F) arg15.view.ty) :
    arg15.view.read (Elt F) (arg15.view.writes (Elt F) G (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 8)) = prods B Q K := by
  have key : ∀ n, n ≤ 8 → (∀ p ∈ pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 n, ∀ x, p.2 x = prods B Q K (p.1.emb x))
      ∧ ∀ y : S128x2048.Idx, (y 0).val / 16 < n → ∃ p ∈ pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 n, y ∈ p.1.set := by
    intro n
    induction n with
    | zero => intro _; exact ⟨fun p hp => absurd hp (by rw [pb_k0_t4.eq_1]; exact List.not_mem_nil), fun y hy => absurd hy (by omega)⟩
    | succ n ih =>
      intro hn
      obtain ⟨ha, hc⟩ := ih (by omega)
      have e := pb_k0_t4_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 ⟨n, by rw [trips4]; omega⟩
      rw [e]
      refine ⟨fun p hp => ?_, fun y hy => ?_⟩
      · rcases List.mem_append.mp hp with hp | hp
        · exact agree4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 B Q K X12 X13 X14 hB hQ hK ⟨n, by rw [trips4]; omega⟩ (by show n < 8; omega) p hp
        · exact ha p hp
      · by_cases hy' : (y 0).val / 16 = n
        · obtain ⟨p, hp, hm⟩ := covers4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 ⟨n, by rw [trips4]; omega⟩ (by show n < 8; omega) y hy'
          exact ⟨p, List.mem_append.mpr (.inl hp), hm⟩
        · obtain ⟨p, hp, hm⟩ := hc y (by omega)
          exact ⟨p, List.mem_append.mpr (.inr hp), hm⟩
  funext y
  have hy : (y 0).val < 128 := (y 0).isLt
  exact View.read_writes_apply_of_pieces _ _ (prods B Q K) _ (key 8 le_rfl).1 y ((key 8 le_rfl).2 y (by omega))

/-- The same, from what the three matrices hold. -/
theorem reads4 (G : BufTy.Contents (Elt F) arg15.view.ty) :
    arg15.view.read (Elt F) (arg15.view.writes (Elt F) G (pb_k0_t4 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 X12 X13 X14 8))
      = prods (arg12.view.read (Elt F) X12) (arg13.view.read (Elt F) X13) (arg14.view.read (Elt F) X14) :=
  filled4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v15 v16 v897 v926 v935 _ _ _ X12 X13 X14 rfl rfl rfl G

end

end Cert.Kernel4Ideal.Hgrn

end
-- ==== Proof.HgrnHead.lean ====
/-
  The linear recurrence: what the body computes for one head, in one form for all four heads, and how the written state
  reads back.
-/
module

public import proofs.«01_k».proof.Proof.HgrnLoops

@[expose] public section

set_option maxRecDepth 16384

noncomputable section

open Idealize.ShloMosaic Idealize.ShloMosaic.TcCoe Idealize.SL.Sem

namespace Cert.Kernel4Ideal.Hgrn

open Cert.Kernel4Ideal Cert.Kernel4Ideal.Gen

variable {F : FTy → Type} [FloatOps F]

/-- The column number of every place of a sixteen-row block, and the row number. -/
def lanes : IVec S16x128 32 := iota .tc S16x128 32 [1] iota_S16x128_d1_w32
def rows : IVec S16x128 32 := iota .tc S16x128 32 [0] iota_S16x128_d0_w32

/-- The lower bound of the forget gate on the 128 coordinates of head `h`. -/
def lbOf (g : Vec F S2x512 .f32) : Fin 4 → FVec F S1x128 .f32
  | 0 => extractStridedSlice S1x128 ![0, 0] (k0_pay87 g) slices_S1x512_o0_0_S1x128
  | 1 => extractStridedSlice S1x128 ![0, 128] (k0_pay87 g) slices_S1x512_o0_128_S1x128
  | 2 => extractStridedSlice S1x128 ![0, 256] (k0_pay87 g) slices_S1x512_o0_256_S1x128
  | 3 => extractStridedSlice S1x128 ![0, 384] (k0_pay87 g) slices_S1x512_o0_384_S1x128

/-- The columns of head `h`. -/
def colsOf {e : EltTy} (x : Vec F S1x128x512 e) (h : Fin 4) : Vec F S1x128x128 e :=
  fun y => x (ix3 (y 0) (y 1) (Fin.ofNat 512 (128 * h.val + (y 2).val)))

/-- The state of head `h`. -/
def slabOf (S : Vec F S4x128x128 .f32) (h : Fin 4) : Vec F S1x128x128 .f32 := fun y => S (ix3 h (y 1) (y 2))

/-- The state with head `h`'s slab replaced. -/
def setSlab (S : Vec F S4x128x128 .f32) (h : Fin 4) (w : Vec F S1x128x128 .f32) : Vec F S4x128x128 .f32 :=
  fun y => if (y 0).val = h.val then w (ix3 0 (y 1) (y 2)) else S y

/-- A head's output from its queries, keys, cumulated log decays and values, what the state contributes, the within-group
    products and the matrix that sums them. -/
def mix (q k b : FVec F S128x128 .f32) (v : FVec F S128x128 .bf16) (qs : FVec F S128x128 .f32) (D : Vec F S128x2048 .bf16) (E : Vec F S2048x128 .bf16) : FVec F S128x128 .f32 :=
  (k0_pay157 ((k0_pay156 lanes rows q k v b qs (k0_pay137 D E) (k0_pay140 (k0_pay138 lanes rows) (k0_pay139 D E)) (k0_pay141 lanes rows q k b (k0_pay137 D E)) (k0_pay147 (k0_pay142 lanes rows (k0_pay137 D E)) (k0_pay144 q b) (k0_pay145 k) (k0_pay146 b)) (k0_pay148 lanes rows q k b (k0_pay137 D E)) (k0_pay153 k b (k0_pay149 lanes rows (k0_pay137 D E)) (k0_pay150 b) (k0_pay151 q) (k0_pay152 b)) (k0_pay154 lanes rows q k b (k0_pay137 D E)) (k0_pay155 lanes rows (k0_pay137 D E)))))

/-- A head's output from its four input blocks and its state. -/
def headOut (t : Vec F S128x128 .bf16) (E : Vec F S2048x128 .bf16) (lb : FVec F S1x128 .f32) (x : Vec F S1x128x128 .bf16) (z : Vec F S1x128x128 .f32) (w : Vec F S1x128x128 .bf16) (st : Vec F S1x128x128 .f32) : FVec F S128x128 .f32 :=
  mix (k0_pay124 x) (k0_pay126 lb z) (k0_pay128 (k0_pay88 t) lb z) (k0_pay127 w) (k0_pay131 (k0_pay88 t) lb (k0_pay124 x) z st)
    (prods (k0_pay133 (k0_pay128 (k0_pay88 t) lb z)) (k0_pay134 (k0_pay124 x)) (k0_pay135 (k0_pay126 lb z))) E

/-- A head's state after the chunk. -/
def headNext (t : Vec F S128x128 .bf16) (lb : FVec F S1x128 .f32) (z : Vec F S1x128x128 .f32) (w : Vec F S1x128x128 .bf16) (st : Vec F S1x128x128 .f32) : FVec F S1x128x128 .f32 :=
  k0_pay132 (k0_pay126 lb z) (k0_pay127 w) (k0_pay128 (k0_pay88 t) lb z) (k0_pay129 (k0_pay88 t) lb z) (k0_pay130 st)

/-- The four heads' outputs side by side. -/
def heads (x0 : Vec F S1x128x512 .bf16) (x1 : Vec F S1x128x512 .f32) (x2 : Vec F S1x128x512 .bf16) (x4 : Vec F S2x512 .f32) (x6 : Vec F S128x128 .bf16) (x7 : Vec F S2048x128 .bf16) (S : Vec F S4x128x128 .f32) : Vec F S128x512 .f32 :=
  fun y => headOut x6 x7 (lbOf x4 (Fin.ofNat 4 ((y 1).val / 128))) (colsOf x0 (Fin.ofNat 4 ((y 1).val / 128))) (colsOf x1 (Fin.ofNat 4 ((y 1).val / 128))) (colsOf x2 (Fin.ofNat 4 ((y 1).val / 128)))
    (slabOf S (Fin.ofNat 4 ((y 1).val / 128))) (ix2 (y 0) (Fin.ofNat 128 (y 1).val))

/-- What the body stores, from its input blocks and the state. -/
def block (x0 : Vec F S1x128x512 .bf16) (x1 : Vec F S1x128x512 .f32) (x2 : Vec F S1x128x512 .bf16) (x3 : Vec F S1x128x512 .bf16) (x4 : Vec F S2x512 .f32) (x5 : Vec F S1x512 .f32) (x6 : Vec F S128x128 .bf16) (x7 : Vec F S2048x128 .bf16) (S : Vec F S4x128x128 .f32) : FVec F S1x128x512 .bf16 :=
  k0_pay1 (k0_pay234 (heads x0 x1 x2 x4 x6 x7 S)) (k0_pay235 x5) x3

/-- The state the body leaves. -/
def nextState (x1 : Vec F S1x128x512 .f32) (x2 : Vec F S1x128x512 .bf16) (x4 : Vec F S2x512 .f32) (x6 : Vec F S128x128 .bf16) (S : Vec F S4x128x128 .f32) : Vec F S4x128x128 .f32 :=
  fun y => headNext x6 (lbOf x4 (y 0)) (colsOf x1 (y 0)) (colsOf x2 (y 0)) (slabOf S (y 0)) (ix3 0 (y 1) (y 2))

theorem mix_0 (q k b : FVec F S128x128 .f32) (v : FVec F S128x128 .bf16) (qs : FVec F S128x128 .f32) (D : Vec F S128x2048 .bf16) (E : Vec F S2048x128 .bf16) :
    (k0_pay122 lanes rows q k v b qs (k0_pay105 D E) (k0_pay106 lanes rows D E) (k0_pay110 k b (k0_pay107 lanes rows D E) (k0_pay108 b) (k0_pay109 q)) (k0_pay111 lanes rows q k b (k0_pay105 D E)) (k0_pay113 q k b (k0_pay105 D E) (k0_pay112 lanes rows)) (k0_pay114 lanes rows q k b (k0_pay105 D E)) (k0_pay116 lanes rows q k b (k0_pay105 D E) (k0_pay115)) (k0_pay117 lanes rows (k0_pay105 D E)) (k0_pay119 q b) (k0_pay120 k b) (k0_pay121 (F := F))) = mix q k b v qs D E := rfl
theorem mix_1 (q k b : FVec F S128x128 .f32) (v : FVec F S128x128 .bf16) (qs : FVec F S128x128 .f32) (D : Vec F S128x2048 .bf16) (E : Vec F S2048x128 .bf16) :
    (k0_pay157 ((k0_pay156 lanes rows q k v b qs (k0_pay137 D E) (k0_pay140 (k0_pay138 lanes rows) (k0_pay139 D E)) (k0_pay141 lanes rows q k b (k0_pay137 D E)) (k0_pay147 (k0_pay142 lanes rows (k0_pay137 D E)) (k0_pay144 q b) (k0_pay145 k) (k0_pay146 b)) (k0_pay148 lanes rows q k b (k0_pay137 D E)) (k0_pay153 k b (k0_pay149 lanes rows (k0_pay137 D E)) (k0_pay150 b) (k0_pay151 q) (k0_pay152 b)) (k0_pay154 lanes rows q k b (k0_pay137 D E)) (k0_pay155 lanes rows (k0_pay137 D E))))) = mix q k b v qs D E := rfl
theorem mix_2 (q k b : FVec F S128x128 .f32) (v : FVec F S128x128 .bf16) (qs : FVec F S128x128 .f32) (D : Vec F S128x2048 .bf16) (E : Vec F S2048x128 .bf16) :
    (k0_pay191 v qs (k0_pay173 lanes rows D E) (k0_pay174 lanes rows q k b D E) (k0_pay177 q k b (k0_pay172 D E) (k0_pay175 lanes) (k0_pay176 lanes rows)) (k0_pay178 lanes rows q k b (k0_pay172 D E)) (k0_pay179 lanes rows q k b (k0_pay172 D E) (64#32)) (k0_pay184 (k0_pay180 lanes rows (k0_pay172 D E)) (k0_pay182 q b) (k0_pay183 k b) (Scalar.ofBits .bf16 0x0000#16)) (k0_pay185 lanes rows q k b (k0_pay172 D E)) (k0_pay186 lanes rows (k0_pay172 D E)) (k0_pay187 b) (k0_pay188 q b) (k0_pay189 k) (k0_pay190 b)) = mix q k b v qs D E := rfl
theorem mix_3 (q k b : FVec F S128x128 .f32) (v : FVec F S128x128 .bf16) (qs : FVec F S128x128 .f32) (D : Vec F S128x2048 .bf16) (E : Vec F S2048x128 .bf16) :
    (k0_pay233 lanes rows q k v b qs (k0_pay210 D E) (k0_pay211 lanes rows D E) (k0_pay218 (k0_pay212 lanes rows D E) (k0_pay214 q b) (k0_pay215 k) (k0_pay216 b) (k0_pay217 b)) (k0_pay219 lanes rows q k b (k0_pay210 D E)) (k0_pay224 k b (k0_pay220 lanes rows (k0_pay210 D E)) (k0_pay221 b) (k0_pay222 q) (k0_pay223 b)) (k0_pay225 lanes rows q k b (k0_pay210 D E)) (k0_pay229 q k b (k0_pay226 lanes rows) (k0_pay227 (k0_pay210 D E)) (k0_pay228 (F := F))) (k0_pay230 lanes rows q k b (k0_pay210 D E)) (k0_pay231 lanes) (k0_pay232)) = mix q k b v qs D E := rfl
theorem next_0 (g : Vec F S2x512 .f32) (t : Vec F S128x128 .bf16) (x : Vec F S1x128x128 .bf16) (z : Vec F S1x128x128 .f32) (w : Vec F S1x128x128 .bf16) (st : Vec F S1x128x128 .f32) : (k0_pay100 (k0_pay88 t) (k0_pay91 z) (k0_pay92 g) (k0_pay93 g) w st) = headNext t (lbOf g 0) z w st := rfl
theorem out_0 (g : Vec F S2x512 .f32) (t : Vec F S128x128 .bf16) (x : Vec F S1x128x128 .bf16) (z : Vec F S1x128x128 .f32) (w : Vec F S1x128x128 .bf16) (st : Vec F S1x128x128 .f32) (E : Vec F S2048x128 .bf16) :
    mix (k0_pay90 x) (k0_pay95 (k0_pay91 z) (k0_pay92 g) (k0_pay93 g)) (k0_pay97 (k0_pay88 t) (k0_pay91 z) (k0_pay92 g) (k0_pay93 g)) (k0_pay96 w) (k0_pay99 (k0_pay88 t) (k0_pay90 x) (k0_pay91 z) (k0_pay92 g) (k0_pay93 g) st) (prods (k0_pay101 (k0_pay97 (k0_pay88 t) (k0_pay91 z) (k0_pay92 g) (k0_pay93 g))) (k0_pay102 (k0_pay90 x)) (k0_pay103 (k0_pay95 (k0_pay91 z) (k0_pay92 g) (k0_pay93 g)))) E = headOut t E (lbOf g 0) x z w st := rfl

theorem next_1 (g : Vec F S2x512 .f32) (t : Vec F S128x128 .bf16) (x : Vec F S1x128x128 .bf16) (z : Vec F S1x128x128 .f32) (w : Vec F S1x128x128 .bf16) (st : Vec F S1x128x128 .f32) : (k0_pay132 (k0_pay126 (k0_pay123 (k0_pay87 g)) z) (k0_pay127 w) (k0_pay128 (k0_pay88 t) (k0_pay123 (k0_pay87 g)) z) (k0_pay129 (k0_pay88 t) (k0_pay123 (k0_pay87 g)) z) (k0_pay130 st)) = headNext t (lbOf g 1) z w st := rfl
theorem out_1 (g : Vec F S2x512 .f32) (t : Vec F S128x128 .bf16) (x : Vec F S1x128x128 .bf16) (z : Vec F S1x128x128 .f32) (w : Vec F S1x128x128 .bf16) (st : Vec F S1x128x128 .f32) (E : Vec F S2048x128 .bf16) :
    mix (k0_pay124 x) (k0_pay126 (k0_pay123 (k0_pay87 g)) z) (k0_pay128 (k0_pay88 t) (k0_pay123 (k0_pay87 g)) z) (k0_pay127 w) (k0_pay131 (k0_pay88 t) (k0_pay123 (k0_pay87 g)) (k0_pay124 x) z st) (prods (k0_pay133 (k0_pay128 (k0_pay88 t) (k0_pay123 (k0_pay87 g)) z)) (k0_pay134 (k0_pay124 x)) (k0_pay135 (k0_pay126 (k0_pay123 (k0_pay87 g)) z))) E = headOut t E (lbOf g 1) x z w st := rfl

theorem next_2 (g : Vec F S2x512 .f32) (t : Vec F S128x128 .bf16) (x : Vec F S1x128x128 .bf16) (z : Vec F S1x128x128 .f32) (w : Vec F S1x128x128 .bf16) (st : Vec F S1x128x128 .f32) : (k0_pay167 (k0_pay88 t) (k0_pay160 (k0_pay87 g) z) (k0_pay161 w) (k0_pay162 (k0_pay87 g) z) (k0_pay163 (k0_pay87 g) z) st) = headNext t (lbOf g 2) z w st := rfl
theorem out_2 (g : Vec F S2x512 .f32) (t : Vec F S128x128 .bf16) (x : Vec F S1x128x128 .bf16) (z : Vec F S1x128x128 .f32) (w : Vec F S1x128x128 .bf16) (st : Vec F S1x128x128 .f32) (E : Vec F S2048x128 .bf16) :
    mix (k0_pay158 x) (k0_pay160 (k0_pay87 g) z) (k0_pay164 (k0_pay88 t) (k0_pay162 (k0_pay87 g) z) (k0_pay163 (k0_pay87 g) z)) (k0_pay161 w) (k0_pay166 (k0_pay88 t) (k0_pay158 x) (k0_pay162 (k0_pay87 g) z) (k0_pay163 (k0_pay87 g) z) st) (prods (k0_pay168 (k0_pay88 t) (k0_pay162 (k0_pay87 g) z) (k0_pay163 (k0_pay87 g) z)) (k0_pay169 (k0_pay158 x)) (k0_pay170 (k0_pay160 (k0_pay87 g) z))) E = headOut t E (lbOf g 2) x z w st := rfl

theorem next_3 (g : Vec F S2x512 .f32) (t : Vec F S128x128 .bf16) (x : Vec F S1x128x128 .bf16) (z : Vec F S1x128x128 .f32) (w : Vec F S1x128x128 .bf16) (st : Vec F S1x128x128 .f32) : (k0_pay205 (k0_pay88 t) (k0_pay196 (k0_pay87 g) z) (k0_pay197 (k0_pay87 g) z) (k0_pay198 (F := F)) w st) = headNext t (lbOf g 3) z w st := rfl
theorem out_3 (g : Vec F S2x512 .f32) (t : Vec F S128x128 .bf16) (x : Vec F S1x128x128 .bf16) (z : Vec F S1x128x128 .f32) (w : Vec F S1x128x128 .bf16) (st : Vec F S1x128x128 .f32) (E : Vec F S2048x128 .bf16) :
    mix (k0_pay193 x) (k0_pay200 (k0_pay196 (k0_pay87 g) z) (k0_pay197 (k0_pay87 g) z) (k0_pay198 (F := F))) (k0_pay202 (k0_pay88 t) (k0_pay196 (k0_pay87 g) z) (k0_pay197 (k0_pay87 g) z) (k0_pay198 (F := F))) (k0_pay201 w) (k0_pay204 (k0_pay88 t) (k0_pay193 x) (k0_pay196 (k0_pay87 g) z) (k0_pay197 (k0_pay87 g) z) (k0_pay198 (F := F)) st) (prods (k0_pay206 (k0_pay88 t) (k0_pay196 (k0_pay87 g) z) (k0_pay197 (k0_pay87 g) z) (k0_pay198 (F := F))) (k0_pay207 (k0_pay193 x)) (k0_pay208 (k0_pay200 (k0_pay196 (k0_pay87 g) z) (k0_pay197 (k0_pay87 g) z) (k0_pay198 (F := F))))) E = headOut t E (lbOf g 3) x z w st := rfl

theorem ld_cols {e : EltTy} (x : Vec F S1x128x512 e) (h : Fin 4) (off : Fin 3 → ℕ) (ho : off = ![0, 0, 128 * h.val])
    (inb : ∀ a, off a + S1x128x128.size a ≤ S1x128x512.size a) :
    View.ld x (Rect.unit (s := S1x128x512) off S1x128x128.size inb) = colsOf x h := by
  subst ho
  funext y
  show x _ = x _
  have h0 : (y 0).val < 1 := (y 0).isLt
  have h2 : (y 2).val < 128 := (y 2).isLt
  have := h.isLt
  congr 1
  funext d
  apply Fin.ext
  match d with
  | ⟨0, _⟩ => show 0 + 1 * (y 0).val = (y 0).val; omega
  | ⟨1, _⟩ => show 0 + 1 * (y 1).val = (y 1).val; omega
  | ⟨2, _⟩ => show 128 * h.val + 1 * (y 2).val = (128 * h.val + (y 2).val) % 512; rw [Nat.mod_eq_of_lt (by omega)]; omega

theorem ld_slab (x : Vec F S4x128x128 .f32) (h : Fin 4) (off : Fin 3 → ℕ) (ho : off = ![h.val, 0, 0])
    (inb : ∀ a, off a + S1x128x128.size a ≤ S4x128x128.size a) :
    View.ld x (Rect.unit (s := S4x128x128) off S1x128x128.size inb) = slabOf x h := by
  subst ho
  funext y
  show x _ = x _
  have h0 : (y 0).val < 1 := (y 0).isLt
  congr 1
  funext d
  apply Fin.ext
  match d with
  | ⟨0, _⟩ => show h.val + 1 * (y 0).val = h.val; omega
  | ⟨1, _⟩ => show 0 + 1 * (y 1).val = (y 1).val; omega
  | ⟨2, _⟩ => show 0 + 1 * (y 2).val = (y 2).val; omega

/-- Reading the state after one head's slab was stored. -/
theorem read_slab (v : View sig .tc .vmem S4x128x128 .f32) (f : v.ty.Contents (Elt F)) (h : Fin 4) (off : Fin 3 → ℕ) (ho : off = ![h.val, 0, 0])
    (inb : ∀ a, off a + S1x128x128.size a ≤ S4x128x128.size a) (w : Vec F S1x128x128 .f32) (L : List (View.Piece (Elt F) S4x128x128 .f32)) :
    v.read (Elt F) (v.writes (Elt F) f (⟨Rect.unit (s := S4x128x128) off S1x128x128.size inb, w⟩ :: L))
      = setSlab (v.read (Elt F) (v.writes (Elt F) f L)) h w := by
  funext y
  unfold setSlab
  by_cases e : (y 0).val = h.val
  · rw [if_pos e]
    refine View.read_writes_cons_unit_of_mem (s := S4x128x128) v f inb w L y (ix3 0 (y 1) (y 2)) ho fun a => ?_
    match a with
    | ⟨0, _⟩ => show (y 0).val = h.val + 0; omega
    | ⟨1, _⟩ => show (y 1).val = 0 + (y 1).val; omega
    | ⟨2, _⟩ => show (y 2).val = 0 + (y 2).val; omega
  · rw [if_neg e]
    refine View.read_writes_cons_unit_of_not_mem (s := S4x128x128) v f inb w L y ho (0 : Fin 3) ?_
    show (y 0).val < h.val ∨ h.val + 1 ≤ (y 0).val
    omega

theorem slabOf_setSlab (S : Vec F S4x128x128 .f32) (h h' : Fin 4) (w : Vec F S1x128x128 .f32) (ne : h ≠ h') :
    slabOf (setSlab S h' w) h = slabOf S h := by
  funext y
  exact if_neg fun e => ne (Fin.ext e)

theorem hz2 : (![0, 0] : Fin 2 → Nat) = fun _ => 0 := funext fun a => by fin_cases a <;> rfl
theorem hz3 : (![0, 0, 0] : Fin 3 → Nat) = fun _ => 0 := funext fun a => by fin_cases a <;> rfl

theorem ldc_0 {e : EltTy} (x : Vec F S1x128x512 e) (inb : ∀ a, (![0, 0, 0] : Fin 3 → ℕ) a + (![1, 128, 128] : Fin 3 → ℕ) a ≤ S1x128x512.size a) :
    View.ld x (Rect.unit (s := S1x128x512) ![0, 0, 0] ![1, 128, 128] inb) = colsOf x 0 := ld_cols x 0 _ rfl inb
theorem lds_0 (x : Vec F S4x128x128 .f32) (inb : ∀ a, (![0, 0, 0] : Fin 3 → ℕ) a + (![1, 128, 128] : Fin 3 → ℕ) a ≤ S4x128x128.size a) :
    View.ld x (Rect.unit (s := S4x128x128) ![0, 0, 0] ![1, 128, 128] inb) = slabOf x 0 := ld_slab x 0 _ rfl inb
theorem rslab_0 (v : View sig .tc .vmem S4x128x128 .f32) (f : v.ty.Contents (Elt F))
    (inb : ∀ a, (![0, 0, 0] : Fin 3 → ℕ) a + (![1, 128, 128] : Fin 3 → ℕ) a ≤ S4x128x128.size a) (w : Vec F S1x128x128 .f32) (L : List (View.Piece (Elt F) S4x128x128 .f32)) :
    v.read (Elt F) (v.writes (Elt F) f (⟨Rect.unit (s := S4x128x128) ![0, 0, 0] ![1, 128, 128] inb, w⟩ :: L))
      = setSlab (v.read (Elt F) (v.writes (Elt F) f L)) 0 w := read_slab v f 0 _ rfl inb w L
theorem ldc_1 {e : EltTy} (x : Vec F S1x128x512 e) (inb : ∀ a, (![0, 0, 128] : Fin 3 → ℕ) a + (![1, 128, 128] : Fin 3 → ℕ) a ≤ S1x128x512.size a) :
    View.ld x (Rect.unit (s := S1x128x512) ![0, 0, 128] ![1, 128, 128] inb) = colsOf x 1 := ld_cols x 1 _ rfl inb
theorem lds_1 (x : Vec F S4x128x128 .f32) (inb : ∀ a, (![1, 0, 0] : Fin 3 → ℕ) a + (![1, 128, 128] : Fin 3 → ℕ) a ≤ S4x128x128.size a) :
    View.ld x (Rect.unit (s := S4x128x128) ![1, 0, 0] ![1, 128, 128] inb) = slabOf x 1 := ld_slab x 1 _ rfl inb
theorem rslab_1 (v : View sig .tc .vmem S4x128x128 .f32) (f : v.ty.Contents (Elt F))
    (inb : ∀ a, (![1, 0, 0] : Fin 3 → ℕ) a + (![1, 128, 128] : Fin 3 → ℕ) a ≤ S4x128x128.size a) (w : Vec F S1x128x128 .f32) (L : List (View.Piece (Elt F) S4x128x128 .f32)) :
    v.read (Elt F) (v.writes (Elt F) f (⟨Rect.unit (s := S4x128x128) ![1, 0, 0] ![1, 128, 128] inb, w⟩ :: L))
      = setSlab (v.read (Elt F) (v.writes (Elt F) f L)) 1 w := read_slab v f 1 _ rfl inb w L
theorem slab_ne_1_0 (S : Vec F S4x128x128 .f32) (w : Vec F S1x128x128 .f32) : slabOf (setSlab S 0 w) 1 = slabOf S 1 :=
  slabOf_setSlab S 1 0 w (by decide)
theorem ldc_2 {e : EltTy} (x : Vec F S1x128x512 e) (inb : ∀ a, (![0, 0, 256] : Fin 3 → ℕ) a + (![1, 128, 128] : Fin 3 → ℕ) a ≤ S1x128x512.size a) :
    View.ld x (Rect.unit (s := S1x128x512) ![0, 0, 256] ![1, 128, 128] inb) = colsOf x 2 := ld_cols x 2 _ rfl inb
theorem lds_2 (x : Vec F S4x128x128 .f32) (inb : ∀ a, (![2, 0, 0] : Fin 3 → ℕ) a + (![1, 128, 128] : Fin 3 → ℕ) a ≤ S4x128x128.size a) :
    View.ld x (Rect.unit (s := S4x128x128) ![2, 0, 0] ![1, 128, 128] inb) = slabOf x 2 := ld_slab x 2 _ rfl inb
theorem rslab_2 (v : View sig .tc .vmem S4x128x128 .f32) (f : v.ty.Contents (Elt F))
    (inb : ∀ a, (![2, 0, 0] : Fin 3 → ℕ) a + (![1, 128, 128] : Fin 3 → ℕ) a ≤ S4x128x128.size a) (w : Vec F S1x128x128 .f32) (L : List (View.Piece (Elt F) S4x128x128 .f32)) :
    v.read (Elt F) (v.writes (Elt F) f (⟨Rect.unit (s := S4x128x128) ![2, 0, 0] ![1, 128, 128] inb, w⟩ :: L))
      = setSlab (v.read (Elt F) (v.writes (Elt F) f L)) 2 w := read_slab v f 2 _ rfl inb w L
theorem slab_ne_2_0 (S : Vec F S4x128x128 .f32) (w : Vec F S1x128x128 .f32) : slabOf (setSlab S 0 w) 2 = slabOf S 2 :=
  slabOf_setSlab S 2 0 w (by decide)
theorem slab_ne_2_1 (S : Vec F S4x128x128 .f32) (w : Vec F S1x128x128 .f32) : slabOf (setSlab S 1 w) 2 = slabOf S 2 :=
  slabOf_setSlab S 2 1 w (by decide)
theorem ldc_3 {e : EltTy} (x : Vec F S1x128x512 e) (inb : ∀ a, (![0, 0, 384] : Fin 3 → ℕ) a + (![1, 128, 128] : Fin 3 → ℕ) a ≤ S1x128x512.size a) :
    View.ld x (Rect.unit (s := S1x128x512) ![0, 0, 384] ![1, 128, 128] inb) = colsOf x 3 := ld_cols x 3 _ rfl inb
theorem lds_3 (x : Vec F S4x128x128 .f32) (inb : ∀ a, (![3, 0, 0] : Fin 3 → ℕ) a + (![1, 128, 128] : Fin 3 → ℕ) a ≤ S4x128x128.size a) :
    View.ld x (Rect.unit (s := S4x128x128) ![3, 0, 0] ![1, 128, 128] inb) = slabOf x 3 := ld_slab x 3 _ rfl inb
theorem rslab_3 (v : View sig .tc .vmem S4x128x128 .f32) (f : v.ty.Contents (Elt F))
    (inb : ∀ a, (![3, 0, 0] : Fin 3 → ℕ) a + (![1, 128, 128] : Fin 3 → ℕ) a ≤ S4x128x128.size a) (w : Vec F S1x128x128 .f32) (L : List (View.Piece (Elt F) S4x128x128 .f32)) :
    v.read (Elt F) (v.writes (Elt F) f (⟨Rect.unit (s := S4x128x128) ![3, 0, 0] ![1, 128, 128] inb, w⟩ :: L))
      = setSlab (v.read (Elt F) (v.writes (Elt F) f L)) 3 w := read_slab v f 3 _ rfl inb w L
theorem slab_ne_3_0 (S : Vec F S4x128x128 .f32) (w : Vec F S1x128x128 .f32) : slabOf (setSlab S 0 w) 3 = slabOf S 3 :=
  slabOf_setSlab S 3 0 w (by decide)
theorem slab_ne_3_1 (S : Vec F S4x128x128 .f32) (w : Vec F S1x128x128 .f32) : slabOf (setSlab S 1 w) 3 = slabOf S 3 :=
  slabOf_setSlab S 3 1 w (by decide)
theorem slab_ne_3_2 (S : Vec F S4x128x128 .f32) (w : Vec F S1x128x128 .f32) : slabOf (setSlab S 2 w) 3 = slabOf S 3 :=
  slabOf_setSlab S 3 2 w (by decide)

theorem full_sq {e : EltTy} (v : View sig .tc .vmem S128x128 e) (f : v.ty.Contents (Elt F)) (inb : ∀ a, (![0, 0] : Fin 2 → ℕ) a + (![128, 128] : Fin 2 → ℕ) a ≤ S128x128.size a)
    (w : Vec F S128x128 e) (L : List (View.Piece (Elt F) S128x128 e)) :
    v.read (Elt F) (v.writes (Elt F) f (⟨Rect.unit (s := S128x128) ![0, 0] ![128, 128] inb, w⟩ :: L)) = w := View.read_writes_full v f inb w L
theorem full_state (v : View sig .tc .vmem S4x128x128 .f32) (f : v.ty.Contents (Elt F)) (inb : ∀ a, (![0, 0, 0] : Fin 3 → ℕ) a + (![4, 128, 128] : Fin 3 → ℕ) a ≤ S4x128x128.size a)
    (w : Vec F S4x128x128 .f32) (L : List (View.Piece (Elt F) S4x128x128 .f32)) :
    v.read (Elt F) (v.writes (Elt F) f (⟨Rect.unit (s := S4x128x128) ![0, 0, 0] ![4, 128, 128] inb, w⟩ :: L)) = w := View.read_writes_full v f inb w L

theorem writes_none (v : View sig .tc .vmem S4x128x128 .f32) (f : v.ty.Contents (Elt F)) : v.writes (Elt F) f [] = f := rfl

/-- Replacing the four slabs of any array by the heads' next states gives the next state. -/
theorem next_eq (x1 : Vec F S1x128x512 .f32) (x2 : Vec F S1x128x512 .bf16) (x4 : Vec F S2x512 .f32) (x6 : Vec F S128x128 .bf16) (S S' : Vec F S4x128x128 .f32) :
    setSlab (setSlab (setSlab (setSlab S' 0 (headNext x6 (lbOf x4 0) (colsOf x1 0) (colsOf x2 0) (slabOf S 0)))
      1 (headNext x6 (lbOf x4 1) (colsOf x1 1) (colsOf x2 1) (slabOf S 1))) 2 (headNext x6 (lbOf x4 2) (colsOf x1 2) (colsOf x2 2) (slabOf S 2)))
      3 (headNext x6 (lbOf x4 3) (colsOf x1 3) (colsOf x2 3) (slabOf S 3)) = nextState x1 x2 x4 x6 S := by
  funext y
  obtain ⟨a, b, c, rfl⟩ : ∃ (a : Fin 4) (b c : Fin 128), y = ix3 a b c :=
    ⟨y 0, y 1, y 2, by funext d; match d with | ⟨0, _⟩ => rfl | ⟨1, _⟩ => rfl | ⟨2, _⟩ => rfl⟩
  unfold setSlab nextState
  match a with
  | 0 => rfl
  | 1 => rfl
  | 2 => rfl
  | 3 => rfl

end Cert.Kernel4Ideal.Hgrn

end
-- ==== Proof.HgrnMath.lean ====
/-
  The arithmetic of the gated linear recurrence, away from any program: the gate's logarithm, and how the sum over the
  earlier positions splits into a state carried from chunk to chunk and the positions of a chunk.
-/
module

public import proofs.«01_k».proof.Proof.AttnMath

@[expose] public section

set_option maxRecDepth 16384

noncomputable section

open Idealize.ShloMosaic

namespace Cert.HgrnMath

open Cert.AttnMath

/-! ## The gate's logarithm -/

/-- The logarithm of the sigmoid, as the kernel computes it. -/
def lsE (z : EReal) : EReal := min z 0 - Ideal.log1p (Ideal.exp (0 - max z (-z)))

/-- The logarithm of a sum of two exponentials. -/
def laeE (a c : EReal) : EReal := max a c + Ideal.log1p (Ideal.exp (0 - max (a - c) (-(a - c))))

/-- The gate's logarithm from its lower bound and its score. -/
def logfE (lb z : EReal) : EReal := laeE (Ideal.log lb) (Ideal.log1p (0 - lb) + lsE z)

theorem log1p_zero : Ideal.log1p (0 : EReal) = 0 := by
  have h := log1p_exp_coe 0
  unfold Ideal.log1p
  rw [add_zero]
  show (if (1 : ℝ) ≤ 0 then (⊥ : EReal) else ((Real.log (1 : ℝ) : ℝ) : EReal)) = 0
  rw [if_neg (by norm_num), Real.log_one]; rfl

theorem exp_bot : Ideal.exp (⊥ : EReal) = 0 := rfl

/-- The two forms of the logarithm of the sigmoid agree. -/
theorem lsE_eq (z : EReal) : -spE (-z) = lsE z := by
  induction z using EReal.rec with
  | bot =>
    unfold spE lsE
    simp [exp_bot, log1p_zero]
  | top =>
    unfold spE lsE
    simp [exp_bot, log1p_zero]
  | coe r =>
    rw [← EReal.coe_neg, spE_coe, ← EReal.coe_neg]
    unfold lsE spR
    rw [← EReal.coe_neg, max_coe, ← EReal.coe_zero, ← EReal.coe_sub, log1p_exp_coe,
      ← (EReal.coe_strictMono.monotone.map_min (a := r) (b := 0)), ← EReal.coe_sub, EReal.coe_eq_coe_iff]
    have e : max r (-r) = |r| := rfl
    rw [e, abs_neg, zero_sub]
    rcases le_total 0 r with h | h
    · rw [min_eq_right h, max_eq_right (by linarith)]; ring
    · rw [min_eq_left h, max_eq_left (by linarith)]; ring

/-- The logarithm of the sigmoid is minus infinity or a real that is not positive. -/
theorem lsE_cases (z : EReal) : lsE z = ⊥ ∨ ∃ r : ℝ, r ≤ 0 ∧ lsE z = r := by
  induction z using EReal.rec with
  | bot => left; unfold lsE; simp [exp_bot, log1p_zero]
  | top => right; refine ⟨0, le_rfl, ?_⟩; unfold lsE; simp [exp_bot, log1p_zero]
  | coe r =>
    right
    rw [← lsE_eq, ← EReal.coe_neg, spE_coe, ← EReal.coe_neg]
    refine ⟨_, ?_, rfl⟩
    unfold spR
    have h1 : 0 ≤ max (-r) 0 := le_max_right _ _
    have h2 : 0 ≤ Real.log (1 + Real.exp (-|(-r)|)) := Real.log_nonneg (by have := Real.exp_pos (-|(-r)|); linarith)
    linarith

theorem log_coe (r : ℝ) (h : 0 < r) : Ideal.log (r : EReal) = ((Real.log r : ℝ) : EReal) := by
  show (if r ≤ 0 then (⊥ : EReal) else ((Real.log r : ℝ) : EReal)) = _
  rw [if_neg (by linarith)]

theorem log1p_neg_coe (r : ℝ) (h : r < 1) : Ideal.log1p (0 - (r : EReal)) = ((Real.log (1 - r) : ℝ) : EReal) := by
  unfold Ideal.log1p
  have e : (1 : EReal) + (0 - (r : EReal)) = ((1 - r : ℝ) : EReal) := by
    rw [← EReal.coe_zero, ← EReal.coe_one, ← EReal.coe_sub, ← EReal.coe_add]; congr 1; ring
  rw [e, log_coe _ (by linarith)]

/-- The logarithm of a sum of two exponentials, on reals. -/
theorem laeE_coe (a c : ℝ) : ∃ r : ℝ, laeE (a : EReal) (c : EReal) = r ∧ Real.exp r = Real.exp a + Real.exp c := by
  refine ⟨max a c + Real.log (1 + Real.exp (0 - max (a - c) (-(a - c)))), ?_, ?_⟩
  · unfold laeE
    rw [← EReal.coe_sub, ← EReal.coe_neg, max_coe, max_coe, ← EReal.coe_zero, ← EReal.coe_sub, log1p_exp_coe, ← EReal.coe_add]
  · rw [Real.exp_add, Real.exp_log (by have := Real.exp_pos (0 - max (a - c) (-(a - c))); linarith), mul_add, mul_one, ← Real.exp_add]
    rcases le_total a c with h | h
    · rw [max_eq_right h, max_eq_right (by linarith)]
      rw [show c + (0 - -(a - c)) = a by ring]; ring
    · rw [max_eq_left h, max_eq_left (by linarith)]
      rw [show a + (0 - (a - c)) = c by ring]

/-- The gate's logarithm is a real that is not positive, whatever the score. -/
theorem logfE_real (lb : ℝ) (h0 : 0 < lb) (h1 : lb < 1) (z : EReal) : ∃ r : ℝ, r ≤ 0 ∧ logfE (lb : EReal) z = r := by
  unfold logfE
  rw [log_coe _ h0, log1p_neg_coe _ h1]
  rcases lsE_cases z with h | ⟨r, hr, h⟩
  · rw [h]
    refine ⟨Real.log lb, Real.log_nonpos h0.le h1.le, ?_⟩
    unfold laeE
    simp [exp_bot, log1p_zero]
  · rw [h, ← EReal.coe_add]
    obtain ⟨x, hx, he⟩ := laeE_coe (Real.log lb) (Real.log (1 - lb) + r)
    refine ⟨x, ?_, hx⟩
    rw [Real.exp_log h0, Real.exp_add, Real.exp_log (by linarith)] at he
    have hr1 : Real.exp r ≤ 1 := Real.exp_le_one_iff.mpr hr
    have : Real.exp x ≤ 1 := by
      rw [he]
      have := mul_le_mul_of_nonneg_left hr1 (show 0 ≤ 1 - lb by linarith)
      linarith
    exact Real.exp_le_one_iff.mp this

/-! ## The recurrence as a sum over the earlier positions -/

section
variable (Q K L : ℕ → Fin 128 → ℝ) (V : ℕ → ℝ)

/-- The cumulated logarithms of the gates before position `t`. -/
def cum (t : ℕ) (k : Fin 128) : ℝ := ∑ s ∈ Finset.range t, L s k

/-- The weight of position `s` for position `t`. -/
def score (t s : ℕ) : ℝ := ∑ k, Q t k * Real.exp (cum L (t + 1) k - cum L (s + 1) k) * K s k

/-- The output at position `t`, in the column whose values are `V`. -/
def outR (t : ℕ) : ℝ := ∑ s ∈ Finset.range (t + 1), score Q K L t s * V s

/-- The state before position `p`, at coordinate `k`, in the same column. -/
def stR (p : ℕ) (k : Fin 128) : ℝ := ∑ s ∈ Finset.range p, V s * (K s k * Real.exp (cum L p k - cum L (s + 1) k))

/-- The cumulated logarithms inside the chunk that starts at `p`, row `i` included. -/
def inner (p i : ℕ) (k : Fin 128) : ℝ := ∑ s : Fin 128, (if s.val ≤ i then L (p + s.val) k else 0)

theorem inner_eq (p i : ℕ) (hi : i < 128) (k : Fin 128) : inner L p i k = cum L (p + i + 1) k - cum L p k := by
  unfold inner cum
  have h := sum_first (fun s => L s k) p 128 (i + 1) (by omega)
  simp only [Nat.lt_succ_iff] at h
  rw [h, Finset.sum_Ico_eq_sub _ (by omega)]
  rfl

/-- The state grows by one chunk. -/
theorem st_step (p : ℕ) (k : Fin 128) :
    stR K L V (p + 128) k = stR K L V p k * Real.exp (inner L p 127 k)
      + ∑ s : Fin 128, V (p + s.val) * (K (p + s.val) k * Real.exp (inner L p 127 k - inner L p s.val k)) := by
  have e : ∀ s : Fin 128, V (p + s.val) * (K (p + s.val) k * Real.exp (inner L p 127 k - inner L p s.val k))
      = V (p + s.val) * (K (p + s.val) k * Real.exp (cum L (p + 128) k - cum L (p + s.val + 1) k)) := fun s => by
    rw [inner_eq L p 127 (by omega), inner_eq L p s.val s.isLt]
    congr 3; ring
  rw [Finset.sum_congr rfl fun s _ => e s,
    sum_fin_Ico (fun s => V s * (K s k * Real.exp (cum L (p + 128) k - cum L (s + 1) k))) p 128]
  unfold stR
  rw [← Finset.sum_range_add_sum_Ico _ (show p ≤ p + 128 by omega), Finset.sum_mul]
  congr 1
  refine Finset.sum_congr rfl fun s _ => ?_
  rw [inner_eq L p 127 (by omega), mul_assoc, mul_assoc, ← Real.exp_add]
  congr 3
  show _ = cum L p k - cum L (s + 1) k + (cum L (p + 128) k - cum L p k)
  ring

/-- The weight of row `s` of a chunk for its row `i`. -/
def within (p i s : ℕ) : ℝ := ∑ k, Q (p + i) k * K (p + s) k * Real.exp (inner L p i k - inner L p s k)

/-- The output is what the state gives and what the chunk's rows give. -/
theorem out_chunk (p i : ℕ) (hi : i < 128) :
    outR Q K L V (p + i) = (∑ k, Q (p + i) k * Real.exp (inner L p i k) * stR K L V p k)
      + ∑ s : Fin 128, (if s.val ≤ i then within Q K L p i s.val else 0) * V (p + s.val) := by
  have e : ∀ s : Fin 128, (if s.val ≤ i then within Q K L p i s.val else 0) * V (p + s.val)
      = if s.val < i + 1 then score Q K L (p + i) (p + s.val) * V (p + s.val) else 0 := fun s => by
    by_cases h : s.val ≤ i
    · rw [if_pos h, if_pos (by omega)]
      congr 1
      unfold within score
      refine Finset.sum_congr rfl fun k _ => ?_
      rw [inner_eq L p i hi, inner_eq L p s.val s.isLt, mul_right_comm]
      congr 3; ring
    · rw [if_neg h, if_neg (by omega), zero_mul]
  rw [Finset.sum_congr rfl fun s _ => e s, sum_first (fun s => score Q K L (p + i) s * V s) p 128 (i + 1) (by omega)]
  unfold outR
  rw [← Finset.sum_range_add_sum_Ico _ (show p ≤ p + i + 1 by omega)]
  congr 1
  unfold score stR
  simp only [Finset.sum_mul, Finset.mul_sum]
  rw [Finset.sum_comm]
  refine Finset.sum_congr rfl fun k _ => Finset.sum_congr rfl fun s _ => ?_
  rw [inner_eq L p i hi, show cum L (p + i + 1) k - cum L (s + 1) k = (cum L (p + i + 1) k - cum L p k) + (cum L p k - cum L (s + 1) k) by ring,
    Real.exp_add]
  ring

/-- The cumulated logarithms fall when no logarithm is positive. -/
theorem cum_anti (hL : ∀ s k, L s k ≤ 0) (s t : ℕ) (h : s ≤ t) (k : Fin 128) : cum L t k ≤ cum L s k := by
  unfold cum
  rw [← Finset.sum_range_add_sum_Ico _ h]
  have : ∑ s ∈ Finset.Ico s t, L s k ≤ 0 := Finset.sum_nonpos fun s _ => hL s k
  linarith

end

end Cert.HgrnMath

end
-- ==== Proof.HgrnGoal.lean ====
/-
  The linear recurrence of the whole array at one place: the lower bounds, the gates' logarithms, the keys and queries as
  reals, the recurrence's output, its normalisation and gate.
-/
module

public import proofs.«01_k».proof.Proof.HgrnMath
public import proofs.«01_k».proof.Proof.TailMath
public import Idealize.ShloMosaic.Lib.Pointwise

@[expose] public section

set_option maxRecDepth 16384

noncomputable section

open Idealize.ShloMosaic Idealize.ShloMosaic.TcCoe Idealize.SL.Sem

namespace Cert.HgrnMath

open Cert.AttnMath

/-- The shapes of the arguments: batch × position × column, the two rows of lower-bound parameters, the norm's weights. -/
abbrev SA : Shape := ⟨3, ![8, 4096, 512]⟩
abbrev SG : Shape := ⟨2, ![2, 512]⟩
abbrev SW : Shape := ⟨2, ![1, 512]⟩

/-- The six arguments. -/
structure X where
  q : SA.Idx → EReal
  f : SA.Idx → EReal
  i : SA.Idx → EReal
  g : SA.Idx → EReal
  gam : SG.Idx → EReal
  w : SW.Idx → EReal

/-- Every query, every value and every lower-bound parameter is a real. -/
def Finite (x : X) : Prop := (∀ i, ∃ r : ℝ, x.q i = r) ∧ (∀ i, ∃ r : ℝ, x.i i = r) ∧ (∀ i, ∃ r : ℝ, x.gam i = r)

/-- The lower bound of one column's gates: the first weight of the softmax over the two rows. -/
def lbE (gam : SG.Idx → EReal) (c : Fin 512) : EReal :=
  Ideal.div (Ideal.exp (gam (ix2 0 c) - max (gam (ix2 0 c)) (gam (ix2 1 c))))
    (Ideal.exp (gam (ix2 0 c) - max (gam (ix2 0 c)) (gam (ix2 1 c))) + Ideal.exp (gam (ix2 1 c) - max (gam (ix2 0 c)) (gam (ix2 1 c))))

theorem ofBits_neg_inf : Ideal.ofBits .f32 0xFF800000#32 = ⊥ := by simp [Ideal.ofBits, Ideal.ieee]

/-- The maximum over the two rows. -/
theorem fold_two (g : Fin 2 → EReal) : Finset.fold max (Ideal.ofBits .f32 4286578688#32) g Finset.univ = max (g 0) (g 1) := by
  rw [show (Finset.univ : Finset (Fin 2)) = insert 0 {1} from rfl, Finset.fold_insert (by decide), Finset.fold_singleton, ofBits_neg_inf]
  simp

/-- Of finite parameters the lower bound is a real strictly between zero and one. -/
theorem lbE_real (gam : SG.Idx → EReal) (h : ∀ i, ∃ r : ℝ, gam i = r) (c : Fin 512) : ∃ r : ℝ, 0 < r ∧ r < 1 ∧ lbE gam c = r := by
  obtain ⟨a, ha⟩ := h (ix2 0 c)
  obtain ⟨b, hb⟩ := h (ix2 1 c)
  have pa := Real.exp_pos (a - max a b)
  have pb := Real.exp_pos (b - max a b)
  refine ⟨Real.exp (a - max a b) / (Real.exp (a - max a b) + Real.exp (b - max a b)), by positivity, ?_, ?_⟩
  · rw [div_lt_one (by positivity)]; linarith
  · unfold lbE
    rw [ha, hb, max_coe, ← EReal.coe_sub, ← EReal.coe_sub, exp_coe, exp_coe, ← EReal.coe_add]
    unfold Ideal.div
    rw [if_neg (by rw [← EReal.coe_zero, EReal.coe_eq_coe_iff]; positivity), ← EReal.coe_inv, ← EReal.coe_mul, div_eq_mul_inv]

/-- The sigmoid of a real is a real. -/
theorem logistic_real (r : ℝ) : ∃ s : ℝ, Ideal.logistic (r : EReal) = s := by
  refine ⟨1 / (1 + Real.exp (-r)), ?_⟩
  have p := Real.exp_pos (-r)
  unfold Ideal.logistic
  rw [← EReal.coe_neg, exp_coe, ← EReal.coe_one, ← EReal.coe_add]
  unfold Ideal.div
  rw [if_neg (by rw [← EReal.coe_zero, EReal.coe_eq_coe_iff]; positivity), ← EReal.coe_inv, ← EReal.coe_mul, div_eq_mul_inv]

/-- A position, and coordinate `k` of head `h` as a column. -/
abbrev pos (s : ℕ) : Fin 4096 := Fin.ofNat 4096 s
abbrev col (h : Fin 4) (k : Fin 128) : Fin 512 := ⟨128 * h.val + k.val, by omega⟩

/-- The head of a column. -/
abbrev hd (c : Fin 512) : Fin 4 := ⟨c.val / 128, by omega⟩

/-- The logarithm of the gate at a place, and the query there. -/
def logE (x : X) (b : Fin 8) (t : Fin 4096) (c : Fin 512) : EReal := logfE (lbE x.gam c) (x.f (ix3 b t c))
def qE (x : X) (b : Fin 8) (t : Fin 4096) (c : Fin 512) : EReal := x.q (ix3 b t c) * Ideal.logistic (x.q (ix3 b t c))

/-- The queries, gates' logarithms, keys and values as reals, by position. -/
def rQ (x : X) (b : Fin 8) (h : Fin 4) (s : ℕ) (k : Fin 128) : ℝ := (qE x b (pos s) (col h k)).toReal
def rL (x : X) (b : Fin 8) (h : Fin 4) (s : ℕ) (k : Fin 128) : ℝ := (logE x b (pos s) (col h k)).toReal
def rK (x : X) (b : Fin 8) (h : Fin 4) (s : ℕ) (k : Fin 128) : ℝ := 1 - Real.exp (rL x b h s k)
def rV (x : X) (b : Fin 8) (c : Fin 512) (s : ℕ) : ℝ := (x.i (ix3 b (pos s) c)).toReal

section
variable (x : X) (hf : Finite x)
include hf

theorem qE_eq (b : Fin 8) (h : Fin 4) (s : ℕ) (k : Fin 128) : qE x b (pos s) (col h k) = ((rQ x b h s k : ℝ) : EReal) := by
  unfold rQ qE
  obtain ⟨r, hr⟩ := hf.1 (ix3 b (pos s) (col h k))
  obtain ⟨l, hl⟩ := logistic_real r
  rw [hr, hl, ← EReal.coe_mul, EReal.toReal_coe]

theorem logE_real (b : Fin 8) (t : Fin 4096) (c : Fin 512) : ∃ r : ℝ, r ≤ 0 ∧ logE x b t c = r := by
  obtain ⟨l, h0, h1, hl⟩ := lbE_real x.gam hf.2.2 c
  unfold logE
  rw [hl]
  exact logfE_real l h0 h1 _

theorem logE_eq (b : Fin 8) (h : Fin 4) (s : ℕ) (k : Fin 128) : logE x b (pos s) (col h k) = ((rL x b h s k : ℝ) : EReal) := by
  unfold rL
  obtain ⟨r, h0, hr⟩ := logE_real x hf b (pos s) (col h k)
  rw [hr, EReal.toReal_coe]

theorem rL_nonpos (b : Fin 8) (h : Fin 4) (s : ℕ) (k : Fin 128) : rL x b h s k ≤ 0 := by
  unfold rL
  obtain ⟨r, h0, hr⟩ := logE_real x hf b (pos s) (col h k)
  rw [hr, EReal.toReal_coe]; exact h0

theorem i_eq (b : Fin 8) (c : Fin 512) (s : ℕ) : x.i (ix3 b (pos s) c) = ((rV x b c s : ℝ) : EReal) := by
  unfold rV
  obtain ⟨r, hr⟩ := hf.2.1 (ix3 b (pos s) c)
  rw [hr, EReal.toReal_coe]

end

/-- The recurrence's output at batch `b`, position `t`, column `c`. -/
def outAt (x : X) (b : Fin 8) (t : Fin 4096) (c : Fin 512) : EReal :=
  ((outR (rQ x b (hd c)) (rK x b (hd c)) (rL x b (hd c)) (rV x b c) t.val : ℝ) : EReal)

/-- The number of columns. -/
def n512 : EReal := Ideal.ofBits .f32 0x44000000#32

/-- The result at batch `b`, position `t`, column `c`. -/
def hgrnAt (x : X) (b : Fin 8) (t : Fin 4096) (c : Fin 512) : EReal :=
  Cert.TailMath.rms n512 (fun j => outAt x b t j) (fun j => x.w (ix2 0 j)) c * (x.g (ix3 b t c) * Ideal.logistic (x.g (ix3 b t c)))

/-- Matrix columns in sixteen groups of 128: only the chosen group's terms remain. -/
theorem sum_group (f : Fin 2048 → EReal) (m : ℕ) (hm : m < 16) :
    ∑ c : Fin 2048, f c * (if c.val / 128 = m then (1 : EReal) else 0) = ∑ k : Fin 128, f ⟨128 * m + k.val, by omega⟩ := by
  rw [← Equiv.sum_comp (finProdFinEquiv : Fin 16 × Fin 128 ≃ Fin (16 * 128)) (fun c : Fin 2048 => f c * (if c.val / 128 = m then (1 : EReal) else 0)),
    Fintype.sum_prod_type, Finset.sum_eq_single (⟨m, hm⟩ : Fin 16)]
  · refine Finset.sum_congr rfl fun k _ => ?_
    have e : (finProdFinEquiv ((⟨m, hm⟩ : Fin 16), k) : Fin (16 * 128)) = (⟨128 * m + k.val, by omega⟩ : Fin 2048) := by
      apply Fin.ext; show k.val + 128 * m = 128 * m + k.val; omega
    rw [e, if_pos (by show (128 * m + k.val) / 128 = m; omega), mul_one]
  · intro a _ ha
    refine Finset.sum_eq_zero fun k _ => ?_
    have e : (finProdFinEquiv (a, k) : Fin (16 * 128)).val = k.val + 128 * a.val := rfl
    rw [if_neg (fun h => ha (Fin.ext (by rw [e] at h; have : a.val = m := by omega
                                         exact this))), mul_zero]
  · intro h; exact absurd (Finset.mem_univ _) h

end Cert.HgrnMath

end
-- ==== Proof.HgrnPay.lean ====
/-
  The linear recurrence's vector expressions, read at an index: the gates' logarithms, their running sums, the state's
  part, the within-chunk scores in groups of sixteen rows, a head's output and its next state.
-/
module

public import proofs.«01_k».proof.Proof.HgrnHead
public import proofs.«01_k».proof.Proof.HgrnGoal
public import Idealize.ShloMosaic.Lib.WordCmp
public import Idealize.ShloMosaic.Lib.Pointwise

@[expose] public section

set_option maxRecDepth 16384

noncomputable section

open Idealize.ShloMosaic Idealize.ShloMosaic.TcCoe Idealize.SL.Sem

namespace Cert.Kernel4Ideal.Hgrn

open Cert.Kernel4Ideal Cert.Kernel4Ideal.Gen Cert.HgrnMath Cert.AttnMath
open Facts

theorem lb_at (g : Vec Ideal S2x512 .f32) (s : Fin 512) : k0_pay87 g (ix2 0 s) = lbE g s := by
  unfold k0_pay87 lbE
  pointwise
  simp only [fold_two, Fin.sum_univ_two, Fin.sum_univ_one]

theorem logf_at (lb : FVec Ideal S1x128 .f32) (z : Vec Ideal S1x128x128 .f32) (r s : Fin 128) :
    k0_pay125 lb z (ix2 r s) = logfE (lb (ix2 0 s)) (z (ix3 0 r s)) := by
  unfold k0_pay125
  pointwise
  rfl

theorem kk_at (lb : FVec Ideal S1x128 .f32) (z : Vec Ideal S1x128x128 .f32) (r s : Fin 128) :
    k0_pay126 lb z (ix2 r s) = 1 - Ideal.exp (logfE (lb (ix2 0 s)) (z (ix3 0 r s))) := by
  rw [← logf_at]
  unfold k0_pay126
  generalize k0_pay125 lb z = y
  pointwise

theorem q_at (x : Vec Ideal S1x128x128 .bf16) (r s : Fin 128) :
    (k0_pay124 x : FVec Ideal S128x128 .f32) (ix2 r s) = x (ix3 0 r s) * Ideal.logistic (x (ix3 0 r s)) := by
  unfold k0_pay124
  pointwise

theorem v_at (w : Vec Ideal S1x128x128 .bf16) (r s : Fin 128) : (k0_pay127 w : FVec Ideal S128x128 .bf16) (ix2 r s) = w (ix3 0 r s) := by
  unfold k0_pay127
  pointwise

theorem st_at (w : Vec Ideal S1x128x128 .f32) (r s : Fin 128) : (k0_pay130 w : FVec Ideal S128x128 .f32) (ix2 r s) = w (ix3 0 r s) := by
  unfold k0_pay130
  pointwise

theorem bsum_at (t : Vec Ideal S128x128 .bf16) (lb : FVec Ideal S1x128 .f32) (z : Vec Ideal S1x128x128 .f32) (r s : Fin 128) :
    k0_pay128 (k0_pay88 t) lb z (ix2 r s) = ∑ x : Fin 128, t (ix2 r x) * logfE (lb (ix2 0 s)) (z (ix3 0 x s))
      + ∑ x : Fin 128, t (ix2 r x) * (logfE (lb (ix2 0 s)) (z (ix3 0 x s)) - logfE (lb (ix2 0 s)) (z (ix3 0 x s))) := by
  simp only [← logf_at]
  unfold k0_pay128 k0_pay88
  generalize k0_pay125 lb z = y
  pointwise

theorem blast_at (t : FVec Ideal S128x128 .bf16) (lb : FVec Ideal S1x128 .f32) (z : Vec Ideal S1x128x128 .f32) (s : Fin 128) :
    k0_pay129 t lb z (ix2 0 s) = k0_pay128 t lb z (ix2 127 s) := by
  unfold k0_pay129
  generalize k0_pay128 t lb z = y
  pointwise
  try rfl

theorem qs_at (t : FVec Ideal S128x128 .bf16) (lb : FVec Ideal S1x128 .f32) (q : FVec Ideal S128x128 .f32) (z : Vec Ideal S1x128x128 .f32)
    (st : Vec Ideal S1x128x128 .f32) (r s : Fin 128) :
    k0_pay131 t lb q z st (ix2 r s) = ∑ k : Fin 128, q (ix2 r k) * Ideal.exp (k0_pay128 t lb z (ix2 r k)) * st (ix3 0 s k) := by
  simp only [← st_at]
  unfold k0_pay131
  generalize k0_pay128 t lb z = y
  generalize k0_pay130 st = u
  pointwise

theorem next_at (k b : FVec Ideal S128x128 .f32) (v : FVec Ideal S128x128 .bf16) (l : FVec Ideal S1x128 .f32) (st : FVec Ideal S128x128 .f32) (r s : Fin 128) :
    k0_pay132 k v b l st (ix3 0 r s) = st (ix2 r s) * Ideal.exp (l (ix2 0 s))
      + ∑ x : Fin 128, v (ix2 x r) * (k (ix2 x s) * Ideal.exp (l (ix2 0 s) - b (ix2 x s))) := by
  unfold k0_pay132
  pointwise

/-! ## The within-group products -/

theorem pay2_at (a q : Vec Ideal S16x128 .f32) (b k : Vec Ideal S1x128 .f32) (r : Fin 16) (s : Fin 128) :
    (k0_pay2 a q b k : FVec Ideal S16x128 .bf16) (ix2 r s) = q (ix2 r s) * k (ix2 0 s) * Ideal.exp (min (a (ix2 r s) - b (ix2 0 s)) 0) := by
  unfold k0_pay2
  pointwise
  try rfl

theorem prods_at (B Q K : Vec Ideal S128x128 .f32) (i : Fin 128) (c : Fin 2048) (s k : Fin 128) (hs : s.val = 16 * (i.val / 16) + c.val / 128)
    (hk : k.val = c.val % 128) :
    prods B Q K (ix2 i c) = Q (ix2 i k) * K (ix2 s k) * Ideal.exp (min (B (ix2 i k) - B (ix2 s k)) 0) := by
  unfold prods
  rw [pay2_at]
  unfold rows16 row1
  have e1 : (Fin.ofNat 128 (16 * (i.val / 16) + (Fin.ofNat 16 i.val).val)) = i := by
    apply Fin.ext; show (16 * (i.val / 16) + i.val % 16) % 128 = i.val; omega
  have e2 : (Fin.ofNat 128 c.val) = k := by apply Fin.ext; show c.val % 128 = k.val; omega
  have e3 : (Fin.ofNat 128 (16 * (i.val / 16) + c.val / 128)) = s := by
    apply Fin.ext; show (16 * (i.val / 16) + c.val / 128) % 128 = s.val; omega
  show Q (ix2 (Fin.ofNat 128 (16 * (i.val / 16) + (Fin.ofNat 16 i.val).val)) (Fin.ofNat 128 c.val))
      * K (ix2 (Fin.ofNat 128 (16 * (i.val / 16) + c.val / 128)) (Fin.ofNat 128 c.val))
      * Ideal.exp (min (B (ix2 (Fin.ofNat 128 (16 * (i.val / 16) + (Fin.ofNat 16 i.val).val)) (Fin.ofNat 128 c.val))
        - B (ix2 (Fin.ofNat 128 (16 * (i.val / 16) + c.val / 128)) (Fin.ofNat 128 c.val))) 0) = _
  rw [e1, e2, e3]

theorem same_at (x : Vec Ideal S128x128 .f32) : (k0_pay133 x : FVec Ideal S128x128 .f32) = x ∧ (k0_pay134 x : FVec Ideal S128x128 .f32) = x
    ∧ (k0_pay135 x : FVec Ideal S128x128 .f32) = x := by
  refine ⟨?_, ?_, ?_⟩ <;> funext i <;> rw [eq_ix2 i]
  · unfold k0_pay133; pointwise
  · unfold k0_pay134; pointwise
  · unfold k0_pay135; pointwise

theorem dmat_at (D : Vec Ideal S128x2048 .bf16) (E : Vec Ideal S2048x128 .bf16) (r s : Fin 128) :
    (k0_pay137 D E : FVec Ideal S128x128 .f32) (ix2 r s) = ∑ c : Fin 2048, D (ix2 r c) * E (ix2 c s) := by
  unfold k0_pay137
  pointwise

/-! ## The scores, sixteen rows at a time -/

/-- The columns kept in row `r` of the group that starts at row `n`. -/
theorem mask_at (n : ℕ) (hn : n < 128) (r : Fin 16) (s : Fin 128) :
    IntOp.andi (IntOp.cmpi .sge (BitVec.ofNat 32 s.val) (BitVec.ofNat 32 n)) (IntOp.cmpi .sle (BitVec.ofNat 32 s.val) (IntOp.addi (BitVec.ofNat 32 n) (BitVec.ofNat 32 r.val)))
      = if n ≤ s.val ∧ s.val ≤ n + r.val then 1#1 else 0#1 := by
  rw [WordCmp.addi_ofNat, WordCmp.cmpi_sge_ofNat (by have := s.isLt; omega) (by omega), WordCmp.cmpi_sle_ofNat (by have := s.isLt; omega) (by have := r.isLt; omega), WordCmp.andi_ofBool]
  by_cases h1 : n ≤ s.val <;> by_cases h2 : s.val ≤ n + r.val <;> simp [h1, h2]

theorem select_mask (P : Prop) [Decidable P] (a b : EReal) : Scalar.select (if P then 1#1 else 0#1) a b = if P then a else b := by
  by_cases h : P
  · rw [if_pos h, if_pos h]; rfl
  · rw [if_neg h, if_neg h]; rfl

/-- Group 6's and group 7's scores. -/
def grow6 (q k b d : FVec Ideal S128x128 .f32) : FVec Ideal S16x128 .f32 :=
  have v547 : FVec Ideal S1x128 .f32 := extractStridedSlice S1x128 ![95, 0] b slices_S128x128_o95_0_S1x128
  have v548 : FVec Ideal S16x128 .f32 := extractStridedSlice S16x128 ![96, 0] q slices_S128x128_o96_0_S16x128
  have v549 : FVec Ideal S16x128 .f32 := extractStridedSlice S16x128 ![96, 0] b slices_S128x128_o96_0_S16x128
  have v550 : FVec Ideal S16x128 .f32 := broadcastTo S16x128 v547 broadcasts_S1x128_S16x128
  have v551 : FVec Ideal S16x128 .f32 := subf v549 v550
  have v552 : FVec Ideal S16x128 .f32 := exp v551
  have v553 : FVec Ideal S16x128 .f32 := mulf v548 v552
  have v554 : FVec Ideal S16x128 .bf16 := truncf .bf16 v553 bitsLt_bf16_f32
  have v555 : FVec Ideal S96x128 .f32 := extractStridedSlice S96x128 ![0, 0] k slices_S128x128_o0_0_S96x128
  have v556 : FVec Ideal S96x128 .f32 := extractStridedSlice S96x128 ![0, 0] b slices_S128x128_o0_0_S96x128
  have v557 : FVec Ideal S96x128 .f32 := broadcastTo S96x128 v547 broadcasts_S1x128_S96x128
  have v558 : FVec Ideal S96x128 .f32 := subf v557 v556
  have v559 : FVec Ideal S96x128 .f32 := exp v558
  have v560 : FVec Ideal S96x128 .f32 := mulf v555 v559
  have v561 : FVec Ideal S96x128 .bf16 := truncf .bf16 v560 bitsLt_bf16_f32
  have cst_145 : Ideal .bf16 := Scalar.ofBits .bf16 0x0000#16
  have v562 : FVec Ideal S32x128 .bf16 := broadcast S32x128 cst_145
  have v563 : FVec Ideal S128x128 .bf16 := concatenate S128x128 0 [⟨S96x128, v561⟩, ⟨S32x128, v562⟩] concatenates_S96x128_S32x128_S128x128_d0
  have cst_146 : FVec Ideal S16x128 .f32 := constant S16x128 .f32 0x00000000#32
  have v564 : FVec Ideal S16x128 .f32 := matmul dot_S16x128_S128x128_S16x128_1_1_0_0_n_n none v554 v563 cst_146
  have v565 : FVec Ideal S16x128 .f32 := addf (k0_pay155 lanes rows d) v564
  v565

def grow7 (q k b d : FVec Ideal S128x128 .f32) : FVec Ideal S16x128 .f32 :=
  have v566 : IVec S16x128 32 := broadcast S16x128 112#32
  have v567 : IVec S16x128 1 := cmpi .sge lanes v566
  have v568 : IVec S16x128 32 := broadcast S16x128 112#32
  have v569 : IVec S16x128 32 := addi v568 rows
  have v570 : IVec S16x128 1 := cmpi .sle lanes v569
  have v571 : IVec S16x128 1 := andi v567 v570
  have v572 : FVec Ideal S16x128 .f32 := extractStridedSlice S16x128 ![112, 0] d slices_S128x128_o112_0_S16x128
  have cst_149 : Ideal .f32 := Scalar.ofBits .f32 0x00000000#32
  have v573 : FVec Ideal S16x128 .f32 := broadcast S16x128 cst_149
  have v574 : FVec Ideal S16x128 .f32 := select v571 v572 v573
  have v575 : FVec Ideal S1x128 .f32 := extractStridedSlice S1x128 ![111, 0] b slices_S128x128_o111_0_S1x128
  have v576 : FVec Ideal S16x128 .f32 := extractStridedSlice S16x128 ![112, 0] q slices_S128x128_o112_0_S16x128
  have v577 : FVec Ideal S16x128 .f32 := extractStridedSlice S16x128 ![112, 0] b slices_S128x128_o112_0_S16x128
  have v578 : FVec Ideal S16x128 .f32 := broadcastTo S16x128 v575 broadcasts_S1x128_S16x128
  have v579 : FVec Ideal S16x128 .f32 := subf v577 v578
  have v580 : FVec Ideal S16x128 .f32 := exp v579
  have v581 : FVec Ideal S16x128 .f32 := mulf v576 v580
  have v582 : FVec Ideal S16x128 .bf16 := truncf .bf16 v581 bitsLt_bf16_f32
  have v583 : FVec Ideal S112x128 .f32 := extractStridedSlice S112x128 ![0, 0] k slices_S128x128_o0_0_S112x128
  have v584 : FVec Ideal S112x128 .f32 := extractStridedSlice S112x128 ![0, 0] b slices_S128x128_o0_0_S112x128
  have v585 : FVec Ideal S112x128 .f32 := broadcastTo S112x128 v575 broadcasts_S1x128_S112x128
  have v586 : FVec Ideal S112x128 .f32 := subf v585 v584
  have v587 : FVec Ideal S112x128 .f32 := exp v586
  have v588 : FVec Ideal S112x128 .f32 := mulf v583 v587
  have v589 : FVec Ideal S112x128 .bf16 := truncf .bf16 v588 bitsLt_bf16_f32
  have cst_150 : Ideal .bf16 := Scalar.ofBits .bf16 0x0000#16
  have v590 : FVec Ideal S16x128 .bf16 := broadcast S16x128 cst_150
  have v591 : FVec Ideal S128x128 .bf16 := concatenate S128x128 0 [⟨S112x128, v589⟩, ⟨S16x128, v590⟩] concatenates_S112x128_S16x128_S128x128_d0
  have cst_151 : FVec Ideal S16x128 .f32 := constant S16x128 .f32 0x00000000#32
  have v592 : FVec Ideal S16x128 .f32 := matmul dot_S16x128_S128x128_S16x128_1_1_0_0_n_n none v582 v591 cst_151
  have v593 : FVec Ideal S16x128 .f32 := addf v574 v592
  v593

/-- The scores of one group of sixteen rows. -/
def grow (q k b d : FVec Ideal S128x128 .f32) : Fin 8 → FVec Ideal S16x128 .f32
  | 0 => k0_pay140 (k0_pay138 lanes rows) (extractStridedSlice S16x128 ![0, 0] d slices_S128x128_o0_0_S16x128)
  | 1 => k0_pay141 lanes rows q k b d
  | 2 => k0_pay147 (k0_pay142 lanes rows d) (k0_pay144 q b) (k0_pay145 k) (k0_pay146 b)
  | 3 => k0_pay148 lanes rows q k b d
  | 4 => k0_pay153 k b (k0_pay149 lanes rows d) (k0_pay150 b) (k0_pay151 q) (k0_pay152 b)
  | 5 => k0_pay154 lanes rows q k b d
  | 6 => grow6 q k b d
  | 7 => grow7 q k b d

/-- The eight groups stacked. -/
def stack (g : Fin 8 → FVec Ideal S16x128 .f32) : FVec Ideal S128x128 .f32 :=
  concatenate S128x128 0 [⟨S16x128, g 0⟩, ⟨S16x128, g 1⟩, ⟨S16x128, g 2⟩, ⟨S16x128, g 3⟩, ⟨S16x128, g 4⟩, ⟨S16x128, g 5⟩, ⟨S16x128, g 6⟩, ⟨S16x128, g 7⟩] concatenates_S16x128_S16x128_S16x128_S16x128_S16x128_S16x128_S16x128_S16x128_S128x128_d0

/-- A head's output from the stacked scores. -/
def apply (v : FVec Ideal S128x128 .bf16) (qs u : FVec Ideal S128x128 .f32) : FVec Ideal S128x128 .f32 :=
  shapeCast S128x128 (addf qs (matmul dot_S128x128_S128x128_S128x128_1_0_0_1_n_n none (truncf .bf16 u bitsLt_bf16_f32) v (constant S128x128 .f32 0x00000000#32))) shapeCasts_S128x128_S128x128

theorem mix_eq (q k b : FVec Ideal S128x128 .f32) (v : FVec Ideal S128x128 .bf16) (qs : FVec Ideal S128x128 .f32) (D : Vec Ideal S128x2048 .bf16) (E : Vec Ideal S2048x128 .bf16) :
    mix q k b v qs D E = apply v qs (stack (grow q k b (k0_pay137 D E))) := rfl

theorem apply_at (v : FVec Ideal S128x128 .bf16) (qs u : FVec Ideal S128x128 .f32) (r s : Fin 128) :
    apply v qs u (ix2 r s) = qs (ix2 r s) + ∑ x : Fin 128, u (ix2 r x) * v (ix2 x s) := by
  unfold apply
  pointwise

theorem stack_0 (g : Fin 8 → FVec Ideal S16x128 .f32) (r : Fin 16) (s : Fin 128) :
    stack g (ix2 ⟨0 + r.val, by omega⟩ s) = g 0 (ix2 r s) := by
  have := r.isLt
  unfold stack
  pointwise

theorem stack_1 (g : Fin 8 → FVec Ideal S16x128 .f32) (r : Fin 16) (s : Fin 128) :
    stack g (ix2 ⟨16 + r.val, by omega⟩ s) = g 1 (ix2 r s) := by
  have := r.isLt
  unfold stack
  pointwise

theorem stack_2 (g : Fin 8 → FVec Ideal S16x128 .f32) (r : Fin 16) (s : Fin 128) :
    stack g (ix2 ⟨32 + r.val, by omega⟩ s) = g 2 (ix2 r s) := by
  have := r.isLt
  unfold stack
  pointwise
  rw [dif_neg (by omega), dif_neg (by omega), dif_pos (by omega)]
  refine congrArg (g 2) ?_
  refine congrArg (fun a => ix2 a s) (Fin.ext ?_)
  show 32 + r.val - 16 - 16 = r.val
  omega

theorem stack_3 (g : Fin 8 → FVec Ideal S16x128 .f32) (r : Fin 16) (s : Fin 128) :
    stack g (ix2 ⟨48 + r.val, by omega⟩ s) = g 3 (ix2 r s) := by
  have := r.isLt
  unfold stack
  pointwise
  rw [dif_neg (by omega), dif_neg (by omega), dif_neg (by omega), dif_pos (by omega)]
  refine congrArg (g 3) ?_
  refine congrArg (fun a => ix2 a s) (Fin.ext ?_)
  show 48 + r.val - 16 - 16 - 16 = r.val
  omega

theorem stack_4 (g : Fin 8 → FVec Ideal S16x128 .f32) (r : Fin 16) (s : Fin 128) :
    stack g (ix2 ⟨64 + r.val, by omega⟩ s) = g 4 (ix2 r s) := by
  have := r.isLt
  unfold stack
  pointwise
  rw [dif_neg (by omega), dif_neg (by omega), dif_neg (by omega), dif_neg (by omega), dif_pos (by omega)]
  refine congrArg (g 4) ?_
  refine congrArg (fun a => ix2 a s) (Fin.ext ?_)
  show 64 + r.val - 16 - 16 - 16 - 16 = r.val
  omega

theorem stack_5 (g : Fin 8 → FVec Ideal S16x128 .f32) (r : Fin 16) (s : Fin 128) :
    stack g (ix2 ⟨80 + r.val, by omega⟩ s) = g 5 (ix2 r s) := by
  have := r.isLt
  unfold stack
  pointwise
  rw [dif_neg (by omega), dif_neg (by omega), dif_neg (by omega), dif_neg (by omega), dif_neg (by omega), dif_pos (by omega)]
  refine congrArg (g 5) ?_
  refine congrArg (fun a => ix2 a s) (Fin.ext ?_)
  show 80 + r.val - 16 - 16 - 16 - 16 - 16 = r.val
  omega

theorem stack_6 (g : Fin 8 → FVec Ideal S16x128 .f32) (r : Fin 16) (s : Fin 128) :
    stack g (ix2 ⟨96 + r.val, by omega⟩ s) = g 6 (ix2 r s) := by
  have := r.isLt
  unfold stack
  pointwise
  rw [dif_neg (by omega), dif_neg (by omega), dif_neg (by omega), dif_neg (by omega), dif_neg (by omega), dif_neg (by omega), dif_pos (by omega)]
  refine congrArg (g 6) ?_
  refine congrArg (fun a => ix2 a s) (Fin.ext ?_)
  show 96 + r.val - 16 - 16 - 16 - 16 - 16 - 16 = r.val
  omega

theorem stack_7 (g : Fin 8 → FVec Ideal S16x128 .f32) (r : Fin 16) (s : Fin 128) :
    stack g (ix2 ⟨112 + r.val, by omega⟩ s) = g 7 (ix2 r s) := by
  have := r.isLt
  unfold stack
  pointwise
  rw [dif_neg (by omega), dif_neg (by omega), dif_neg (by omega), dif_neg (by omega), dif_neg (by omega), dif_neg (by omega), dif_neg (by omega)]
  refine congrArg (g 7) ?_
  refine congrArg (fun a => ix2 a s) (Fin.ext ?_)
  show 112 + r.val - 16 - 16 - 16 - 16 - 16 - 16 - 16 = r.val
  omega

/-- Row `r`, column `s` of the first group's scores. -/
theorem grow_0 (q k b d : FVec Ideal S128x128 .f32) (r : Fin 16) (s : Fin 128) :
    grow q k b d 0 (ix2 r s) = if 0 ≤ s.val ∧ s.val ≤ 0 + r.val then d (ix2 ⟨0 + r.val, by omega⟩ s) else 0 := by
  unfold grow k0_pay140 k0_pay138 lanes rows
  pointwise
  rw [mask_at 0 (by omega), select_mask]
  simp only [Nat.zero_le, true_and, Nat.zero_add]

/-- Row `r`, column `s` of group 1's scores: the within-group products where they count, the earlier rows through the
    running sums at row 15. -/
theorem grow_1 (q k b d : FVec Ideal S128x128 .f32) (r : Fin 16) (s : Fin 128) :
    grow q k b d 1 (ix2 r s) = (if 16 ≤ s.val ∧ s.val ≤ 16 + r.val then d (ix2 ⟨16 + r.val, by omega⟩ s) else 0)
      + ∑ x : Fin 128, q (ix2 ⟨16 + r.val, by omega⟩ x) * Ideal.exp (b (ix2 ⟨16 + r.val, by omega⟩ x) - b (ix2 15 x))
        * (if h : s.val < 16 then k (ix2 s x) * Ideal.exp (b (ix2 15 x) - b (ix2 s x)) else 0) := by
  unfold grow k0_pay141 lanes rows
  pointwise
  rw [mask_at 16 (by omega), select_mask]
  try rfl

/-- Row `r`, column `s` of group 2's scores: the within-group products where they count, the earlier rows through the
    running sums at row 31. -/
theorem grow_2 (q k b d : FVec Ideal S128x128 .f32) (r : Fin 16) (s : Fin 128) :
    grow q k b d 2 (ix2 r s) = (if 32 ≤ s.val ∧ s.val ≤ 32 + r.val then d (ix2 ⟨32 + r.val, by omega⟩ s) else 0)
      + ∑ x : Fin 128, q (ix2 ⟨32 + r.val, by omega⟩ x) * Ideal.exp (b (ix2 ⟨32 + r.val, by omega⟩ x) - b (ix2 31 x))
        * (if h : s.val < 32 then k (ix2 s x) * Ideal.exp (b (ix2 31 x) - b (ix2 s x)) else 0) := by
  unfold grow k0_pay147 k0_pay142 k0_pay144 k0_pay145 k0_pay146 k0_pay143 lanes rows
  pointwise
  rw [mask_at 32 (by omega), select_mask]
  try rfl

/-- Row `r`, column `s` of group 3's scores: the within-group products where they count, the earlier rows through the
    running sums at row 47. -/
theorem grow_3 (q k b d : FVec Ideal S128x128 .f32) (r : Fin 16) (s : Fin 128) :
    grow q k b d 3 (ix2 r s) = (if 48 ≤ s.val ∧ s.val ≤ 48 + r.val then d (ix2 ⟨48 + r.val, by omega⟩ s) else 0)
      + ∑ x : Fin 128, q (ix2 ⟨48 + r.val, by omega⟩ x) * Ideal.exp (b (ix2 ⟨48 + r.val, by omega⟩ x) - b (ix2 47 x))
        * (if h : s.val < 48 then k (ix2 s x) * Ideal.exp (b (ix2 47 x) - b (ix2 s x)) else 0) := by
  unfold grow k0_pay148 lanes rows
  pointwise
  rw [mask_at 48 (by omega), select_mask]
  try rfl

/-- Row `r`, column `s` of group 4's scores: the within-group products where they count, the earlier rows through the
    running sums at row 63. -/
theorem grow_4 (q k b d : FVec Ideal S128x128 .f32) (r : Fin 16) (s : Fin 128) :
    grow q k b d 4 (ix2 r s) = (if 64 ≤ s.val ∧ s.val ≤ 64 + r.val then d (ix2 ⟨64 + r.val, by omega⟩ s) else 0)
      + ∑ x : Fin 128, q (ix2 ⟨64 + r.val, by omega⟩ x) * Ideal.exp (b (ix2 ⟨64 + r.val, by omega⟩ x) - b (ix2 63 x))
        * (if h : s.val < 64 then k (ix2 s x) * Ideal.exp (b (ix2 63 x) - b (ix2 s x)) else 0) := by
  unfold grow k0_pay153 k0_pay149 k0_pay150 k0_pay151 k0_pay152 k0_pay150 lanes rows
  pointwise
  rw [mask_at 64 (by omega), select_mask]
  try rfl

/-- Row `r`, column `s` of group 5's scores: the within-group products where they count, the earlier rows through the
    running sums at row 79. -/
theorem grow_5 (q k b d : FVec Ideal S128x128 .f32) (r : Fin 16) (s : Fin 128) :
    grow q k b d 5 (ix2 r s) = (if 80 ≤ s.val ∧ s.val ≤ 80 + r.val then d (ix2 ⟨80 + r.val, by omega⟩ s) else 0)
      + ∑ x : Fin 128, q (ix2 ⟨80 + r.val, by omega⟩ x) * Ideal.exp (b (ix2 ⟨80 + r.val, by omega⟩ x) - b (ix2 79 x))
        * (if h : s.val < 80 then k (ix2 s x) * Ideal.exp (b (ix2 79 x) - b (ix2 s x)) else 0) := by
  unfold grow k0_pay154 lanes rows
  pointwise
  rw [mask_at 80 (by omega), select_mask]
  try rfl

/-- Row `r`, column `s` of group 6's scores: the within-group products where they count, the earlier rows through the
    running sums at row 95. -/
theorem grow_6 (q k b d : FVec Ideal S128x128 .f32) (r : Fin 16) (s : Fin 128) :
    grow q k b d 6 (ix2 r s) = (if 96 ≤ s.val ∧ s.val ≤ 96 + r.val then d (ix2 ⟨96 + r.val, by omega⟩ s) else 0)
      + ∑ x : Fin 128, q (ix2 ⟨96 + r.val, by omega⟩ x) * Ideal.exp (b (ix2 ⟨96 + r.val, by omega⟩ x) - b (ix2 95 x))
        * (if h : s.val < 96 then k (ix2 s x) * Ideal.exp (b (ix2 95 x) - b (ix2 s x)) else 0) := by
  unfold grow grow6 k0_pay155 lanes rows
  pointwise
  rw [mask_at 96 (by omega), select_mask]
  try rfl

/-- Row `r`, column `s` of group 7's scores: the within-group products where they count, the earlier rows through the
    running sums at row 111. -/
theorem grow_7 (q k b d : FVec Ideal S128x128 .f32) (r : Fin 16) (s : Fin 128) :
    grow q k b d 7 (ix2 r s) = (if 112 ≤ s.val ∧ s.val ≤ 112 + r.val then d (ix2 ⟨112 + r.val, by omega⟩ s) else 0)
      + ∑ x : Fin 128, q (ix2 ⟨112 + r.val, by omega⟩ x) * Ideal.exp (b (ix2 ⟨112 + r.val, by omega⟩ x) - b (ix2 111 x))
        * (if h : s.val < 112 then k (ix2 s x) * Ideal.exp (b (ix2 111 x) - b (ix2 s x)) else 0) := by
  unfold grow grow7 lanes rows
  pointwise
  rw [mask_at 112 (by omega), select_mask]
  try rfl

/-! ## With real entries -/

section
variable (Q K L : ℕ → Fin 128 → ℝ) (p : ℕ) (q k b d : FVec Ideal S128x128 .f32)
  (hL : ∀ s k, L s k ≤ 0)
  (hq : ∀ i x : Fin 128, q (ix2 i x) = ((Q (p + i.val) x : ℝ) : EReal))
  (hk : ∀ i x : Fin 128, k (ix2 i x) = ((K (p + i.val) x : ℝ) : EReal))
  (hb : ∀ i x : Fin 128, b (ix2 i x) = ((inner L p i.val x : ℝ) : EReal))
  (hd : ∀ i s t : Fin 128, t.val = 16 * (i.val / 16) + s.val % 16 →
    d (ix2 i s) = ∑ x : Fin 128, q (ix2 i x) * k (ix2 t x) * Ideal.exp (min (b (ix2 i x) - b (ix2 t x)) 0))
include hL hq hk hb hd

/-- Within a group, where the column is not after the row. -/
theorem diag_real (i s : Fin 128) (h : s.val ≤ i.val) (hg : s.val / 16 = i.val / 16) : d (ix2 i s) = ((within Q K L p i.val s.val : ℝ) : EReal) := by
  rw [hd i s s (by omega)]
  unfold within
  rw [coe_sum]
  refine Finset.sum_congr rfl fun x _ => ?_
  have e : min (((inner L p i.val x : ℝ) : EReal) - ((inner L p s.val x : ℝ) : EReal)) 0 = ((inner L p i.val x - inner L p s.val x : ℝ) : EReal) := by
    rw [← EReal.coe_sub]
    apply min_eq_left
    rw [← EReal.coe_zero, EReal.coe_le_coe_iff, inner_eq L p i.val i.isLt, inner_eq L p s.val s.isLt]
    have := cum_anti L hL (p + s.val + 1) (p + i.val + 1) (by omega) x
    linarith
  rw [hq, hk, hb, hb, e, exp_coe, ← EReal.coe_mul, ← EReal.coe_mul]

/-- Before a group, through the running sums at any row `m`. -/
theorem off_real (i s m : Fin 128) :
    ∑ x : Fin 128, q (ix2 i x) * Ideal.exp (b (ix2 i x) - b (ix2 m x)) * (k (ix2 s x) * Ideal.exp (b (ix2 m x) - b (ix2 s x)))
      = ((within Q K L p i.val s.val : ℝ) : EReal) := by
  unfold within
  rw [coe_sum]
  refine Finset.sum_congr rfl fun x _ => ?_
  rw [hq, hk, hb, hb, hb, ← EReal.coe_sub, ← EReal.coe_sub, exp_coe, exp_coe, ← EReal.coe_mul, ← EReal.coe_mul, ← EReal.coe_mul]
  congr 1
  rw [show inner L p i.val x - inner L p s.val x = (inner L p i.val x - inner L p m.val x) + (inner L p m.val x - inner L p s.val x) by ring, Real.exp_add]
  ring

/-- A group's score. -/
theorem row_real (n : ℕ) (hn : n % 16 = 0) (hn' : n < 128) (r : Fin 16) (s m : Fin 128) (i : Fin 128) (hi : i.val = n + r.val) :
    (if n ≤ s.val ∧ s.val ≤ n + r.val then d (ix2 i s) else 0)
      + ∑ x : Fin 128, q (ix2 i x) * Ideal.exp (b (ix2 i x) - b (ix2 m x)) * (if h : s.val < n then k (ix2 s x) * Ideal.exp (b (ix2 m x) - b (ix2 s x)) else 0)
      = (((if s.val ≤ i.val then within Q K L p i.val s.val else 0) : ℝ) : EReal) := by
  have := r.isLt
  by_cases h : s.val < n
  · rw [if_neg (by omega), if_pos (by omega), zero_add]
    simp only [dif_pos h]
    exact off_real Q K L p q k b d hL hq hk hb hd i s m
  · simp only [dif_neg h, mul_zero, Finset.sum_const_zero, add_zero]
    by_cases h' : s.val ≤ i.val
    · rw [if_pos (by omega), if_pos h']
      exact diag_real Q K L p q k b d hL hq hk hb hd i s h' (by omega)
    · rw [if_neg (by omega), if_neg h']; rfl

/-- The stacked scores. -/
theorem stack_real (i s : Fin 128) :
    stack (grow q k b d) (ix2 i s) = (((if s.val ≤ i.val then within Q K L p i.val s.val else 0) : ℝ) : EReal) := by
  have hi := i.isLt
  by_cases h0 : i.val < 16
  · obtain ⟨r, hr⟩ : ∃ r : Fin 16, i.val = 0 + r.val := ⟨⟨i.val - 0, by omega⟩, by show i.val = 0 + (i.val - 0); omega⟩
    have e : i = ⟨0 + r.val, by omega⟩ := Fin.ext hr
    rw [e, stack_0, grow_0]
    by_cases h' : s.val ≤ 0 + r.val
    · rw [if_pos ⟨Nat.zero_le _, h'⟩, if_pos h']
      exact diag_real Q K L p q k b d hL hq hk hb hd _ s h' (by show s.val / 16 = (0 + r.val) / 16; omega)
    · rw [if_neg (fun h => h' h.2), if_neg h']; rfl
  by_cases h1 : i.val < 32
  · obtain ⟨r, hr⟩ : ∃ r : Fin 16, i.val = 16 + r.val := ⟨⟨i.val - 16, by omega⟩, by show i.val = 16 + (i.val - 16); omega⟩
    have e : i = ⟨16 + r.val, by omega⟩ := Fin.ext hr
    rw [e, stack_1, grow_1]
    exact row_real Q K L p q k b d hL hq hk hb hd 16 rfl (by omega) r s 15 _ rfl
  by_cases h2 : i.val < 48
  · obtain ⟨r, hr⟩ : ∃ r : Fin 16, i.val = 32 + r.val := ⟨⟨i.val - 32, by omega⟩, by show i.val = 32 + (i.val - 32); omega⟩
    have e : i = ⟨32 + r.val, by omega⟩ := Fin.ext hr
    rw [e, stack_2, grow_2]
    exact row_real Q K L p q k b d hL hq hk hb hd 32 rfl (by omega) r s 31 _ rfl
  by_cases h3 : i.val < 64
  · obtain ⟨r, hr⟩ : ∃ r : Fin 16, i.val = 48 + r.val := ⟨⟨i.val - 48, by omega⟩, by show i.val = 48 + (i.val - 48); omega⟩
    have e : i = ⟨48 + r.val, by omega⟩ := Fin.ext hr
    rw [e, stack_3, grow_3]
    exact row_real Q K L p q k b d hL hq hk hb hd 48 rfl (by omega) r s 47 _ rfl
  by_cases h4 : i.val < 80
  · obtain ⟨r, hr⟩ : ∃ r : Fin 16, i.val = 64 + r.val := ⟨⟨i.val - 64, by omega⟩, by show i.val = 64 + (i.val - 64); omega⟩
    have e : i = ⟨64 + r.val, by omega⟩ := Fin.ext hr
    rw [e, stack_4, grow_4]
    exact row_real Q K L p q k b d hL hq hk hb hd 64 rfl (by omega) r s 63 _ rfl
  by_cases h5 : i.val < 96
  · obtain ⟨r, hr⟩ : ∃ r : Fin 16, i.val = 80 + r.val := ⟨⟨i.val - 80, by omega⟩, by show i.val = 80 + (i.val - 80); omega⟩
    have e : i = ⟨80 + r.val, by omega⟩ := Fin.ext hr
    rw [e, stack_5, grow_5]
    exact row_real Q K L p q k b d hL hq hk hb hd 80 rfl (by omega) r s 79 _ rfl
  by_cases h6 : i.val < 112
  · obtain ⟨r, hr⟩ : ∃ r : Fin 16, i.val = 96 + r.val := ⟨⟨i.val - 96, by omega⟩, by show i.val = 96 + (i.val - 96); omega⟩
    have e : i = ⟨96 + r.val, by omega⟩ := Fin.ext hr
    rw [e, stack_6, grow_6]
    exact row_real Q K L p q k b d hL hq hk hb hd 96 rfl (by omega) r s 95 _ rfl
  · obtain ⟨r, hr⟩ : ∃ r : Fin 16, i.val = 112 + r.val := ⟨⟨i.val - 112, by omega⟩, by show i.val = 112 + (i.val - 112); omega⟩
    have e : i = ⟨112 + r.val, by omega⟩ := Fin.ext hr
    rw [e, stack_7, grow_7]
    exact row_real Q K L p q k b d hL hq hk hb hd 112 rfl (by omega) r s 111 _ rfl

end

/-! ## A head -/

section
variable (t : Vec Ideal S128x128 .bf16) (E : Vec Ideal S2048x128 .bf16) (lb : FVec Ideal S1x128 .f32) (x : Vec Ideal S1x128x128 .bf16) (z : Vec Ideal S1x128x128 .f32)
  (w : Vec Ideal S1x128x128 .bf16) (st : Vec Ideal S1x128x128 .f32) (Q L : ℕ → Fin 128 → ℝ) (V : Fin 128 → ℕ → ℝ) (p : ℕ)
  (hL : ∀ s k, L s k ≤ 0)
  (ht : ∀ r s : Fin 128, t (ix2 r s) = if s.val ≤ r.val then 1 else 0)
  (hE : ∀ (c : Fin 2048) (s : Fin 128), E (ix2 c s) = if c.val / 128 = s.val % 16 then 1 else 0)
  (hx : ∀ i k : Fin 128, x (ix3 0 i k) * Ideal.logistic (x (ix3 0 i k)) = ((Q (p + i.val) k : ℝ) : EReal))
  (hz : ∀ i k : Fin 128, logfE (lb (ix2 0 k)) (z (ix3 0 i k)) = ((L (p + i.val) k : ℝ) : EReal))
  (hw : ∀ i j : Fin 128, w (ix3 0 i j) = ((V j (p + i.val) : ℝ) : EReal))
  (hst : ∀ j k : Fin 128, st (ix3 0 j k) = ((stR (fun s k => 1 - Real.exp (L s k)) L (V j) p k : ℝ) : EReal))
include hL ht hE hx hz hw hst

theorem b_real (i k : Fin 128) : k0_pay128 (k0_pay88 t) lb z (ix2 i k) = ((inner L p i.val k : ℝ) : EReal) := by
  rw [bsum_at]
  simp only [hz, ht, ← EReal.coe_sub, sub_self, EReal.coe_zero, mul_zero, Finset.sum_const_zero, add_zero]
  unfold HgrnMath.inner
  rw [coe_sum]
  refine Finset.sum_congr rfl fun s _ => ?_
  by_cases h : s.val ≤ i.val
  · rw [if_pos h, if_pos h, one_mul]
  · rw [if_neg h, if_neg h, zero_mul]; rfl

theorem k_real (i k : Fin 128) : k0_pay126 lb z (ix2 i k) = ((1 - Real.exp (L (p + i.val) k) : ℝ) : EReal) := by
  rw [kk_at, hz, exp_coe, EReal.coe_sub, EReal.coe_one]

/-- A head's output at row `i`, column `j`. -/
theorem headOut_real (i j : Fin 128) :
    headOut t E lb x z w st (ix2 i j) = ((outR Q (fun s k => 1 - Real.exp (L s k)) L (V j) (p + i.val) : ℝ) : EReal) := by
  have eb := b_real t E lb x z w st Q L V p hL ht hE hx hz hw hst
  have ek := k_real t E lb x z w st Q L V p hL ht hE hx hz hw hst
  have eq : ∀ i k : Fin 128, (k0_pay124 x : FVec Ideal S128x128 .f32) (ix2 i k) = ((Q (p + i.val) k : ℝ) : EReal) := fun i k => by rw [q_at, hx]
  unfold headOut
  rw [mix_eq, apply_at, qs_at, (same_at _).1, (same_at _).2.1, (same_at _).2.2]
  have es := stack_real Q (fun s k => 1 - Real.exp (L s k)) L p (k0_pay124 x) (k0_pay126 lb z) (k0_pay128 (k0_pay88 t) lb z)
    (k0_pay137 (prods (k0_pay128 (k0_pay88 t) lb z) (k0_pay124 x) (k0_pay126 lb z)) E) hL eq ek eb (fun i s u hu => by
      have hi := i.isLt
      rw [dmat_at]
      simp only [hE]
      rw [sum_group (fun c => prods (k0_pay128 (k0_pay88 t) lb z) (k0_pay124 x) (k0_pay126 lb z) (ix2 i c)) (s.val % 16) (by omega)]
      refine Finset.sum_congr rfl fun k _ => ?_
      have hk := k.isLt
      exact prods_at _ _ _ i _ u k (by show u.val = 16 * (i.val / 16) + (128 * (s.val % 16) + k.val) / 128; omega)
        (by show k.val = (128 * (s.val % 16) + k.val) % 128; omega))
  rw [out_chunk _ _ _ _ p i.val i.isLt, EReal.coe_add, coe_sum, coe_sum]
  congr 1
  · refine Finset.sum_congr rfl fun k _ => ?_
    rw [eq, eb, hst, exp_coe, ← EReal.coe_mul, ← EReal.coe_mul]
  · refine Finset.sum_congr rfl fun s _ => ?_
    rw [es, v_at, hw, ← EReal.coe_mul]

/-- A head's next state at row `j`, coordinate `k`. -/
theorem headNext_real (j k : Fin 128) :
    headNext t lb z w st (ix3 0 j k) = ((stR (fun s k => 1 - Real.exp (L s k)) L (V j) (p + 128) k : ℝ) : EReal) := by
  have eb := b_real t E lb x z w st Q L V p hL ht hE hx hz hw hst
  have ek := k_real t E lb x z w st Q L V p hL ht hE hx hz hw hst
  unfold headNext
  rw [next_at, st_at, blast_at, eb, hst, exp_coe, st_step, EReal.coe_add, coe_sum, EReal.coe_mul]
  congr 1
  refine Finset.sum_congr rfl fun s _ => ?_
  rw [v_at, hw, ek, eb, ← EReal.coe_sub, exp_coe, ← EReal.coe_mul, ← EReal.coe_mul]
  rfl

end

end Cert.Kernel4Ideal.Hgrn

end
-- ==== Proof.HgrnRead.lean ====
/-
  The linear recurrence's scratch matrix of head outputs, read back whole, and the body's test for a batch row's first chunk.
-/
module

public import proofs.«01_k».proof.Proof.HgrnHead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Kernel4Ideal.Hgrn

open Cert.Kernel4Ideal Cert.Kernel4Ideal.Gen

variable {F : FTy → Type} [FloatOps F]

/-- The body's test for the first chunk of a batch row. -/
abbrev isFirst (i : grid0.Coords) : Prop :=
  Scalar.cmpi .ne (Scalar.extui (Scalar.cmpi .eq (BitVec.ofNat 32 (i 1).val) 0#32) : BitVec 32) 0#32 = 1#1

/-- The scratch matrix of a head's output columns reads back as the heads side by side. -/
theorem read_heads (v : View sig .tc .vmem S128x512 .f32) (f : v.ty.Contents (Elt F)) (H : Fin 4 → Vec F S128x128 .f32)
    (i0 : ∀ a, (![0, 0] : Fin 2 → ℕ) a + S128x128.size a ≤ S128x512.size a) (i1 : ∀ a, (![0, 128] : Fin 2 → ℕ) a + S128x128.size a ≤ S128x512.size a)
    (i2 : ∀ a, (![0, 256] : Fin 2 → ℕ) a + S128x128.size a ≤ S128x512.size a) (i3 : ∀ a, (![0, 384] : Fin 2 → ℕ) a + S128x128.size a ≤ S128x512.size a)
    (L : List (View.Piece (Elt F) S128x512 .f32)) :
    v.read (Elt F) (v.writes (Elt F) f (⟨Rect.unit (s := S128x512) ![0, 384] S128x128.size i3, H 3⟩ :: ⟨Rect.unit (s := S128x512) ![0, 256] S128x128.size i2, H 2⟩
        :: ⟨Rect.unit (s := S128x512) ![0, 128] S128x128.size i1, H 1⟩ :: ⟨Rect.unit (s := S128x512) ![0, 0] S128x128.size i0, H 0⟩ :: L))
      = fun y => H (Fin.ofNat 4 ((y 1).val / 128)) (ix2 (y 0) (Fin.ofNat 128 (y 1).val)) := by
  funext y
  have hy : (y 1).val < 512 := (y 1).isLt
  have hc : (y 1).val / 128 = 0 ∨ (y 1).val / 128 = 1 ∨ (y 1).val / 128 = 2 ∨ (y 1).val / 128 = 3 := by omega
  rcases hc with e | e | e | e
  · rw [e]
    refine (View.read_writes_cons_unit_of_not_mem (s := S128x512) v f i3 _ _ y rfl (1 : Fin 2) (.inl (by show (y 1).val < 384; omega))).trans ?_
    refine (View.read_writes_cons_unit_of_not_mem (s := S128x512) v f i2 _ _ y rfl (1 : Fin 2) (.inl (by show (y 1).val < 256; omega))).trans ?_
    refine (View.read_writes_cons_unit_of_not_mem (s := S128x512) v f i1 _ _ y rfl (1 : Fin 2) (.inl (by show (y 1).val < 128; omega))).trans ?_
    refine View.read_writes_cons_unit_of_mem (s := S128x512) v f i0 _ _ y (ix2 (y 0) (Fin.ofNat 128 (y 1).val)) rfl fun a => ?_
    match a with
    | ⟨0, _⟩ => show (y 0).val = 0 + (y 0).val; omega
    | ⟨1, _⟩ => show (y 1).val = 0 + (y 1).val % 128; omega
  · rw [e]
    refine (View.read_writes_cons_unit_of_not_mem (s := S128x512) v f i3 _ _ y rfl (1 : Fin 2) (.inl (by show (y 1).val < 384; omega))).trans ?_
    refine (View.read_writes_cons_unit_of_not_mem (s := S128x512) v f i2 _ _ y rfl (1 : Fin 2) (.inl (by show (y 1).val < 256; omega))).trans ?_
    refine View.read_writes_cons_unit_of_mem (s := S128x512) v f i1 _ _ y (ix2 (y 0) (Fin.ofNat 128 (y 1).val)) rfl fun a => ?_
    match a with
    | ⟨0, _⟩ => show (y 0).val = 0 + (y 0).val; omega
    | ⟨1, _⟩ => show (y 1).val = 128 + (y 1).val % 128; omega
  · rw [e]
    refine (View.read_writes_cons_unit_of_not_mem (s := S128x512) v f i3 _ _ y rfl (1 : Fin 2) (.inl (by show (y 1).val < 384; omega))).trans ?_
    refine View.read_writes_cons_unit_of_mem (s := S128x512) v f i2 _ _ y (ix2 (y 0) (Fin.ofNat 128 (y 1).val)) rfl fun a => ?_
    match a with
    | ⟨0, _⟩ => show (y 0).val = 0 + (y 0).val; omega
    | ⟨1, _⟩ => show (y 1).val = 256 + (y 1).val % 128; omega
  · rw [e]
    refine View.read_writes_cons_unit_of_mem (s := S128x512) v f i3 _ _ y (ix2 (y 0) (Fin.ofNat 128 (y 1).val)) rfl fun a => ?_
    match a with
    | ⟨0, _⟩ => show (y 0).val = 0 + (y 0).val; omega
    | ⟨1, _⟩ => show (y 1).val = 384 + (y 1).val % 128; omega

/-- The same read as a load of the whole matrix from what its four stores cover. -/
theorem cov_heads (v : View sig .tc .vmem S128x512 .f32) (H : Fin 4 → Vec F S128x128 .f32)
    (i0 : ∀ a, (![0, 0] : Fin 2 → ℕ) a + S128x128.size a ≤ S128x512.size a) (i1 : ∀ a, (![0, 128] : Fin 2 → ℕ) a + S128x128.size a ≤ S128x512.size a)
    (i2 : ∀ a, (![0, 256] : Fin 2 → ℕ) a + S128x128.size a ≤ S128x512.size a) (i3 : ∀ a, (![0, 384] : Fin 2 → ℕ) a + S128x128.size a ≤ S128x512.size a)
    (inb : ∀ a, (![0, 0] : Fin 2 → ℕ) a + S128x512.size a ≤ S128x512.size a) :
    v.readCov (Val := Elt F) [⟨Rect.unit (s := S128x512) ![0, 384] S128x128.size i3, H 3⟩, ⟨Rect.unit (s := S128x512) ![0, 256] S128x128.size i2, H 2⟩,
        ⟨Rect.unit (s := S128x512) ![0, 128] S128x128.size i1, H 1⟩, ⟨Rect.unit (s := S128x512) ![0, 0] S128x128.size i0, H 0⟩]
        (Rect.unit (s := S128x512) ![0, 0] S128x512.size inb).toLoadRect
      = fun y => H (Fin.ofNat 4 ((y 1).val / 128)) (ix2 (y 0) (Fin.ofNat 128 (y 1).val)) :=
  (View.ld_unit_zero (S := S128x512) hz2 inb _).trans (read_heads v _ H i0 i1 i2 i3 [])

/-- A load of the state from what its stores cover, as a load of what they leave. -/
theorem cov_state (v : View sig .tc .vmem S4x128x128 .f32) (L : List (View.Piece (Elt F) S4x128x128 .f32)) (r : Rect S4x128x128) :
    v.readCov (Val := Elt F) L r.toLoadRect = View.ld (v.read (Elt F) (v.writes (Elt F) v.junk L)) r := rfl

end Cert.Kernel4Ideal.Hgrn

end
-- ==== Proof.HgrnFirst.lean ====
/-
  The linear recurrence's body at a batch row's first chunk, run on whole staging buffers: from its input blocks and the state it leaves `block` in the
  output's buffer and `nextState` in the state's.
-/
module

public import proofs.«01_k».proof.Proof.HgrnRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Kernel4Ideal.Hgrn

open Cert.Kernel4Ideal Cert.Kernel4Ideal.Gen

variable {F : FTy → Type} [FloatOps F]

set_option maxHeartbeats 2000000 in
/-- The body at the first chunk of a batch row: it ends with the inputs as they were, the output at `block`
    and the state at `nextState`, both from the zero state, and the other scratch buffers at something. -/
theorem body_run_first (c : Dev nD) (i : grid0.Coords) (hi : isFirst i) (arg2 : Memref sig .tc .vmem S1x128x512 .bf16) (harg2 : arg2.IsWhole) (arg3 : Memref sig .tc .vmem S1x128x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S128x128 .bf16) (harg8 : arg8.IsWhole) (arg9 : Memref sig .tc .vmem S2048x128 .bf16) (harg9 : arg9.IsWhole) (arg10 : Memref sig .tc .vmem S1x128x512 .bf16) (harg10 : arg10.IsWhole) (arg11 : Memref sig .tc .vmem S4x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x2048 .bf16) (harg15 : arg15.IsWhole) (arg16 : Memref sig .tc .vmem S128x512 .f32) (harg16 : arg16.IsWhole) (x0 : Vec F S1x128x512 .bf16) (x1 : Vec F S1x128x512 .f32) (x2 : Vec F S1x128x512 .bf16) (x3 : Vec F S1x128x512 .bf16) (x4 : Vec F S2x512 .f32) (x5 : Vec F S1x512 .f32) (x6 : Vec F S128x128 .bf16) (x7 : Vec F S2048x128 .bf16) (S : Vec F S4x128x128 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare S ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (block x0 x1 x2 x3 x4 x5 x6 x7 (k0_pay86 (F := F))) ∗ owns (c : Thread nD τ) arg11 fullShare (nextState x1 x2 x4 x6 (k0_pay86 (F := F))) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn2_eq_skeleton]; unfold cc0_hgrn2_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    sl_unfold_run_names
    have t1 : Scf.trips k0_t1_loop.lb k0_t1_loop.ub k0_t1_loop.st = 8 := trips1
    have t2 : Scf.trips k0_t2_loop.lb k0_t2_loop.ub k0_t2_loop.st = 8 := trips2
    have t3 : Scf.trips k0_t3_loop.lb k0_t3_loop.ub k0_t3_loop.st = 8 := trips3
    have t4 : Scf.trips k0_t4_loop.lb k0_t4_loop.ub k0_t4_loop.st = 8 := trips4
    rw [View.read_writes_full]
    simp only [View.readAt_eq_ld, harg2.read_unread, harg3.read_unread, harg4.read_unread, harg5.read_unread, harg6.read_unread, harg7.read_unread, harg8.read_unread, harg9.read_unread, harg11.read_unread, View.read_writes_full, View.ld_unit_zero (S := S128x128) hz2, View.ld_unit_zero (S := S128x2048) hz2, View.ld_unit_zero (S := S2048x128) hz2, View.ld_unit_zero (S := S128x512) hz2,
      View.ld_unit_zero (S := S2x512) hz2, View.ld_unit_zero (S := S1x512) hz2, View.ld_unit_zero (S := S1x128x512) hz3, full_sq, full_state, cov_state, View.writes_append, t1, t2, t3, t4, reads1, reads2, reads3, reads4, writes_none, ldc_0, lds_0, rslab_0, ldc_1, lds_1, rslab_1, ldc_2, lds_2, rslab_2, ldc_3, lds_3, rslab_3, slab_ne_1_0, slab_ne_2_0, slab_ne_2_1, slab_ne_3_0, slab_ne_3_1, slab_ne_3_2]
    simp only [show iota .tc S16x128 32 [1] iota_S16x128_d1_w32 = lanes from rfl, show iota .tc S16x128 32 [0] iota_S16x128_d0_w32 = rows from rfl, mix_0, mix_1, mix_2, mix_3, out_0, out_1, out_2, out_3]
    exact congrArg (fun O => k0_pay1 (k0_pay234 O) (k0_pay235 x5) x3)
      (cov_heads arg16.view (fun h => headOut x6 x7 (lbOf x4 h) (colsOf x0 h) (colsOf x1 h) (colsOf x2 h) (slabOf (k0_pay86 (F := F)) h)) _ _ _ _ _)
  isplitl [HS0]
  · iexists _; isplitr
    swap; · iexact HS0
    ipureintro
    sl_unfold_run_names
    simp only [View.readAt_eq_ld, harg2.read_unread, harg3.read_unread, harg4.read_unread, harg5.read_unread, harg6.read_unread, harg7.read_unread, harg8.read_unread, harg9.read_unread, harg11.read_unread, View.read_writes_full, View.ld_unit_zero (S := S128x128) hz2, View.ld_unit_zero (S := S128x2048) hz2, View.ld_unit_zero (S := S2048x128) hz2, View.ld_unit_zero (S := S128x512) hz2,
      View.ld_unit_zero (S := S2x512) hz2, View.ld_unit_zero (S := S1x512) hz2, View.ld_unit_zero (S := S1x128x512) hz3, full_sq, full_state, cov_state, writes_none, ldc_0, lds_0, rslab_0, ldc_1, lds_1, rslab_1, ldc_2, lds_2, rslab_2, ldc_3, lds_3, rslab_3, slab_ne_1_0, slab_ne_2_0, slab_ne_2_1, slab_ne_3_0, slab_ne_3_1, slab_ne_3_2, next_0, next_1, next_2, next_3]
    exact next_eq x1 x2 x4 x6 (k0_pay86 (F := F)) _
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.Kernel4Ideal.Hgrn

end
-- ==== Proof.HgrnLater.lean ====
/-
  The linear recurrence's body at a later chunk, run on whole staging buffers: from its input blocks and the state it leaves `block` in the
  output's buffer and `nextState` in the state's.
-/
module

public import proofs.«01_k».proof.Proof.HgrnRead

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Kernel4Ideal.Hgrn

open Cert.Kernel4Ideal Cert.Kernel4Ideal.Gen

variable {F : FTy → Type} [FloatOps F]

set_option maxHeartbeats 2000000 in
/-- The body at a later chunk: it ends with the inputs as they were, the output at `block`
    and the state at `nextState`, both from the state it finds, and the other scratch buffers at something. -/
theorem body_run_later (c : Dev nD) (i : grid0.Coords) (hi : ¬ isFirst i) (arg2 : Memref sig .tc .vmem S1x128x512 .bf16) (harg2 : arg2.IsWhole) (arg3 : Memref sig .tc .vmem S1x128x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S128x128 .bf16) (harg8 : arg8.IsWhole) (arg9 : Memref sig .tc .vmem S2048x128 .bf16) (harg9 : arg9.IsWhole) (arg10 : Memref sig .tc .vmem S1x128x512 .bf16) (harg10 : arg10.IsWhole) (arg11 : Memref sig .tc .vmem S4x128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x2048 .bf16) (harg15 : arg15.IsWhole) (arg16 : Memref sig .tc .vmem S128x512 .f32) (harg16 : arg16.IsWhole) (x0 : Vec F S1x128x512 .bf16) (x1 : Vec F S1x128x512 .f32) (x2 : Vec F S1x128x512 .bf16) (x3 : Vec F S1x128x512 .bf16) (x4 : Vec F S2x512 .f32) (x5 : Vec F S1x512 .f32) (x6 : Vec F S128x128 .bf16) (x7 : Vec F S2048x128 .bf16) (S : Vec F S4x128x128 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare S ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (block x0 x1 x2 x3 x4 x5 x6 x7 S) ∗ owns (c : Thread nD τ) arg11 fullShare (nextState x1 x2 x4 x6 S) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn2_eq_skeleton]; unfold cc0_hgrn2_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    sl_unfold_run_names
    have t1 : Scf.trips k0_t1_loop.lb k0_t1_loop.ub k0_t1_loop.st = 8 := trips1
    have t2 : Scf.trips k0_t2_loop.lb k0_t2_loop.ub k0_t2_loop.st = 8 := trips2
    have t3 : Scf.trips k0_t3_loop.lb k0_t3_loop.ub k0_t3_loop.st = 8 := trips3
    have t4 : Scf.trips k0_t4_loop.lb k0_t4_loop.ub k0_t4_loop.st = 8 := trips4
    rw [View.read_writes_full]
    simp only [View.readAt_eq_ld, harg2.read_unread, harg3.read_unread, harg4.read_unread, harg5.read_unread, harg6.read_unread, harg7.read_unread, harg8.read_unread, harg9.read_unread, harg11.read_unread, View.read_writes_full, View.ld_unit_zero (S := S128x128) hz2, View.ld_unit_zero (S := S128x2048) hz2, View.ld_unit_zero (S := S2048x128) hz2, View.ld_unit_zero (S := S128x512) hz2,
      View.ld_unit_zero (S := S2x512) hz2, View.ld_unit_zero (S := S1x512) hz2, View.ld_unit_zero (S := S1x128x512) hz3, full_sq, full_state, View.writes_append, t1, t2, t3, t4, reads1, reads2, reads3, reads4, writes_none, ldc_0, lds_0, rslab_0, ldc_1, lds_1, rslab_1, ldc_2, lds_2, rslab_2, ldc_3, lds_3, rslab_3, slab_ne_1_0, slab_ne_2_0, slab_ne_2_1, slab_ne_3_0, slab_ne_3_1, slab_ne_3_2]
    simp only [show iota .tc S16x128 32 [1] iota_S16x128_d1_w32 = lanes from rfl, show iota .tc S16x128 32 [0] iota_S16x128_d0_w32 = rows from rfl, mix_0, mix_1, mix_2, mix_3, out_0, out_1, out_2, out_3]
    exact congrArg (fun O => k0_pay1 (k0_pay234 O) (k0_pay235 x5) x3)
      (cov_heads arg16.view (fun h => headOut x6 x7 (lbOf x4 h) (colsOf x0 h) (colsOf x1 h) (colsOf x2 h) (slabOf S h)) _ _ _ _ _)
  isplitl [HS0]
  · iexists _; isplitr
    swap; · iexact HS0
    ipureintro
    sl_unfold_run_names
    simp only [View.readAt_eq_ld, harg2.read_unread, harg3.read_unread, harg4.read_unread, harg5.read_unread, harg6.read_unread, harg7.read_unread, harg8.read_unread, harg9.read_unread, harg11.read_unread, View.read_writes_full, View.ld_unit_zero (S := S128x128) hz2, View.ld_unit_zero (S := S128x2048) hz2, View.ld_unit_zero (S := S2048x128) hz2, View.ld_unit_zero (S := S128x512) hz2,
      View.ld_unit_zero (S := S2x512) hz2, View.ld_unit_zero (S := S1x512) hz2, View.ld_unit_zero (S := S1x128x512) hz3, full_sq, full_state, writes_none, ldc_0, lds_0, rslab_0, ldc_1, lds_1, rslab_1, ldc_2, lds_2, rslab_2, ldc_3, lds_3, rslab_3, slab_ne_1_0, slab_ne_2_0, slab_ne_2_1, slab_ne_3_0, slab_ne_3_1, slab_ne_3_2, next_0, next_1, next_2, next_3]
    exact next_eq x1 x2 x4 x6 S _
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.Kernel4Ideal.Hgrn

end
-- ==== Proof.HgrnFrame.lean ====
/-
  The linear recurrence as launched: the state carried along the chunks of a batch row, the body's run at every grid point,
  the pipeline's run from it, the frame, and what the result array holds at the end, block by block.
-/
module

public import proofs.«01_k».proof.Proof.HgrnFirst
public import proofs.«01_k».proof.Proof.HgrnLater
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel4Ideal.Hgrn

open Cert.Kernel4Ideal Cert.Kernel4Ideal.Gen

variable {F : FTy → Type} [FloatOps F]
variable (m : (ℓ : Loc nD τ sig) → Buf (Elt F) ℓ) (ρ : Dev nD → PrngReg)

/-- Window 0's staging buffer at a grid point. -/
abbrev stg0 (t : Fin cfg0.N) : Memref sig .tc .vmem S1x128x512 .bf16 := win0_0.stage (cfg0.slots t 0)
/-- Window 1's staging buffer at a grid point. -/
abbrev stg1 (t : Fin cfg0.N) : Memref sig .tc .vmem S1x128x512 .f32 := win0_1.stage (cfg0.slots t 1)
/-- Window 2's staging buffer at a grid point. -/
abbrev stg2 (t : Fin cfg0.N) : Memref sig .tc .vmem S1x128x512 .bf16 := win0_2.stage (cfg0.slots t 2)
/-- Window 3's staging buffer at a grid point. -/
abbrev stg3 (t : Fin cfg0.N) : Memref sig .tc .vmem S1x128x512 .bf16 := win0_3.stage (cfg0.slots t 3)
/-- Window 4's staging buffer at a grid point. -/
abbrev stg4 (t : Fin cfg0.N) : Memref sig .tc .vmem S2x512 .f32 := win0_4.stage (cfg0.slots t 4)
/-- Window 5's staging buffer at a grid point. -/
abbrev stg5 (t : Fin cfg0.N) : Memref sig .tc .vmem S1x512 .f32 := win0_5.stage (cfg0.slots t 5)
/-- Window 6's staging buffer at a grid point. -/
abbrev stg6 (t : Fin cfg0.N) : Memref sig .tc .vmem S128x128 .bf16 := win0_6.stage (cfg0.slots t 6)
/-- Window 7's staging buffer at a grid point. -/
abbrev stg7 (t : Fin cfg0.N) : Memref sig .tc .vmem S2048x128 .bf16 := win0_7.stage (cfg0.slots t 7)
/-- Window 8's staging buffer at a grid point. -/
abbrev stg8 (t : Fin cfg0.N) : Memref sig .tc .vmem S1x128x512 .bf16 := win0_8.stage (cfg0.slots t 8)
/-- Scratch buffer 0. -/
abbrev scr0 : Memref sig .tc .vmem S4x128x128 .f32 := Memref.whole cc0_scratch0
/-- Scratch buffer 1. -/
abbrev scr1 : Memref sig .tc .vmem S128x128 .f32 := Memref.whole cc0_scratch1
/-- Scratch buffer 2. -/
abbrev scr2 : Memref sig .tc .vmem S128x128 .f32 := Memref.whole cc0_scratch2
/-- Scratch buffer 3. -/
abbrev scr3 : Memref sig .tc .vmem S128x128 .f32 := Memref.whole cc0_scratch3
/-- Scratch buffer 4. -/
abbrev scr4 : Memref sig .tc .vmem S128x2048 .bf16 := Memref.whole cc0_scratch4
/-- Scratch buffer 5. -/
abbrev scr5 : Memref sig .tc .vmem S128x512 .f32 := Memref.whole cc0_scratch5

/-- The scratch buffers at some contents, and the random register. -/
theorem scratch_eq (c : Dev nD) :
    (Pipeline.ΦA spec0 c : sProp (MT nD τ sig Unit (Elt F) ℕ (UR sig nD τ) ℕ))
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- The state before step `n` of a batch row's run over its chunks, as step `n - 1` left it. -/
def left (c : Dev nD) : ℕ → Vec F S4x128x128 .f32
  | 0 => k0_pay86
  | n + 1 => if h : n < cfg0.N then
      nextState (iblk m c 1 ⟨n, h⟩) (iblk m c 2 ⟨n, h⟩) (iblk m c 4 ⟨n, h⟩) (iblk m c 6 ⟨n, h⟩) (if n % 32 = 0 then k0_pay86 else left c n)
    else k0_pay86

/-- The state a grid point starts from: zero at a batch row's first chunk, what the point before left otherwise. -/
def start (c : Dev nD) (n : ℕ) : Vec F S4x128x128 .f32 := if n % 32 = 0 then k0_pay86 else left m c n

theorem left_succ (c : Dev nD) (t : Fin cfg0.N) :
    left m c (t.val + 1) = nextState (iblk m c 1 t) (iblk m c 2 t) (iblk m c 4 t) (iblk m c 6 t) (start m c t.val) := by
  rw [left, dif_pos t.isLt]; rfl

/-- What the output's staging buffer holds after grid point `t`. -/
def blockAt (c : Dev nD) (t : Fin cfg0.N) : Vec F S1x128x512 .bf16 :=
  block (iblk m c 0 t) (iblk m c 1 t) (iblk m c 2 t) (iblk m c 3 t) (iblk m c 4 t) (iblk m c 5 t) (iblk m c 6 t) (iblk m c 7 t) (start m c t.val)

/-- What holds of the scratch buffers before step `n`: past a batch row's first chunk the state buffer is at what the point
    before left, the others are at something. -/
def held (c : Dev nD) (n : ℕ) : sProp (MT nD τ sig Unit (Elt F) ℕ (UR sig nD τ) ℕ) :=
  iprop(iprop((∃ s, iprop(⌜n % 32 ≠ 0 → s = left m c n⌝ ∗ owns (c : Thread nD τ) scr0 fullShare s)) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r))

/-- The pipeline's contents: every array as the host left it, every input's staging buffer at its block after the body, the
    output's at `blockAt`, the scratch buffers as `held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockAt m c t
  Φ t := held m c t.val
  q _ := fullShare
  owed _ := 0

theorem arrays (c : Dev nD) (w : Fin cfg0.W) : (dats m 0 c).A w = V m c (Pipeline.arrRef spec0 w) := by
  dsimp only [dats]

theorem held_at (c : Dev nD) (t : Fin (cfg0.N + 1)) : (dats m 0 c).Φ t = held m c t.val := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = blockAt m c t := by dsimp only [dats]

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d
theorem before6 (c : Dev nD) (t : Fin cfg0.N) (d) : (dats m 0 c).before 6 t d = iblk m c 6 t :=
  before0_6_of m (dats m 0 c) (arrays m c 6) (after6 m c) t d
theorem before7 (c : Dev nD) (t : Fin cfg0.N) (d) : (dats m 0 c).before 7 t d = iblk m c 7 t :=
  before0_7_of m (dats m 0 c) (arrays m c 7) (after7 m c) t d

/-- What the body is called with at a grid point. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it gives back. -/
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t))

/-- The grid points at which a batch row's first chunk is read. -/
theorem isFirst_iff : ∀ t : Fin cfg0.N, isFirst (grid0.coords t) ↔ t.val % 32 = 0 :=
  (by decide +kernel : ∀ t : Fin grid0.N, isFirst (grid0.coords t) ↔ t.val % 32 = 0)

set_option maxHeartbeats 1600000 in
/-- The body at a grid point, from its run at the point's buffers and blocks. -/
theorem body_at (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7]
  rw [held_at, held_at, show t.castSucc.val = t.val from rfl, show t.succ.val = t.val + 1 from rfl,
    show (dats m 0 c).owesAt () t.succ = (dats m 0 c).owesAt () t.castSucc from rfl, after0, after1, after2, after3, after4, after5, after6, after7, after8]
  unfold held blockAt
  rw [left_succ]
  iintro ⟨⟨⟨⟨%s, %hs, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h : t.val % 32 = 0
  · rw [show start m c t.val = k0_pay86 from if_pos h]
    iapply (body_run_first c (grid0.coords t) ((isFirst_iff t).mpr h) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]
        · iexists _
          isplitr
          · ipureintro; exact fun _ => rfl
          iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show start m c t.val = left m c t.val from if_neg h]
    obtain rfl := hs h
    iapply (body_run_later c (grid0.coords t) (fun e => h ((isFirst_iff t).mp e)) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (left m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]
        · iexists _
          isplitr
          · ipureintro; exact fun _ => rfl
          iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-- Before the first step the scratch buffers may hold anything. -/
theorem held_first (c : Dev nD) : (Pipeline.ΦA spec0 c : sProp (MT nD τ sig Unit (Elt F) ℕ (UR sig nD τ) ℕ)) ⊢ (dats m 0 c).Φ 0 := by
  rw [held_at, scratch_eq]; unfold held
  iintro ⟨⟨⟨%s, HS0⟩, HS⟩, Hg⟩
  isplitl [HS0 HS]
  · isplitl [HS0]
    · iexists s
      isplitr
      · ipureintro; exact fun h => absurd rfl h
      iexact HS0
    iexact HS
  iexact Hg

/-- After the last step they are left at something. -/
theorem held_last (c : Dev nD) : (dats m 0 c).Φ (Fin.last cfg0.N) ⊢ (Pipeline.ΦA spec0 c : sProp (MT nD τ sig Unit (Elt F) ℕ (UR sig nD τ) ℕ)) := by
  rw [held_at, scratch_eq]; unfold held
  iintro ⟨⟨⟨%s, -, HS0⟩, HS⟩, Hg⟩
  isplitl [HS0 HS]
  · isplitl [HS0]
    · iexists s; iexact HS0
    iexact HS
  iexact Hg

set_option backward.isDefEq.respectTransparency.types false in
/-- The launch: it ends with every array of the pipeline at what the contents above make it, and with every semaphore zero. -/
theorem launch : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hin := held_first m) (hout := held_last m)

/-- The launch, each argument array unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (arrays m) ((θ_run defs _ _).mono (fun _ h => h.1) (launch m ρ))

/-- The frame: the arguments unchanged and every semaphore zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  θ_run_and (args_kept m ρ) ((θ_run defs _ _).mono (fun _ h => h.2) (launch m ρ))

/-- What a grid point writes back. -/
theorem written (c : Dev nD) (t : Fin cfg0.N) :
    (dats m 0 c).flushed 8 t = (cfg0.win 8).cut (grid0.coords t) (blockAt m c t) := by
  show (cfg0.win 8).cut (grid0.coords t) ((dats m 0 c).after 8 t) = _
  rw [after8]

theorem index_inj : ∀ t t' : Fin cfg0.N, win0_8.index t = win0_8.index t' → t = t' :=
  (by decide +kernel : ∀ t t' : Fin grid0.N, win0_8.index t = win0_8.index t' → t = t')

theorem blocks_apart : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (index_inj t t' h)

/-- Block `t` of the final array is what grid point `t` wrote back. -/
theorem final_block (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 blocks_apart cfg0.N t t.isLt hf

/-- The launch with the result array named, the arguments unchanged. -/
theorem run_final : θ_run defs (onTc (τ := τ) (main (F := F))) ⟨m, fun _ => 0, ρ⟩ fun r => ∀ c : Dev nD,
      r.2.mem ((c : Thread nD τ).loc main_v15) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 8, h.2 c⟩)
    (θ_run_and ((θ_run defs _ _).mono (fun _ h => h.1) (launch m ρ)) (args_kept m ρ))

end Cert.Kernel4Ideal.Hgrn

end
-- ==== Proof.HgrnValue.lean ====
/-
  The linear recurrence's result array: at every batch, position and column it is the recurrence's output, normalised and
  gated.
-/
module

public import proofs.«01_k».proof.Proof.HgrnPay
public import proofs.«01_k».proof.Proof.HgrnFrame
public import Idealize.ShloMosaic.Lib.Routing.Words
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Hgrn

open Cert.Kernel4Ideal Cert.Kernel4Ideal.Gen Cert.HgrnMath Cert.AttnMath
open Facts

/-! ## The last payloads -/

theorem norm_at (o : FVec Ideal S128x512 .f32) (r : Fin 128) (s : Fin 512) :
    k0_pay234 o (ix2 r s) = o (ix2 r s) * Ideal.rsqrt (Ideal.div (∑ j : Fin 512, o (ix2 r j) * o (ix2 r j)) n512 + Cert.TailMath.eps) := by
  unfold k0_pay234
  pointwise
  rfl

theorem weight_at (w : Vec Ideal S1x512 .f32) (r : Fin 128) (s : Fin 512) : (k0_pay235 w : FVec Ideal S128x512 .f32) (ix2 r s) = w (ix2 0 s) := by
  unfold k0_pay235
  pointwise

theorem gate_at (o w : FVec Ideal S128x512 .f32) (g : Vec Ideal S1x128x512 .bf16) (r : Fin 128) (s : Fin 512) :
    k0_pay1 o w g (ix3 0 r s) = o (ix2 r s) * w (ix2 r s) * (g (ix3 0 r s) * Ideal.logistic (g (ix3 0 r s))) := by
  unfold k0_pay1
  pointwise
  try rfl

theorem lbOf_at (g : Vec Ideal S2x512 .f32) (h : Fin 4) (k : Fin 128) : lbOf g h (ix2 0 k) = lbE g (col h k) := by
  rw [← lb_at]
  match h with
  | 0 => unfold lbOf; generalize k0_pay87 g = y; pointwise; try (refine congrArg (fun a => y (ix2 0 a)) (Fin.ext ?_); show _ = 128 * 0 + k.val; simp <;> omega)
  | 1 => unfold lbOf; generalize k0_pay87 g = y; pointwise; try (refine congrArg (fun a => y (ix2 0 a)) (Fin.ext ?_); show _ = 128 * 1 + k.val; simp <;> omega)
  | 2 => unfold lbOf; generalize k0_pay87 g = y; pointwise; try (refine congrArg (fun a => y (ix2 0 a)) (Fin.ext ?_); show _ = 128 * 2 + k.val; simp <;> omega)
  | 3 => unfold lbOf; generalize k0_pay87 g = y; pointwise; try (refine congrArg (fun a => y (ix2 0 a)) (Fin.ext ?_); show _ = 128 * 3 + k.val; simp <;> omega)

theorem zero_at (h : Fin 4) (j k : Fin 128) : (k0_pay86 : FVec Ideal S4x128x128 .f32) (ix3 h j k) = 0 := by
  unfold k0_pay86
  pointwise

theorem cols_at {e : EltTy} (x : Vec Ideal S1x128x512 e) (h : Fin 4) (i k : Fin 128) : colsOf x h (ix3 0 i k) = x (ix3 0 i (col h k)) := by
  have hk := k.isLt
  have hh := h.isLt
  unfold colsOf
  refine congrArg (fun a => x (ix3 0 i a)) (Fin.ext ?_)
  show (128 * h.val + k.val) % 512 = 128 * h.val + k.val
  omega

/-! ## The arrays the host prepares -/

variable (m : (ℓ : Loc nD τ sig) → Buf (Elt Ideal) ℓ) (ρ : Dev nD → PrngReg)

/-- The six arguments. -/
abbrev args (c : Dev nD) : X :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5)⟩

/-- The lower triangle of ones. -/
def triH : FVec Ideal S128x128 .bf16 :=
  truncf .bf16 (select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32)) (broadcastInDim S128x128 ![] bcast_S_S128x128 (constant S_ .f32 0x00000000#32))) bitsLt_bf16_f32

theorem triH_at (r s : Fin 128) : triH (ix2 r s) = if s.val ≤ r.val then 1 else 0 := by
  have hr := r.isLt
  have hs := s.isLt
  unfold triH
  pointwise
  rw [WordCmp.addi_ofNat, WordCmp.cmpi_sge_ofNat (by omega) (by omega)]
  by_cases h : s.val ≤ r.val <;> simp [h, Scalar.select]

/-- The matrix that sends column `c` to the columns whose remainder by sixteen is `c / 128`. -/
def eselH : FVec Ideal S2048x128 .bf16 :=
  uitofp .bf16 (cmpi .eq
    (broadcastInDim S2048x128 ![0, 1] bcast_S2048x1_S2048x128_0_1
      (Routing.pyDiv bcast_S_S2048x1 (broadcastInDim S2048x1 ![0] bcast_S2048_S2048x1_0 (iotaInDim S2048 32 0)) (constantI S_ 32 128#32)))
    (broadcastInDim S2048x128 ![0, 1] bcast_S1x128_S2048x128_0_1
      (Routing.pyRem bcast_S_S1x128 (broadcastInDim S1x128 ![1] bcast_S128_S1x128_1 (iotaInDim S128 32 0)) (constantI S_ 32 16#32))))

theorem eselH_at (c : Fin 2048) (s : Fin 128) : eselH (ix2 c s) = if c.val / 128 = s.val % 16 then 1 else 0 := by
  have hc := c.isLt
  have hs := s.isLt
  have e1 := Routing.pyDiv_ap bcast_S_S2048x1 (broadcastInDim S2048x1 ![0] bcast_S2048_S2048x1_0 (iotaInDim S2048 32 0)) (constantI S_ 32 128#32)
    (ix2 c 0) (a := c.val) (b := 128) (by pointwise) (by pointwise) (by omega) (by omega) (by omega)
  have e2 := Routing.pyRem_ap bcast_S_S1x128 (broadcastInDim S1x128 ![1] bcast_S128_S1x128_1 (iotaInDim S128 32 0)) (constantI S_ 32 16#32)
    (ix2 0 s) (a := s.val) (b := 16) (by pointwise) (by pointwise) (by omega) (by omega) (by omega)
  unfold eselH
  generalize Routing.pyDiv bcast_S_S2048x1 (broadcastInDim S2048x1 ![0] bcast_S2048_S2048x1_0 (iotaInDim S2048 32 0)) (constantI S_ 32 128#32) = u at e1
  generalize Routing.pyRem bcast_S_S1x128 (broadcastInDim S1x128 ![1] bcast_S128_S1x128_1 (iotaInDim S128 32 0)) (constantI S_ 32 16#32) = v at e2
  pointwise
  rw [e1, e2, WordCmp.cmpi_eq_ofNat (by omega) (by omega)]
  by_cases h : c.val / 128 = s.val % 16
  · rw [if_pos h, decide_eq_true h]
    show (((1#1 : BitVec 1).toNat : ℝ) : EReal) = 1
    simp
  · rw [if_neg h, decide_eq_false h]
    show (((0#1 : BitVec 1).toNat : ℝ) : EReal) = 0
    simp

theorem V_0 (c : Dev nD) : (V m c main_arg0 : FVec Ideal S8x4096x512 .bf16) = m ((c.tc : Thread nD τ).loc main_arg0) := V_main_arg0 m c

theorem V_1 (c : Dev nD) : (V m c main_arg1 : FVec Ideal S8x4096x512 .f32) = m ((c.tc : Thread nD τ).loc main_arg1) := V_main_arg1 m c

theorem V_2 (c : Dev nD) : (V m c main_arg2 : FVec Ideal S8x4096x512 .bf16) = m ((c.tc : Thread nD τ).loc main_arg2) := V_main_arg2 m c

theorem V_3 (c : Dev nD) : (V m c main_arg3 : FVec Ideal S8x4096x512 .bf16) = m ((c.tc : Thread nD τ).loc main_arg3) := V_main_arg3 m c

theorem V_4 (c : Dev nD) : (V m c main_arg4 : FVec Ideal S2x512 .f32) = m ((c.tc : Thread nD τ).loc main_arg4) := V_main_arg4 m c

theorem V_5 (c : Dev nD) : (V m c main_v1 : FVec Ideal S1x512 .f32) = (broadcastInDim S1x512 ![1] bcast_S512_S1x512_1 (shapeCast S512 (m ((c.tc : Thread nD τ).loc main_arg5) : FVec Ideal S1x512 .f32) shapeCasts_S1x512_S512) : FVec Ideal S1x512 .f32) := by
  unfold_abbrev_sides
  after_results <;> rfl

theorem V_6 (c : Dev nD) : (V m c main_v4 : FVec Ideal S128x128 .bf16) = (  truncf .bf16 (select (cmpi .sge (addi (iotaInDim S128x128 32 0) (broadcastInDim S128x128 ![] bcast_S_S128x128 (constantI S_ 32 0#32))) (iotaInDim S128x128 32 1))    (broadcastInDim S128x128 ![] bcast_S_S128x128 (constant S_ .f32 0x3F800000#32)) (broadcastInDim S128x128 ![] bcast_S_S128x128 (constant S_ .f32 0x00000000#32))) bitsLt_bf16_f32 : FVec Ideal S128x128 .bf16) := by
  unfold_abbrev_sides
  after_results <;> rfl

theorem V_7 (c : Dev nD) : (V m c main_v14 : FVec Ideal S2048x128 .bf16) = (  uitofp .bf16 (cmpi .eq    (broadcastInDim S2048x128 ![0, 1] bcast_S2048x1_S2048x128_0_1      (Routing.pyDiv bcast_S_S2048x1 (broadcastInDim S2048x1 ![0] bcast_S2048_S2048x1_0 (iotaInDim S2048 32 0)) (constantI S_ 32 128#32)))    (broadcastInDim S2048x128 ![0, 1] bcast_S1x128_S2048x128_0_1      (Routing.pyRem bcast_S_S1x128 (broadcastInDim S1x128 ![1] bcast_S128_S1x128_1 (iotaInDim S128 32 0)) (constantI S_ 32 16#32)))) : FVec Ideal S2048x128 .bf16) := by
  unfold_abbrev_sides
  after_results <;> rfl

/-! ## The blocks -/

/-- Grid point `t` is batch `t / 32`, chunk `t % 32`. -/
theorem coords_at (t : Fin cfg0.N) : (grid0.coords t 0).val = t.val / 32 ∧ (grid0.coords t 1).val = t.val % 32 := by
  have h : ∀ t : Fin grid0.N, (grid0.coords t 0).val = t.val / 32 ∧ (grid0.coords t 1).val = t.val % 32 := by decide +kernel
  exact h t

theorem word (a : ℕ) (h : a < 256) : (BitVec.ofNat 32 a).toNat = a := by
  rw [BitVec.toNat_ofNat]
  exact Nat.mod_eq_of_lt (by omega)

theorem row_at (t : Fin cfg0.N) : (BitVec.ofNat 32 (grid0.coords t 0).val).toNat = t.val / 32 ∧ (BitVec.ofNat 32 (grid0.coords t 1).val).toNat = t.val % 32 := by
  have hN : cfg0.N = 256 := N_0
  have ht := t.isLt
  rw [(coords_at t).1, (coords_at t).2]
  exact ⟨word _ (by omega), word _ (by omega)⟩

/-- The batch and the first position of a grid point. -/
abbrev bat (t : Fin cfg0.N) : Fin 8 := ⟨t.val / 32, by have hN : cfg0.N = 256 := N_0; have := t.isLt; omega⟩
abbrev fst (t : Fin cfg0.N) : ℕ := 128 * (t.val % 32)

theorem blk_0 (c : Dev nD) (t : Fin cfg0.N) (i : Fin 128) (k : Fin 512) :
    (iblk m c 0 t : Vec Ideal S1x128x512 .bf16) (ix3 0 i k) = (args m c).q (ix3 (bat t) (pos (fst t + i.val)) k) := by
  have hi := i.isLt
  unfold iblk
  rw [View.read_apply]
  show (V m c main_arg0 : FVec Ideal S8x4096x512 .bf16) _ = _
  rw [V_0]
  refine congrArg (m ((c.tc : Thread nD τ).loc main_arg0) : FVec Ideal S8x4096x512 .bf16) ?_
  funext a
  apply Fin.ext
  match a with
  | ⟨0, _⟩ =>
    show (BitVec.ofNat 32 (grid0.coords t 0).val).toNat * 1 + 1 * 0 = t.val / 32
    rw [(row_at t).1]; omega
  | ⟨1, _⟩ =>
    show (BitVec.ofNat 32 (grid0.coords t 1).val).toNat * 128 + 1 * i.val = (128 * (t.val % 32) + i.val) % 4096
    rw [(row_at t).2]; omega
  | ⟨2, _⟩ => show 0 * 512 + 1 * k.val = k.val; omega

theorem blk_1 (c : Dev nD) (t : Fin cfg0.N) (i : Fin 128) (k : Fin 512) :
    (iblk m c 1 t : Vec Ideal S1x128x512 .f32) (ix3 0 i k) = (args m c).f (ix3 (bat t) (pos (fst t + i.val)) k) := by
  have hi := i.isLt
  unfold iblk
  rw [View.read_apply]
  show (V m c main_arg1 : FVec Ideal S8x4096x512 .f32) _ = _
  rw [V_1]
  refine congrArg (m ((c.tc : Thread nD τ).loc main_arg1) : FVec Ideal S8x4096x512 .f32) ?_
  funext a
  apply Fin.ext
  match a with
  | ⟨0, _⟩ =>
    show (BitVec.ofNat 32 (grid0.coords t 0).val).toNat * 1 + 1 * 0 = t.val / 32
    rw [(row_at t).1]; omega
  | ⟨1, _⟩ =>
    show (BitVec.ofNat 32 (grid0.coords t 1).val).toNat * 128 + 1 * i.val = (128 * (t.val % 32) + i.val) % 4096
    rw [(row_at t).2]; omega
  | ⟨2, _⟩ => show 0 * 512 + 1 * k.val = k.val; omega

theorem blk_2 (c : Dev nD) (t : Fin cfg0.N) (i : Fin 128) (k : Fin 512) :
    (iblk m c 2 t : Vec Ideal S1x128x512 .bf16) (ix3 0 i k) = (args m c).i (ix3 (bat t) (pos (fst t + i.val)) k) := by
  have hi := i.isLt
  unfold iblk
  rw [View.read_apply]
  show (V m c main_arg2 : FVec Ideal S8x4096x512 .bf16) _ = _
  rw [V_2]
  refine congrArg (m ((c.tc : Thread nD τ).loc main_arg2) : FVec Ideal S8x4096x512 .bf16) ?_
  funext a
  apply Fin.ext
  match a with
  | ⟨0, _⟩ =>
    show (BitVec.ofNat 32 (grid0.coords t 0).val).toNat * 1 + 1 * 0 = t.val / 32
    rw [(row_at t).1]; omega
  | ⟨1, _⟩ =>
    show (BitVec.ofNat 32 (grid0.coords t 1).val).toNat * 128 + 1 * i.val = (128 * (t.val % 32) + i.val) % 4096
    rw [(row_at t).2]; omega
  | ⟨2, _⟩ => show 0 * 512 + 1 * k.val = k.val; omega

theorem blk_3 (c : Dev nD) (t : Fin cfg0.N) (i : Fin 128) (k : Fin 512) :
    (iblk m c 3 t : Vec Ideal S1x128x512 .bf16) (ix3 0 i k) = (args m c).g (ix3 (bat t) (pos (fst t + i.val)) k) := by
  have hi := i.isLt
  unfold iblk
  rw [View.read_apply]
  show (V m c main_arg3 : FVec Ideal S8x4096x512 .bf16) _ = _
  rw [V_3]
  refine congrArg (m ((c.tc : Thread nD τ).loc main_arg3) : FVec Ideal S8x4096x512 .bf16) ?_
  funext a
  apply Fin.ext
  match a with
  | ⟨0, _⟩ =>
    show (BitVec.ofNat 32 (grid0.coords t 0).val).toNat * 1 + 1 * 0 = t.val / 32
    rw [(row_at t).1]; omega
  | ⟨1, _⟩ =>
    show (BitVec.ofNat 32 (grid0.coords t 1).val).toNat * 128 + 1 * i.val = (128 * (t.val % 32) + i.val) % 4096
    rw [(row_at t).2]; omega
  | ⟨2, _⟩ => show 0 * 512 + 1 * k.val = k.val; omega

theorem blk_4 (c : Dev nD) (t : Fin cfg0.N) (r : Fin 2) (k : Fin 512) :
    (iblk m c 4 t : Vec Ideal S2x512 .f32) (ix2 r k) = (args m c).gam (ix2 r k) := by
  unfold iblk
  rw [View.read_apply]
  show (V m c main_arg4 : FVec Ideal S2x512 .f32) _ = _
  rw [V_4]
  refine (congrArg _ (?_ : _ = (ix2 r k : S2x512.Idx))).trans ?_
  rotate_left
  · rfl
  funext a
  apply Fin.ext
  match a with
  | ⟨0, _⟩ => show 0 * 2 + 1 * r.val = r.val; omega
  | ⟨1, _⟩ => show 0 * 512 + 1 * k.val = k.val; omega

theorem blk_5 (c : Dev nD) (t : Fin cfg0.N) (r : Fin 1) (k : Fin 512) :
    (iblk m c 5 t : Vec Ideal S1x512 .f32) (ix2 r k) = (args m c).w (ix2 0 k) := by
  unfold iblk
  rw [View.read_apply]
  show (V m c main_v1 : FVec Ideal S1x512 .f32) _ = _
  rw [V_5]
  refine (congrArg _ (?_ : _ = (ix2 r k : S1x512.Idx))).trans ?_
  rotate_left
  · have hr : r = 0 := Subsingleton.elim _ _
    subst hr
    pointwise
  funext a
  apply Fin.ext
  match a with
  | ⟨0, _⟩ => show 0 * 1 + 1 * r.val = r.val; omega
  | ⟨1, _⟩ => show 0 * 512 + 1 * k.val = k.val; omega

theorem blk_6 (c : Dev nD) (t : Fin cfg0.N) (r : Fin 128) (k : Fin 128) :
    (iblk m c 6 t : Vec Ideal S128x128 .bf16) (ix2 r k) = (if k.val ≤ r.val then 1 else 0 : EReal) := by
  unfold iblk
  rw [View.read_apply]
  show (V m c main_v4 : FVec Ideal S128x128 .bf16) _ = _
  rw [V_6]
  refine (congrArg _ (?_ : _ = (ix2 r k : S128x128.Idx))).trans ?_
  rotate_left
  · exact triH_at r k
  funext a
  apply Fin.ext
  match a with
  | ⟨0, _⟩ => show 0 * 128 + 1 * r.val = r.val; omega
  | ⟨1, _⟩ => show 0 * 128 + 1 * k.val = k.val; omega

theorem blk_7 (c : Dev nD) (t : Fin cfg0.N) (r : Fin 2048) (k : Fin 128) :
    (iblk m c 7 t : Vec Ideal S2048x128 .bf16) (ix2 r k) = (if r.val / 128 = k.val % 16 then 1 else 0 : EReal) := by
  unfold iblk
  rw [View.read_apply]
  show (V m c main_v14 : FVec Ideal S2048x128 .bf16) _ = _
  rw [V_7]
  refine (congrArg _ (?_ : _ = (ix2 r k : S2048x128.Idx))).trans ?_
  rotate_left
  · exact eselH_at r k
  funext a
  apply Fin.ext
  match a with
  | ⟨0, _⟩ => show 0 * 2048 + 1 * r.val = r.val; omega
  | ⟨1, _⟩ => show 0 * 128 + 1 * k.val = k.val; omega

/-- The lower-bound parameters' block is the parameters. -/
theorem gam_eq (c : Dev nD) (t : Fin cfg0.N) : (iblk m c 4 t : Vec Ideal S2x512 .f32) = (args m c).gam := by
  funext i
  rw [eq_ix2 i]
  exact blk_4 m c t _ _

/-! ## The heads -/

section
variable (c : Dev nD) (hf : Finite (args m c))
include hf

theorem head_hx (t : Fin cfg0.N) (h : Fin 4) (i k : Fin 128) :
    (colsOf (e := .bf16) (iblk m c 0 t : Vec Ideal S1x128x512 .bf16) h (ix3 0 i k) * Ideal.logistic (colsOf (e := .bf16) (iblk m c 0 t : Vec Ideal S1x128x512 .bf16) h (ix3 0 i k)) : EReal)
      = ((rQ (args m c) (bat t) h (fst t + i.val) k : ℝ) : EReal) := by
  rw [cols_at, blk_0, ← qE_eq (args m c) hf]
  rfl

theorem head_hz (t : Fin cfg0.N) (h : Fin 4) (i k : Fin 128) :
    logfE (lbOf (iblk m c 4 t : Vec Ideal S2x512 .f32) h (ix2 0 k)) (colsOf (e := .f32) (iblk m c 1 t : Vec Ideal S1x128x512 .f32) h (ix3 0 i k))
      = ((rL (args m c) (bat t) h (fst t + i.val) k : ℝ) : EReal) := by
  rw [lbOf_at, gam_eq, cols_at, blk_1, ← logE_eq (args m c) hf]
  rfl

theorem head_hw (t : Fin cfg0.N) (h : Fin 4) (i j : Fin 128) :
    colsOf (e := .bf16) (iblk m c 2 t : Vec Ideal S1x128x512 .bf16) h (ix3 0 i j) = ((rV (args m c) (bat t) (col h j) (fst t + i.val) : ℝ) : EReal) := by
  rw [cols_at, blk_2, i_eq (args m c) hf]

/-- The state at a grid point's start: the recurrence's over the positions before it. -/
theorem start_real (n : ℕ) (hn : n < cfg0.N) (h : Fin 4) (j k : Fin 128) :
    start m c n (ix3 h j k)
      = ((stR (rK (args m c) (bat ⟨n, hn⟩) h) (rL (args m c) (bat ⟨n, hn⟩) h) (rV (args m c) (bat ⟨n, hn⟩) (col h j)) (fst ⟨n, hn⟩) k : ℝ) : EReal) := by
  have hN : cfg0.N = 256 := N_0
  induction n generalizing h j k with
  | zero =>
    unfold start
    rw [if_pos rfl, zero_at]
    unfold stR
    show (0 : EReal) = ((∑ s ∈ Finset.range 0, _ : ℝ) : EReal)
    rw [Finset.sum_range_zero]; rfl
  | succ n ih =>
    by_cases h0 : (n + 1) % 32 = 0
    · unfold start
      rw [if_pos h0, zero_at]
      have e : fst ⟨n + 1, hn⟩ = 0 := by show 128 * ((n + 1) % 32) = 0; omega
      rw [e]
      unfold stR
      rw [Finset.sum_range_zero]; rfl
    · have hn' : n < cfg0.N := by omega
      have es : start m c (n + 1) = nextState (iblk m c 1 ⟨n, hn'⟩) (iblk m c 2 ⟨n, hn'⟩) (iblk m c 4 ⟨n, hn'⟩) (iblk m c 6 ⟨n, hn'⟩) (start m c n) := by
        rw [← left_succ m c ⟨n, hn'⟩]
        unfold start
        rw [if_neg h0]
      have eb : bat ⟨n + 1, hn⟩ = bat ⟨n, hn'⟩ := Fin.ext (by show (n + 1) / 32 = n / 32; omega)
      have ef : fst ⟨n + 1, hn⟩ = fst ⟨n, hn'⟩ + 128 := by show 128 * ((n + 1) % 32) = 128 * (n % 32) + 128; omega
      rw [es, eb, ef]
      exact headNext_real (iblk m c 6 ⟨n, hn'⟩) (iblk m c 7 ⟨n, hn'⟩) (lbOf (iblk m c 4 ⟨n, hn'⟩) h) (colsOf (iblk m c 0 ⟨n, hn'⟩) h) (colsOf (iblk m c 1 ⟨n, hn'⟩) h)
        (colsOf (iblk m c 2 ⟨n, hn'⟩) h) (slabOf (start m c n) h)
        (rQ (args m c) (bat ⟨n, hn'⟩) h) (rL (args m c) (bat ⟨n, hn'⟩) h) (fun j => rV (args m c) (bat ⟨n, hn'⟩) (col h j)) (fst ⟨n, hn'⟩)
        (fun s k => rL_nonpos (args m c) hf _ h s k) (fun r s => blk_6 m c ⟨n, hn'⟩ r s) (fun r s => blk_7 m c ⟨n, hn'⟩ r s)
        (fun i k => head_hx m c hf ⟨n, hn'⟩ h i k) (fun i k => head_hz m c hf ⟨n, hn'⟩ h i k) (fun i j => head_hw m c hf ⟨n, hn'⟩ h i j)
        (fun j k => ih hn' h j k) j k

/-- A grid point's heads, side by side. -/
theorem heads_at (t : Fin cfg0.N) (i : Fin 128) (j : Fin 512) :
    heads (iblk m c 0 t) (iblk m c 1 t) (iblk m c 2 t) (iblk m c 4 t) (iblk m c 6 t) (iblk m c 7 t) (start m c t.val) (ix2 i j)
      = outAt (args m c) (bat t) (pos (fst t + i.val)) j := by
  have hN : cfg0.N = 256 := N_0
  have ht := t.isLt
  have hi := i.isLt
  have hj := j.isLt
  have eh : Fin.ofNat 4 (j.val / 128) = hd j := Fin.ext (by show j.val / 128 % 4 = j.val / 128; omega)
  have ec : col (hd j) (Fin.ofNat 128 j.val) = j := Fin.ext (by show 128 * (j.val / 128) + j.val % 128 = j.val; omega)
  have ep : (pos (fst t + i.val)).val = fst t + i.val := by show (128 * (t.val % 32) + i.val) % 4096 = 128 * (t.val % 32) + i.val; omega
  unfold outAt
  rw [ep]
  have e := headOut_real (iblk m c 6 t) (iblk m c 7 t) (lbOf (iblk m c 4 t) (hd j)) (colsOf (iblk m c 0 t) (hd j)) (colsOf (iblk m c 1 t) (hd j))
        (colsOf (iblk m c 2 t) (hd j)) (slabOf (start m c t.val) (hd j))
        (rQ (args m c) (bat t) (hd j)) (rL (args m c) (bat t) (hd j)) (fun k => rV (args m c) (bat t) (col (hd j) k)) (fst t)
        (fun s k => rL_nonpos (args m c) hf _ (hd j) s k) (fun r s => blk_6 m c t r s) (fun r s => blk_7 m c t r s)
        (fun i k => head_hx m c hf t (hd j) i k) (fun i k => head_hz m c hf t (hd j) i k) (fun i k => head_hw m c hf t (hd j) i k)
        (fun j' k => start_real m c hf t.val t.isLt (hd j) j' k) i (Fin.ofNat 128 j.val)
  simp only [ec] at e
  unfold heads
  show headOut _ _ (lbOf _ (Fin.ofNat 4 (j.val / 128))) (colsOf _ (Fin.ofNat 4 (j.val / 128))) (colsOf _ (Fin.ofNat 4 (j.val / 128)))
    (colsOf _ (Fin.ofNat 4 (j.val / 128))) (slabOf _ (Fin.ofNat 4 (j.val / 128))) (ix2 i (Fin.ofNat 128 j.val)) = _
  rw [eh]
  exact e

/-- A grid point's block of the result. -/
theorem block_at (t : Fin cfg0.N) (i : Fin 128) (j : Fin 512) :
    blockAt m c t (ix3 0 i j) = hgrnAt (args m c) (bat t) (pos (fst t + i.val)) j := by
  unfold blockAt block hgrnAt Cert.TailMath.rms
  rw [gate_at, norm_at, weight_at, blk_3, blk_5]
  simp only [heads_at m c hf]

end

/-- What the result array is shown to hold. -/
def goal (c : Dev nD) : Buf (Elt Ideal) ((c : Thread nD τ).loc main_v15) :=
  fun i : S8x4096x512.Idx => hgrnAt (args m c) (i 0) (i 1) (i 2)

theorem flushed_eq (c : Dev nD) (hf : Finite (args m c)) (t : Fin cfg0.N) :
    (dats m 0 c).flushed 8 t = (win0_8.blk t).view.read (Elt Ideal) (goal m c) := by
  have hN : cfg0.N = 256 := N_0
  have ht := t.isLt
  rw [written]
  funext j
  rw [View.read_apply]
  show blockAt m c t _ = goal m c _
  have hj0 : (j 0).val = 0 := Nat.lt_one_iff.mp (j 0).isLt
  have hj1 : (j 1).val < 128 := (j 1).isLt
  have hj2 : (j 2).val < 512 := (j 2).isLt
  have e := block_at m c hf t ⟨(j 1).val, hj1⟩ ⟨(j 2).val, hj2⟩
  refine Eq.trans ?_ (e.trans ?_)
  · congr 1
    funext a
    apply Fin.ext
    match a with
    | ⟨0, _⟩ => exact hj0
    | ⟨1, _⟩ => rfl
    | ⟨2, _⟩ => rfl
  · unfold goal
    congr 1 <;> apply Fin.ext
    · show t.val / 32 = (BitVec.ofNat 32 (grid0.coords t 0).val).toNat * 1 + 1 * (j 0).val
      rw [(row_at t).1]; omega
    · show (128 * (t.val % 32) + (j 1).val) % 4096 = (BitVec.ofNat 32 (grid0.coords t 1).val).toNat * 128 + 1 * (j 1).val
      rw [(row_at t).2]; omega
    · show (j 2).val = 0 * 512 + 1 * (j 2).val; omega

/-- Every index of the result is in some point's block. -/
theorem cover (i : S8x4096x512.Idx) : ∃ t : Fin cfg0.N, (cfg0.win 8).flush t = true ∧ i ∈ ((cfg0.win 8).blk t).view.set := by
  have i0 : (i 0).val < 8 := (i 0).isLt
  have i1 : (i 1).val < 4096 := (i 1).isLt
  have i2 : (i 2).val < 512 := (i 2).isLt
  have hN : cfg0.N = 256 := N_0
  refine ⟨⟨32 * (i 0).val + (i 1).val / 128, by omega⟩, flush0_8 _, ?_⟩
  generalize ht : (⟨32 * (i 0).val + (i 1).val / 128, by omega⟩ : Fin cfg0.N) = t
  have hv : t.val = 32 * (i 0).val + (i 1).val / 128 := by rw [← ht]
  show i ∈ ((View.whole main_v15).slice (win0_8.rect t)).set
  rw [View.set_slice_whole, Rect.mem_set_unit]
  intro a
  match a with
  | ⟨0, _⟩ =>
    show (BitVec.ofNat 32 (grid0.coords t 0).val).toNat * 1 ≤ (i 0).val ∧ (i 0).val < (BitVec.ofNat 32 (grid0.coords t 0).val).toNat * 1 + 1
    rw [(row_at t).1]; omega
  | ⟨1, _⟩ =>
    show (BitVec.ofNat 32 (grid0.coords t 1).val).toNat * 128 ≤ (i 1).val ∧ (i 1).val < (BitVec.ofNat 32 (grid0.coords t 1).val).toNat * 128 + 128
    rw [(row_at t).2]; omega
  | ⟨2, _⟩ => show 0 * 512 ≤ (i 2).val ∧ (i 2).val < 0 * 512 + 512; omega

/-- The result array ends holding the recurrence's output, normalised and gated. -/
theorem final_o (c : Dev nD) (hf : Finite (args m c)) : (dats m 0 c).arrAt 8 cfg0.N = goal m c :=
  (dats m 0 c).arrAt_eq_of_cover 8 (goal m c) (fun t _ => flushed_eq m c hf t) cover

/-- The run, read: the result array at the goal, the arguments unchanged. -/
theorem run (hf : ∀ c : Dev nD, Finite (args m c)) : θ_run defs (onTc (τ := τ) (main (F := Ideal))) ⟨m, fun _ => 0, ρ⟩ fun r => ∀ c : Dev nD,
      r.2.mem ((c : Thread nD τ).loc main_v15) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_o m c (hf c)), (h c).2⟩) (run_final m ρ)

end Cert.Kernel4Ideal.Hgrn

end
-- ==== Proof.HgrnRef.lean ====
/-
  The linear recurrence's reference: the lower bounds, the gates' logarithms and their running sums, the scores, the
  output, its normalisation and gate, at every place.
-/
module

public import proofs.«01_k».proof.Proof.HgrnGoal
public import proofs.«01_k».proof.Proof.Gen.Reference4Ideal.Run
public import Idealize.ShloMosaic.Lib.WordCmp
public import Idealize.ShloMosaic.Lib.Pointwise

@[expose] public section

set_option maxRecDepth 16384

noncomputable section

open Idealize.ShloMosaic Idealize.ShloMosaic.TcCoe Idealize.SL.Sem Idealize.ShloMosaic.StableHlo

namespace Cert.Reference4Ideal.Hgrn

open Cert.Reference4Ideal Cert.Reference4Ideal.Gen Cert.HgrnMath Cert.AttnMath
open Facts

/-- The softmax numerators of the lower-bound parameters. -/
def r_v6 (x : X) : FVec Ideal S2x512 .f32 :=
  Host.exp (subf (x.gam : FVec Ideal S2x512 .f32) (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf (x.gam : FVec Ideal S2x512 .f32) (constant S_ .f32 0xFF800000#32) reducesTo_S2x512_S512_d0 h_S_)))))

/-- The lower bounds. -/
def r_v13 (x : X) : FVec Ideal S512 .f32 :=
  shapeCast S512 (extractStridedSlice S1x512 ![0, 0] (Host.reduceWindowAdd ![2, 1] ![1, 1] ![1, 0] ![0, 0] (Host.divf (r_v6 x) (broadcastInDim S2x512 ![0, 1] bcast_S1x512_S2x512_0_1 (broadcastInDim S1x512 ![1] bcast_S512_S1x512_1 (Host.reduceAdd (r_v6 x) (constant S_ .f32 0x00000000#32) reducesTo_S2x512_S512_d0 h_S_)))) (broadcastInDim S_ ![] bcast_S_S_ (constant S_ .f32 0x00000000#32)) reduceWindows_S2x512_S2x512_w2s1p1_0_w1s1p0_0 h_S_) slices_S2x512_S1x512_0_0) shapeCasts_S1x512_S512

/-- The queries. -/
def r_v14 (x : X) : FVec Ideal S8x4096x512 .f32 :=
  extf (F := Ideal) (φ := .bf16) .f32 x.q bitsLt_bf16_f32

/-- Minus the gate scores. -/
def r_call2_v0 (x : X) : FVec Ideal S8x4096x512 .f32 :=
  Host.negf (F := Ideal) (φ := .f32) x.f

/-- Zero. -/
def r_call2_call0_cst (x : X) : FVec Ideal S_ .f32 :=
  constant S_ .f32 0x00000000#32

/-- Minus the gate scores, less zero. -/
def r_call2_call0_v3 (x : X) : FVec Ideal S8x4096x512 .f32 :=
  subf (r_call2_v0 x) (broadcastInDim S8x4096x512 ![] bcast_S_S8x4096x512 (r_call2_call0_cst x))

/-- The logarithm of one minus the lower bound, plus the log-sigmoid of the gate score. -/
def r_v22 (x : X) : FVec Ideal S8x4096x512 .f32 :=
  addf (broadcastInDim S8x4096x512 ![0, 1, 2] bcast_S1x1x512_S8x4096x512_0_1_2 (broadcastInDim S1x1x512 ![2] bcast_S512_S1x1x512_2 (Host.log1p (Host.negf (r_v13 x))))) (Host.negf (select (cmpf .une (r_call2_call0_v3 x) (r_call2_call0_v3 x)) (addf (r_call2_v0 x) (broadcastInDim S8x4096x512 ![] bcast_S_S8x4096x512 (r_call2_call0_cst x))) (addf (maximumf (r_call2_v0 x) (broadcastInDim S8x4096x512 ![] bcast_S_S8x4096x512 (r_call2_call0_cst x))) (Host.log1p (Host.exp (Host.negf (Host.absf (r_call2_call0_v3 x))))))))

/-- The logarithm of the lower bound. -/
def r_v23 (x : X) : FVec Ideal S1x1x512 .f32 :=
  broadcastInDim S1x1x512 ![2] bcast_S512_S1x1x512_2 (Host.log (r_v13 x))

/-- The difference of the two logarithms. -/
def r_v27 (x : X) : FVec Ideal S8x4096x512 .f32 :=
  subf (broadcastInDim S8x4096x512 ![0, 1, 2] bcast_S1x1x512_S8x4096x512_0_1_2 (r_v23 x)) (r_v22 x)

/-- The gates' logarithms. -/
def r_v36 (x : X) : FVec Ideal S8x4096x512 .f32 :=
  select (cmpf .une (r_v27 x) (r_v27 x)) (addf (broadcastInDim S8x4096x512 ![0, 1, 2] bcast_S1x1x512_S8x4096x512_0_1_2 (r_v23 x)) (r_v22 x)) (addf (maximumf (broadcastInDim S8x4096x512 ![0, 1, 2] bcast_S1x1x512_S8x4096x512_0_1_2 (r_v23 x)) (r_v22 x)) (Host.log1p (Host.exp (Host.negf (Host.absf (r_v27 x))))))

/-- Their running sums, by head. -/
def r_v48 (x : X) : FVec Ideal S8x4x4096x128 .f32 :=
  Host.reduceWindowAdd ![1, 1, 4096, 1] ![1, 1, 1, 1] ![0, 0, 4095, 0] ![0, 0, 0, 0] (transpose S8x4x4096x128 [0, 2, 1, 3] (shapeCast _ (r_v36 x) shapeCasts_S8x4096x512_S8x4096x4x128) transposes_S8x4096x4x128_S8x4x4096x128_0_2_1_3) (broadcastInDim S_ ![] bcast_S_S_ (constant S_ .f32 0x00000000#32)) reduceWindows_S8x4x4096x128_S8x4x4096x128_w1s1p0_0_w1s1p0_0_w4096s1p4095_0_w1s1p0_0 h_S_

/-- The output gate. -/
def r_v83 (x : X) : FVec Ideal S8x4096x512 .f32 :=
  extf (F := Ideal) (φ := .bf16) .f32 x.g bitsLt_bf16_f32

/-- The queries, keys and values by head. -/
def Qx (x : X) : FVec Ideal S8x4x4096x128 .f32 :=
  (transpose S8x4x4096x128 [0, 2, 1, 3] (shapeCast S8x4096x4x128 (mulf (r_v14 x) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (r_v14 x)))))) shapeCasts_S8x4096x512_S8x4096x4x128) transposes_S8x4096x4x128_S8x4x4096x128_0_2_1_3)

def Kx (x : X) : FVec Ideal S8x4x4096x128 .f32 :=
  (transpose S8x4x4096x128 [0, 2, 1, 3] (shapeCast S8x4096x4x128 (Host.negf (Host.expm1 (r_v36 x))) shapeCasts_S8x4096x512_S8x4096x4x128) transposes_S8x4096x4x128_S8x4x4096x128_0_2_1_3)

def Vx (x : X) : FVec Ideal S8x4x4096x128 .f32 :=
  (transpose S8x4x4096x128 [0, 2, 1, 3] (shapeCast S8x4096x4x128 (extf (F := Ideal) (φ := .bf16) .f32 x.i bitsLt_bf16_f32) shapeCasts_S8x4096x512_S8x4096x4x128) transposes_S8x4096x4x128_S8x4x4096x128_0_2_1_3)

/-- The positions not after each position. -/
def incl : IVec S4096x4096 1 :=
  (select (cmpi .sge (addi (iotaInDim S4096x4096 32 0) (broadcastInDim S4096x4096 ![] bcast_S_S4096x4096 (constantI S_ 32 0#32))) (iotaInDim S4096x4096 32 1)) (broadcastInDim S4096x4096 ![] bcast_S_S4096x4096 (constantI S_ 1 1#1)) (broadcastInDim S4096x4096 ![] bcast_S_S4096x4096 (constantI S_ 1 0#1)))

/-- The decays between positions. -/
def decays (B : FVec Ideal S8x4x4096x128 .f32) : FVec Ideal S8x4x4096x4096x128 .f32 :=
  (select (broadcastInDim S8x4x4096x4096x128 ![2, 3, 4] bcast_S4096x4096x1_S8x4x4096x4096x128_2_3_4 (broadcastInDim S4096x4096x1 ![0, 1] bcast_S4096x4096_S4096x4096x1_0_1 incl)) (Host.exp (minimumf (subf (broadcastInDim S8x4x4096x4096x128 ![0, 1, 2, 3, 4] bcast_S8x4x4096x1x128_S8x4x4096x4096x128_0_1_2_3_4 (broadcastInDim S8x4x4096x1x128 ![0, 1, 2, 4] bcast_S8x4x4096x128_S8x4x4096x1x128_0_1_2_4 B)) (broadcastInDim S8x4x4096x4096x128 ![0, 1, 2, 3, 4] bcast_S8x4x1x4096x128_S8x4x4096x4096x128_0_1_2_3_4 (broadcastInDim S8x4x1x4096x128 ![0, 1, 3, 4] bcast_S8x4x4096x128_S8x4x1x4096x128_0_1_3_4 B))) (broadcastInDim S8x4x4096x4096x128 ![] bcast_S_S8x4x4096x4096x128 (constant S_ .f32 0x00000000#32)))) (broadcastInDim S8x4x4096x4096x128 ![] bcast_S_S8x4x4096x4096x128 (id (constant S_ .f32 0x00000000#32))))

/-- The queries times the decays. -/
def qdec (Q : FVec Ideal S8x4x4096x128 .f32) (D : FVec Ideal S8x4x4096x4096x128 .f32) : FVec Ideal S8x4x4096x4096x128 .f32 :=
  (mulf (broadcastInDim S8x4x4096x4096x128 ![0, 1, 2, 3, 4] bcast_S8x4x4096x1x128_S8x4x4096x4096x128_0_1_2_3_4 (broadcastInDim S8x4x4096x1x128 ![0, 1, 2, 4] bcast_S8x4x4096x128_S8x4x4096x1x128_0_1_2_4 Q)) D)

/-- The scores. -/
def scores (K : FVec Ideal S8x4x4096x128 .f32) (QD : FVec Ideal S8x4x4096x4096x128 .f32) : FVec Ideal S8x4x4096x4096 .f32 :=
  (transpose S8x4x4096x4096 [0, 1, 3, 2] (Host.dotGeneral dot_S8x4x4096x128_S8x4x4096x4096x128_S8x4x4096x4096_3_4_n_2_012_013 none K QD) transposes_S8x4x4096x4096_S8x4x4096x4096_0_1_3_2)

/-- The outputs from the scores. -/
def outsOf (P : FVec Ideal S8x4x4096x4096 .f32) (V : FVec Ideal S8x4x4096x128 .f32) : FVec Ideal S8x4096x512 .f32 :=
  shapeCast S8x4096x512 (transpose S8x4096x4x128 [0, 2, 1, 3] (Host.dotGeneral dot_S8x4x4096x4096_S8x4x4096x128_S8x4x4096x128_3_2_2_3_01_01 none P V) transposes_S8x4x4096x128_S8x4096x4x128_0_2_1_3) shapeCasts_S8x4096x4x128_S8x4096x512

/-- The outputs. -/
def outs (Q K V B : FVec Ideal S8x4x4096x128 .f32) : FVec Ideal S8x4096x512 .f32 := outsOf (scores K (qdec Q (decays B))) V

/-- The normalised and gated outputs. -/
def gated (o : FVec Ideal S8x4096x512 .f32) (w : FVec Ideal S1x512 .f32) (g : FVec Ideal S8x4096x512 .f32) : FVec Ideal S8x4096x512 .bf16 :=
  truncf .bf16 (mulf (mulf (mulf o (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf o o) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 (shapeCast S512 w shapeCasts_S1x512_S512)))) (mulf g (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf g)))))) bitsLt_bf16_f32

/-- The result. -/
def res (x : X) : FVec Ideal S8x4096x512 .bf16 := gated (outs (Qx x) (Kx x) (Vx x) (r_v48 x)) x.w (r_v83 x)

/-- The reference's result is that of its arguments. -/
theorem res_eq (m : (ℓ : Loc nD τ sig) → Buf (Elt Ideal) ℓ) (c : Dev nD) :
    truncf .bf16 (mulf (mulf (mulf (Value.res_main_v68 (launchContents m c)) (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf (Value.res_main_v68 (launchContents m c)) (Value.res_main_v68 (launchContents m c))) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 (shapeCast _ ((launchContents m c) (Proc.devRef .tc main_arg5)) shapeCasts_S1x512_S512)))) (mulf (Value.res_main_v83 (launchContents m c)) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (Value.res_main_v83 (launchContents m c)))))))) bitsLt_bf16_f32
      = res ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5)⟩ := rfl

theorem foldl_add {n : ℕ} (g : Fin n → EReal) (init : EReal) :
    (List.finRange n).foldl (fun r k => r + g k) init = init + ∑ k : Fin n, g k := by
  rw [Fin.sum_univ_def]
  generalize List.finRange n = l
  induction l generalizing init with
  | nil => simp
  | cons a l ih => rw [List.foldl_cons, ih, List.map_cons, List.sum_cons, add_assoc]

/-- The windows' shapes: two rows of one column; one batch, one head, all positions, one coordinate. -/
abbrev W2 : Shape := ⟨2, ![2, 1]⟩
abbrev W4 : Shape := ⟨4, ![1, 1, 4096, 1]⟩

theorem sum_window2 (g : W2.Idx → EReal) : ∑ k : Fin W2.numel, g (W2.rowMajor.symm k) = ∑ s : Fin 2, g (ix2 s (0 : Fin 1)) := by
  rw [Equiv.sum_comp W2.rowMajor.symm g]
  refine (Fintype.sum_equiv ⟨fun s : Fin 2 => (ix2 s (0 : Fin 1) : W2.Idx), fun i => (i 0 : Fin 2), fun _ => rfl, fun i => ?_⟩ _ _ fun _ => rfl).symm
  funext a
  match a with
  | ⟨0, _⟩ => rfl
  | ⟨1, _⟩ => exact Subsingleton.elim (α := Fin 1) _ _

theorem sum_window4 (g : W4.Idx → EReal) : ∑ k : Fin W4.numel, g (W4.rowMajor.symm k) = ∑ s : Fin 4096, g (ix4 (0 : Fin 1) (0 : Fin 1) s (0 : Fin 1)) := by
  rw [Equiv.sum_comp W4.rowMajor.symm g]
  refine (Fintype.sum_equiv ⟨fun s : Fin 4096 => (ix4 (0 : Fin 1) (0 : Fin 1) s (0 : Fin 1) : W4.Idx), fun i => (i 2 : Fin 4096), fun _ => rfl, fun i => ?_⟩ _ _ fun _ => rfl).symm
  funext a
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _

/-- The first of the two rows' running sums is the first row. -/
theorem window2_at (x : S2x512.Idx → EReal) (c : Fin 512) (v : S_.Idx → EReal) (hv : ∀ i, v i = 0) :
    Host.reduceWindowAdd (F := Ideal) (φ := .f32) ![2, 1] ![1, 1] ![1, 0] ![0, 0] x v reduceWindows_S2x512_S2x512_w2s1p1_0_w1s1p0_0 h_S_ (ix2 0 c)
      = x (ix2 0 c) := by
  unfold Host.reduceWindowAdd
  rw [Ideal.hostReduceWindowAdd_def]
  unfold Ideal.hostReduceWindowAdd Host.reduceWindow
  dsimp only
  refine (foldl_add _ _).trans ?_
  rw [hv, zero_add]
  refine Eq.trans (Finset.sum_congr rfl fun k _ => ?_)
    ((sum_window2 (fun w => if 1 ≤ (w 0).val then x (ix2 0 c) else 0)).trans ?_)
  · have h0 : (W2.rowMajor.symm k 0).val < 2 := (W2.rowMajor.symm k 0).isLt
    have h1 : (W2.rowMajor.symm k 1).val = 0 := Nat.lt_one_iff.mp (W2.rowMajor.symm k 1).isLt
    have hc := c.isLt
    by_cases hk : 1 ≤ (W2.rowMajor.symm k 0).val
    · rw [if_pos hk, dif_pos]
      · refine congrArg x (funext fun a => Fin.ext ?_)
        match a with
        | ⟨0, _⟩ => show 0 * 1 + (W2.rowMajor.symm k 0).val - 1 = 0; omega
        | ⟨1, _⟩ => show c.val * 1 + (W2.rowMajor.symm k 1).val - 0 = c.val; omega
      · intro a
        match a with
        | ⟨0, _⟩ => show 1 ≤ 0 * 1 + (W2.rowMajor.symm k 0).val ∧ 0 * 1 + (W2.rowMajor.symm k 0).val - 1 < 2; omega
        | ⟨1, _⟩ => show 0 ≤ c.val * 1 + (W2.rowMajor.symm k 1).val ∧ c.val * 1 + (W2.rowMajor.symm k 1).val - 0 < 512; omega
    · rw [if_neg hk, dif_neg]
      intro hin
      have h3 : 1 ≤ 0 * 1 + (W2.rowMajor.symm k 0).val ∧ 0 * 1 + (W2.rowMajor.symm k 0).val - 1 < 2 := hin 0
      omega
  · rw [Fin.sum_univ_two, if_neg (by show ¬ (1 ≤ 0); omega), if_pos (by show 1 ≤ 1; omega), zero_add]

/-- The running sum at position `t`: the sum of the entries up to `t`. -/
theorem window4_at (x : S8x4x4096x128.Idx → EReal) (b : Fin 8) (h : Fin 4) (t : Fin 4096) (k : Fin 128) (v : S_.Idx → EReal) (hv : ∀ i, v i = 0)
    (f : ℕ → EReal) (hf : ∀ s : Fin 4096, x (ix4 b h s k) = f s.val) :
    Host.reduceWindowAdd (F := Ideal) (φ := .f32) ![1, 1, 4096, 1] ![1, 1, 1, 1] ![0, 0, 4095, 0] ![0, 0, 0, 0] x v
        reduceWindows_S8x4x4096x128_S8x4x4096x128_w1s1p0_0_w1s1p0_0_w4096s1p4095_0_w1s1p0_0 h_S_ (ix4 b h t k)
      = ∑ s ∈ Finset.range (t.val + 1), f s := by
  unfold Host.reduceWindowAdd
  rw [Ideal.hostReduceWindowAdd_def]
  unfold Ideal.hostReduceWindowAdd Host.reduceWindow
  dsimp only
  refine (foldl_add _ _).trans ?_
  rw [hv, zero_add]
  have ht := t.isLt
  refine Eq.trans (Finset.sum_congr rfl fun w _ => ?_)
    ((sum_window4 (fun w => if 4095 ≤ t.val + (w 2).val then f (t.val + (w 2).val - 4095) else 0)).trans ?_)
  · have h0 : (W4.rowMajor.symm w 0).val = 0 := Nat.lt_one_iff.mp (W4.rowMajor.symm w 0).isLt
    have h1 : (W4.rowMajor.symm w 1).val = 0 := Nat.lt_one_iff.mp (W4.rowMajor.symm w 1).isLt
    have h2 : (W4.rowMajor.symm w 2).val < 4096 := (W4.rowMajor.symm w 2).isLt
    have h3 : (W4.rowMajor.symm w 3).val = 0 := Nat.lt_one_iff.mp (W4.rowMajor.symm w 3).isLt
    have hb := b.isLt
    have hh := h.isLt
    have hk := k.isLt
    by_cases hw : 4095 ≤ t.val + (W4.rowMajor.symm w 2).val
    · rw [if_pos hw, dif_pos]
      · refine Eq.trans (congrArg x (funext fun a => Fin.ext ?_)) (hf ⟨t.val + (W4.rowMajor.symm w 2).val - 4095, by omega⟩)
        match a with
        | ⟨0, _⟩ => show b.val * 1 + (W4.rowMajor.symm w 0).val - 0 = b.val; omega
        | ⟨1, _⟩ => show h.val * 1 + (W4.rowMajor.symm w 1).val - 0 = h.val; omega
        | ⟨2, _⟩ => show t.val * 1 + (W4.rowMajor.symm w 2).val - 4095 = t.val + (W4.rowMajor.symm w 2).val - 4095; omega
        | ⟨3, _⟩ => show k.val * 1 + (W4.rowMajor.symm w 3).val - 0 = k.val; omega
      · intro a
        match a with
        | ⟨0, _⟩ => show 0 ≤ b.val * 1 + (W4.rowMajor.symm w 0).val ∧ b.val * 1 + (W4.rowMajor.symm w 0).val - 0 < 8; omega
        | ⟨1, _⟩ => show 0 ≤ h.val * 1 + (W4.rowMajor.symm w 1).val ∧ h.val * 1 + (W4.rowMajor.symm w 1).val - 0 < 4; omega
        | ⟨2, _⟩ => show 4095 ≤ t.val * 1 + (W4.rowMajor.symm w 2).val ∧ t.val * 1 + (W4.rowMajor.symm w 2).val - 4095 < 4096; omega
        | ⟨3, _⟩ => show 0 ≤ k.val * 1 + (W4.rowMajor.symm w 3).val ∧ k.val * 1 + (W4.rowMajor.symm w 3).val - 0 < 128; omega
    · rw [if_neg hw, dif_neg]
      intro hin
      have h3 : 4095 ≤ t.val * 1 + (W4.rowMajor.symm w 2).val ∧ t.val * 1 + (W4.rowMajor.symm w 2).val - 4095 < 4096 := hin 2
      omega
  · show ∑ s : Fin 4096, (if 4095 ≤ t.val + s.val then f (t.val + s.val - 4095) else 0) = _
    rw [Fin.sum_univ_eq_sum_range (fun s => if 4095 ≤ t.val + s then f (t.val + s - 4095) else 0) 4096,
      ← Finset.sum_range_add_sum_Ico _ (show 4095 - t.val ≤ 4096 by omega), Finset.sum_Ico_eq_sum_range,
      Finset.sum_eq_zero (fun s hs => by rw [Finset.mem_range] at hs; rw [if_neg (by omega)]), zero_add,
      show 4096 - (4095 - t.val) = t.val + 1 by omega]
    refine Finset.sum_congr rfl fun s _ => ?_
    rw [if_pos (by omega)]
    exact congrArg f (by omega)

/-! ## At a place -/

theorem lb_at (x : X) (c : Fin 512) : r_v13 x (ix1 c) = lbE x.gam c := by
  unfold r_v13
  pointwise
  rw [window2_at _ _ _ (fun i => by pointwise)]
  unfold r_v6 lbE
  pointwise
  simp only [fold_two, Fin.sum_univ_two]
  rw [show Ideal.ofBits .f32 4286578688#32 = ⊥ from ofBits_neg_inf]
  simp only [max_bot_left]

theorem v22_at (x : X) (b : Fin 8) (t : Fin 4096) (c : Fin 512) :
    r_v22 x (ix3 b t c) = Ideal.log1p (0 - lbE x.gam c) + lsE (x.f (ix3 b t c)) := by
  rw [← lsE_eq, ← lb_at]
  unfold r_v22 r_call2_call0_v3 r_call2_v0 r_call2_call0_cst spE
  generalize r_v13 x = l
  pointwise
  simp only [zero_sub]
  rw [if_neg (by simp)]
  rfl

theorem logF_at (x : X) (b : Fin 8) (t : Fin 4096) (c : Fin 512) : r_v36 x (ix3 b t c) = logE x b t c := by
  unfold logE logfE
  rw [← v22_at, ← lb_at]
  unfold r_v36 r_v27 r_v23 laeE
  generalize r_v13 x = l
  generalize r_v22 x = u
  pointwise
  simp only [zero_sub]
  rw [if_neg (by simp)]
  rfl

theorem heads_at (u : FVec Ideal S8x4096x512 .f32) (b : Fin 8) (h : Fin 4) (t : Fin 4096) (k : Fin 128) :
    transpose S8x4x4096x128 [0, 2, 1, 3] (shapeCast S8x4096x4x128 u shapeCasts_S8x4096x512_S8x4096x4x128) transposes_S8x4096x4x128_S8x4x4096x128_0_2_1_3 (ix4 b h t k)
      = u (ix3 b t (col h k)) := by
  pointwise
  refine congrArg (fun a => u (ix3 b t a)) (Fin.ext ?_)
  show h.val * 128 + k.val = 128 * h.val + k.val
  omega

theorem Qx_at (x : X) (b : Fin 8) (h : Fin 4) (t : Fin 4096) (k : Fin 128) : Qx x (ix4 b h t k) = qE x b t (col h k) := by
  unfold Qx
  rw [heads_at]
  unfold r_v14 qE
  pointwise
  rfl

theorem Kx_at (x : X) (b : Fin 8) (h : Fin 4) (t : Fin 4096) (k : Fin 128) : Kx x (ix4 b h t k) = -(Ideal.exp (logE x b t (col h k)) - 1) := by
  unfold Kx
  rw [heads_at, ← logF_at]
  generalize r_v36 x = l
  pointwise
  try rfl

theorem Vx_at (x : X) (b : Fin 8) (h : Fin 4) (t : Fin 4096) (k : Fin 128) : Vx x (ix4 b h t k) = x.i (ix3 b t (col h k)) := by
  unfold Vx
  rw [heads_at]
  rfl

theorem incl_at (t s : Fin 4096) : incl (ix2 t s) = if s.val ≤ t.val then 1#1 else 0#1 := by
  have ht := t.isLt
  have hs := s.isLt
  unfold incl
  pointwise
  rw [WordCmp.addi_ofNat, WordCmp.cmpi_sge_ofNat (by omega) (by omega)]
  by_cases h : s.val ≤ t.val <;> simp [h, Scalar.select]

theorem decays_at (B : FVec Ideal S8x4x4096x128 .f32) (b : Fin 8) (h : Fin 4) (t s : Fin 4096) (k : Fin 128) :
    decays B (ix5 b h t s k) = if s.val ≤ t.val then Ideal.exp (min (B (ix4 b h t k) - B (ix4 b h s k)) 0) else 0 := by
  unfold decays
  have e := incl_at t s
  generalize incl = u at e
  pointwise
  rw [e]
  by_cases h : s.val ≤ t.val
  · rw [if_pos h, if_pos h]; rfl
  · rw [if_neg h, if_neg h]; exact Ideal.ofBits_zero_f32

theorem qdec_at (Q : FVec Ideal S8x4x4096x128 .f32) (D : FVec Ideal S8x4x4096x4096x128 .f32) (b : Fin 8) (h : Fin 4) (t s : Fin 4096) (k : Fin 128) :
    qdec Q D (ix5 b h t s k) = Q (ix4 b h t k) * D (ix5 b h t s k) := by
  unfold qdec
  pointwise

theorem scores_at (K : FVec Ideal S8x4x4096x128 .f32) (QD : FVec Ideal S8x4x4096x4096x128 .f32) (b : Fin 8) (h : Fin 4) (t s : Fin 4096) :
    scores K QD (ix4 b h t s) = ∑ k : Fin 128, K (ix4 b h s k) * QD (ix5 b h t s k) := by
  unfold scores
  pointwise

theorem outsOf_at (P : FVec Ideal S8x4x4096x4096 .f32) (V : FVec Ideal S8x4x4096x128 .f32) (b : Fin 8) (h : Fin 4) (t : Fin 4096) (k : Fin 128) :
    outsOf P V (ix3 b t (col h k)) = ∑ s : Fin 4096, P (ix4 b h t s) * V (ix4 b h s k) := by
  have hk := k.isLt
  unfold outsOf
  pointwise
  have e1 : ∀ hp, (⟨(128 * h.val + k.val) / 128, hp⟩ : Fin 4) = h := fun _ => Fin.ext (by show (128 * h.val + k.val) / 128 = h.val; omega)
  have e2 : ∀ hp, (⟨(128 * h.val + k.val) % 128, hp⟩ : Fin 128) = k := fun _ => Fin.ext (by show (128 * h.val + k.val) % 128 = k.val; omega)
  simp only [e1, e2]

theorem gated_at (o : FVec Ideal S8x4096x512 .f32) (w : FVec Ideal S1x512 .f32) (g : FVec Ideal S8x4096x512 .f32) (b : Fin 8) (t : Fin 4096) (c : Fin 512) :
    gated o w g (ix3 b t c) = Cert.TailMath.rms n512 (fun j => o (ix3 b t j)) (fun j => w (ix2 0 j)) c * (g (ix3 b t c) * Ideal.logistic (g (ix3 b t c))) := by
  unfold gated Cert.TailMath.rms n512 Cert.TailMath.eps Ideal.logistic
  pointwise

theorem pos_val (s : Fin 4096) : pos s.val = s := Fin.ext (Nat.mod_eq_of_lt s.isLt)

section
variable (x : X) (hf : Finite x)
include hf

theorem logE_val (b : Fin 8) (h : Fin 4) (s : Fin 4096) (k : Fin 128) : logE x b s (col h k) = ((rL x b h s.val k : ℝ) : EReal) := by
  rw [← logE_eq x hf, pos_val]

theorem qE_val (b : Fin 8) (h : Fin 4) (s : Fin 4096) (k : Fin 128) : qE x b s (col h k) = ((rQ x b h s.val k : ℝ) : EReal) := by
  rw [← qE_eq x hf, pos_val]

theorem i_val (b : Fin 8) (c : Fin 512) (s : Fin 4096) : x.i (ix3 b s c) = ((rV x b c s.val : ℝ) : EReal) := by
  rw [← i_eq x hf, pos_val]

theorem B_at (b : Fin 8) (h : Fin 4) (t : Fin 4096) (k : Fin 128) : r_v48 x (ix4 b h t k) = ((cum (rL x b h) (t.val + 1) k : ℝ) : EReal) := by
  unfold r_v48
  refine (window4_at _ b h t k _ (fun i => by pointwise) (fun s => ((rL x b h s k : ℝ) : EReal)) (fun s => ?_)).trans ?_
  · rw [heads_at, logF_at, logE_val x hf]
  · unfold cum; rw [coe_sum]

/-- The score of two positions: the recurrence's where the second is not after the first, zero elsewhere. -/
theorem score_at (b : Fin 8) (h : Fin 4) (t s : Fin 4096) :
    scores (Kx x) (qdec (Qx x) (decays (r_v48 x))) (ix4 b h t s)
      = if s.val ≤ t.val then ((HgrnMath.score (rQ x b h) (rK x b h) (rL x b h) t.val s.val : ℝ) : EReal) else 0 := by
  rw [scores_at]
  simp only [qdec_at, decays_at, Qx_at, Kx_at, B_at x hf, logE_val x hf, qE_val x hf]
  by_cases hst : s.val ≤ t.val
  · simp only [if_pos hst]
    unfold HgrnMath.score
    rw [coe_sum]
    refine Finset.sum_congr rfl fun k _ => ?_
    have hc := cum_anti (rL x b h) (fun s k => rL_nonpos x hf b h s k) (s.val + 1) (t.val + 1) (by omega) k
    have e : min (((cum (rL x b h) (t.val + 1) k : ℝ) : EReal) - ((cum (rL x b h) (s.val + 1) k : ℝ) : EReal)) 0
        = ((cum (rL x b h) (t.val + 1) k - cum (rL x b h) (s.val + 1) k : ℝ) : EReal) := by
      rw [← EReal.coe_sub]
      apply min_eq_left
      rw [← EReal.coe_zero, EReal.coe_le_coe_iff]
      linarith
    rw [e, exp_coe, exp_coe, ← EReal.coe_one, ← EReal.coe_sub, ← EReal.coe_neg, ← EReal.coe_mul, ← EReal.coe_mul]
    congr 1
    unfold rK
    ring
  · simp only [if_neg hst, mul_zero, Finset.sum_const_zero]

theorem out_at (b : Fin 8) (h : Fin 4) (t : Fin 4096) (k : Fin 128) :
    outs (Qx x) (Kx x) (Vx x) (r_v48 x) (ix3 b t (col h k))
      = ((outR (rQ x b h) (rK x b h) (rL x b h) (rV x b (col h k)) t.val : ℝ) : EReal) := by
  have ht := t.isLt
  unfold outs
  rw [outsOf_at]
  simp only [score_at x hf, Vx_at, i_val x hf]
  unfold outR
  rw [coe_sum]
  rw [Fin.sum_univ_eq_sum_range (fun s => (if s ≤ t.val then ((HgrnMath.score (rQ x b h) (rK x b h) (rL x b h) t.val s : ℝ) : EReal) else 0)
    * ((rV x b (col h k) s : ℝ) : EReal)) 4096]
  symm
  rw [← Finset.sum_range_add_sum_Ico _ (show t.val + 1 ≤ 4096 by omega)]
  rw [Finset.sum_eq_zero (s := Finset.Ico (t.val + 1) 4096) (fun s hs => by rw [Finset.mem_Ico] at hs; rw [if_neg (by omega), zero_mul]), add_zero]
  refine Finset.sum_congr rfl fun s hs => ?_
  rw [Finset.mem_range] at hs
  rw [if_pos (by omega), EReal.coe_mul]

theorem outs_at (b : Fin 8) (t : Fin 4096) (c : Fin 512) : outs (Qx x) (Kx x) (Vx x) (r_v48 x) (ix3 b t c) = outAt x b t c := by
  have hc := c.isLt
  have e := out_at x hf b (hd c) t ⟨c.val % 128, by omega⟩
  have ec : col (hd c) ⟨c.val % 128, by omega⟩ = c := Fin.ext (by show 128 * (c.val / 128) + c.val % 128 = c.val; omega)
  rw [ec] at e
  exact e

/-- The reference's result at a place. -/
theorem res_at (b : Fin 8) (t : Fin 4096) (c : Fin 512) : res x (ix3 b t c) = hgrnAt x b t c := by
  unfold res hgrnAt
  rw [gated_at]
  simp only [outs_at x hf]
  rfl

end

end Cert.Reference4Ideal.Hgrn

end
-- ==== Proof.Hgrn.lean ====
/-
  The linear recurrence's claims: the frames, and the equality of the kernel's and the reference's results.
-/
module

public import proofs.«01_k».proof.Defs
public import proofs.«01_k».proof.Proof.HgrnValue
public import proofs.«01_k».proof.Proof.HgrnRef
public import proofs.«01_k».proof.Proof.HgrnBitsFrame
public import proofs.«01_k».proof.Proof.Attn
public import proofs.«01_k».proof.Proof.Gen.Pre_finite_inputs
public import Idealize.ShloMosaic.Lib.ReduceAll

@[expose] public section

set_option maxRecDepth 16384

noncomputable section

open Idealize.ShloMosaic Idealize.ShloMosaic.TcCoe Idealize.SL.Sem

namespace Cert.Hgrn

open Cert.HgrnMath Cert.Attn

instance : Subsingleton Cert.Pre_finite_inputs.S_.Idx := ⟨fun a b => funext fun x => x.elim0⟩

/-- The precondition says that every query, every value and every lower-bound parameter is finite. -/
theorem finite_of_pre (x : X) (h : Cert.Pre_finite_inputs.fn (F := Ideal) x.q x.f x.i x.g x.gam x.w = fun _ => 1#1) : Finite x := by
  have h0 := congrFun h ix0
  unfold Cert.Pre_finite_inputs.fn at h0
  dsimp only at h0
  obtain ⟨hab, hc⟩ := andi_one _ _ h0
  obtain ⟨ha, hb⟩ := andi_one _ _ hab
  refine ⟨fun i => real_of_lt _ ?_, fun i => real_of_lt _ ?_, fun i => real_of_lt _ ?_⟩
  · have e := Host.reduce_andi_all _ _ _ _ _ ha i
    revert e
    pointwise
    exact below_top _
  · have e := Host.reduce_andi_all _ _ _ _ _ hb i
    revert e
    pointwise
    exact below_top _
  · have e := Host.reduce_andi_all _ _ _ _ _ hc i
    revert e
    pointwise
    exact below_top _

/-! ## The claims -/

theorem kernel_frame : Cert.quiescent_Kernel4 := fun m ρ _ => Cert.Kernel4.Hgrn.frame m ρ

theorem kernelIdeal_frame : Cert.quiescent_Kernel4Ideal := fun m ρ _ => Cert.Kernel4Ideal.Hgrn.frame m ρ

theorem kernelIdeal_frame_finite : Cert.quiescent_Kernel4Ideal_pre_finite_inputs := fun m ρ _ => Cert.Kernel4Ideal.Hgrn.frame m ρ

theorem referenceIdeal_frame : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem referenceIdeal_frame_finite : Cert.quiescent_Reference4Ideal_pre_finite_inputs := fun m ρ _ => referenceIdeal_frame m ρ trivial

/-- **The value claim**: from finite queries, values and lower-bound parameters the kernel's result is the reference's. -/
theorem value : Cert.algebraic_Kernel4Ideal_Reference4Ideal_pre_finite_inputs := by
  intro m ρ m' ρ' hpre hagree
  have hf := fun c => finite_of_pre (Cert.Kernel4Ideal.Hgrn.args m c) (hpre c)
  refine ⟨fun c => Cert.Kernel4Ideal.Hgrn.goal m c, Cert.Kernel4Ideal.Hgrn.run m ρ hf, ?_⟩
  refine (θ_run Cert.Reference4Ideal.defs _ _).mono (fun r h c => ⟨(h c).1.trans ?_, (h c).2⟩) (Cert.Reference4Ideal.Value.run (F := Ideal) m' ρ')
  obtain ⟨h0, h1, h2, h3, h4, h5⟩ := hagree c
  rw [Cert.Reference4Ideal.Hgrn.res_eq, h0, h1, h2, h3, h4, h5]
  funext i
  rw [eq_ix3 i]
  exact Cert.Reference4Ideal.Hgrn.res_at (Cert.Kernel4Ideal.Hgrn.args m c) (hf c) _ _ _

end Cert.Hgrn

end
-- ==== Proof.lean ====
/-
  The proof of `Cert.Claim`. Each call's own claims are proved in its module: `Proof/Attn.lean` for the stick-breaking attention, `Proof/Tail.lean` for the layer's tail, `Proof/Inproj.lean` for the mixers' input projection, `Proof/Hgrn.lean` for the linear recurrence.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Pre_finite
public import proofs.«01_k».proof.Proof.Gen.Pre_finite_inputs
public import proofs.«01_k».proof.Proof.Attn
public import proofs.«01_k».proof.Proof.Tail
public import proofs.«01_k».proof.Proof.Inproj
public import proofs.«01_k».proof.Proof.Hgrn

@[expose] public section

noncomputable section

namespace Cert.Proof

/-- Everything claimed: the side conditions of the programs, then for each program that it runs and leaves its arguments
    unchanged, then for each call that its ideal form is the kernel's own and that its results are the reference's. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, Cert.Pre_finite_inputs.Gen.facts,
  Cert.Attn.kernel_frame,
  Cert.Attn.kernelIdeal_frame,
  Cert.Attn.kernelIdeal_frame_finite,
  Cert.Attn.referenceIdeal_frame,
  Cert.Attn.referenceIdeal_frame_finite,
  Cert.Tail.kernel_frame,
  Cert.Tail.kernelIdeal_frame,
  Cert.Tail.referenceIdeal_frame,
  Cert.Inproj.kernel_frame,
  Cert.Inproj.kernelIdeal_frame,
  Cert.Inproj.referenceIdeal_frame,
  Cert.Hgrn.kernel_frame,
  Cert.Hgrn.kernelIdeal_frame,
  Cert.Hgrn.kernelIdeal_frame_finite,
  Cert.Hgrn.referenceIdeal_frame,
  Cert.Hgrn.referenceIdeal_frame_finite,
  trivial,
  Cert.Attn.value,
  trivial,
  Cert.Tail.value,
  trivial,
  Cert.Inproj.value,
  trivial,
  Cert.Hgrn.value⟩

end Cert.Proof

end
